-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v8) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)) (v3 : (c : Dev Cert.Kernel21Ideal.nD) → Buf (Elt Ideal) ((c.tc : Thread Cert.Kernel21Ideal.nD Cert.Kernel21Ideal.τ).loc Cert.Kernel21Ideal.main_v3_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_v3_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v28) = v1 c
          ∧ r.2.mem ((c.tc : Thread Cert.Reference21Ideal.nD Cert.Reference21Ideal.τ).loc Cert.Reference21Ideal.main_v9) = v2 c
          ∧ r.2.mem ((c.tc : Thread Cert.Reference21Ideal.nD Cert.Reference21Ideal.τ).loc Cert.Reference21Ideal.main_v15) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v28) = v1 c
          ∧ r.2.mem ((c.tc : Thread Cert.Reference22Ideal.nD Cert.Reference22Ideal.τ).loc Cert.Reference22Ideal.main_v9) = v2 c
          ∧ r.2.mem ((c.tc : Thread Cert.Reference22Ideal.nD Cert.Reference22Ideal.τ).loc Cert.Reference22Ideal.main_v15) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v3_0)) (v1 : (c : Dev Cert.Kernel23Ideal.nD) → Buf (Elt Ideal) ((c.tc : Thread Cert.Kernel23Ideal.nD Cert.Kernel23Ideal.τ).loc Cert.Kernel23Ideal.main_v3_1)) (v2 : (c : Dev Cert.Kernel23Ideal.nD) → Buf (Elt Ideal) ((c.tc : Thread Cert.Kernel23Ideal.nD Cert.Kernel23Ideal.τ).loc Cert.Kernel23Ideal.main_v3_2)) (v3 : (c : Dev Cert.Kernel23Ideal.nD) → Buf (Elt Ideal) ((c.tc : Thread Cert.Kernel23Ideal.nD Cert.Kernel23Ideal.τ).loc Cert.Kernel23Ideal.main_v3_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3_0) = v0 c
          ∧ r.2.mem ((c.tc : Thread Cert.Kernel23Ideal.nD Cert.Kernel23Ideal.τ).loc Cert.Kernel23Ideal.main_v3_1) = v1 c
          ∧ r.2.mem ((c.tc : Thread Cert.Kernel23Ideal.nD Cert.Kernel23Ideal.τ).loc Cert.Kernel23Ideal.main_v3_2) = v2 c
          ∧ r.2.mem ((c.tc : Thread Cert.Kernel23Ideal.nD Cert.Kernel23Ideal.τ).loc Cert.Kernel23Ideal.main_v3_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)) (v3 : (c : Dev Cert.Kernel24Ideal.nD) → Buf (Elt Ideal) ((c.tc : Thread Cert.Kernel24Ideal.nD Cert.Kernel24Ideal.τ).loc Cert.Kernel24Ideal.main_v3_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_v3_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v7) = v2 c
          ∧ r.2.mem ((c.tc : Thread Cert.Reference25Ideal.nD Cert.Reference25Ideal.τ).loc Cert.Reference25Ideal.main_v13) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v3_0)) (v1 : (c : Dev Cert.Kernel26Ideal.nD) → Buf (Elt Ideal) ((c.tc : Thread Cert.Kernel26Ideal.nD Cert.Kernel26Ideal.τ).loc Cert.Kernel26Ideal.main_v3_1)) (v2 : (c : Dev Cert.Kernel26Ideal.nD) → Buf (Elt Ideal) ((c.tc : Thread Cert.Kernel26Ideal.nD Cert.Kernel26Ideal.τ).loc Cert.Kernel26Ideal.main_v3_2)) (v3 : (c : Dev Cert.Kernel26Ideal.nD) → Buf (Elt Ideal) ((c.tc : Thread Cert.Kernel26Ideal.nD Cert.Kernel26Ideal.τ).loc Cert.Kernel26Ideal.main_v3_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3_0) = v0 c
          ∧ r.2.mem ((c.tc : Thread Cert.Kernel26Ideal.nD Cert.Kernel26Ideal.τ).loc Cert.Kernel26Ideal.main_v3_1) = v1 c
          ∧ r.2.mem ((c.tc : Thread Cert.Kernel26Ideal.nD Cert.Kernel26Ideal.τ).loc Cert.Kernel26Ideal.main_v3_2) = v2 c
          ∧ r.2.mem ((c.tc : Thread Cert.Kernel26Ideal.nD Cert.Kernel26Ideal.τ).loc Cert.Kernel26Ideal.main_v3_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v29) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_v16) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v3_0)) (v1 : (c : Dev Cert.Kernel27Ideal.nD) → Buf (Elt Ideal) ((c.tc : Thread Cert.Kernel27Ideal.nD Cert.Kernel27Ideal.τ).loc Cert.Kernel27Ideal.main_v3_1)) (v2 : (c : Dev Cert.Kernel27Ideal.nD) → Buf (Elt Ideal) ((c.tc : Thread Cert.Kernel27Ideal.nD Cert.Kernel27Ideal.τ).loc Cert.Kernel27Ideal.main_v3_2)) (v3 : (c : Dev Cert.Kernel27Ideal.nD) → Buf (Elt Ideal) ((c.tc : Thread Cert.Kernel27Ideal.nD Cert.Kernel27Ideal.τ).loc Cert.Kernel27Ideal.main_v3_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3_0) = v0 c
          ∧ r.2.mem ((c.tc : Thread Cert.Kernel27Ideal.nD Cert.Kernel27Ideal.τ).loc Cert.Kernel27Ideal.main_v3_1) = v1 c
          ∧ r.2.mem ((c.tc : Thread Cert.Kernel27Ideal.nD Cert.Kernel27Ideal.τ).loc Cert.Kernel27Ideal.main_v3_2) = v2 c
          ∧ r.2.mem ((c.tc : Thread Cert.Kernel27Ideal.nD Cert.Kernel27Ideal.τ).loc Cert.Kernel27Ideal.main_v3_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v29) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_v16) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Kernel.lean ====
abbrev S2x16x2048x64 : Shape := ⟨4, ![2, 16, 2048, 64]⟩
abbrev S1x64 : Shape := ⟨2, ![1, 64]⟩
abbrev S64 : Shape := ⟨1, ![64]⟩
abbrev S_ : Shape := ⟨0, ![]⟩
abbrev S2x16x2048 : Shape := ⟨3, ![2, 16, 2048]⟩
abbrev S2x16x2048x1 : Shape := ⟨4, ![2, 16, 2048, 1]⟩
abbrev S1x1x1x64 : Shape := ⟨4, ![1, 1, 1, 64]⟩
abbrev S2x16x2048x2048 : Shape := ⟨4, ![2, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x64 : Shape := ⟨4, ![1, 1, 2048, 64]⟩
abbrev S1x1x2048x1 : Shape := ⟨4, ![1, 1, 2048, 1]⟩
abbrev S2048x64 : Shape := ⟨2, ![2048, 64]⟩
abbrev S128x128 : Shape := ⟨2, ![128, 128]⟩
abbrev S512x512 : Shape := ⟨2, ![512, 512]⟩
abbrev S512x64 : Shape := ⟨2, ![512, 64]⟩
abbrev S1x1x512x64 : Shape := ⟨4, ![1, 1, 512, 64]⟩
abbrev S1x1x512x1 : Shape := ⟨4, ![1, 1, 512, 1]⟩
abbrev S512x1 : Shape := ⟨2, ![512, 1]⟩
abbrev S512x128 : Shape := ⟨2, ![512, 128]⟩
abbrev S512 : Shape := ⟨1, ![512]⟩

abbrev nBuf : Space → Nat
  | .hbm => 81
  | .vmem => 25
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x64, .f32⟩
  | .hbm, ⟨4, _⟩ => ⟨S1x64, .f32⟩
  | .hbm, ⟨5, _⟩ => ⟨S2x16x2048x64, .f32⟩
  | .hbm, ⟨6, _⟩ => ⟨S64, .f32⟩
  | .hbm, ⟨7, _⟩ => ⟨S64, .f32⟩
  | .hbm, ⟨8, _⟩ => ⟨S2x16x2048x64, .f32⟩
  | .hbm, ⟨9, _⟩ => ⟨S_, .f32⟩
  | .hbm, ⟨10, _⟩ => ⟨S2x16x2048, .f32⟩
  | .hbm, ⟨11, _⟩ => ⟨S2x16x2048x1, .f32⟩
  | .hbm, ⟨12, _⟩ => ⟨S_, .f32⟩
  | .hbm, ⟨13, _⟩ => ⟨S2x16x2048x1, .f32⟩
  | .hbm, ⟨14, _⟩ => ⟨S2x16x2048x1, .f32⟩
  | .hbm, ⟨15, _⟩ => ⟨S_, .f32⟩
  | .hbm, ⟨16, _⟩ => ⟨S2x16x2048x1, .f32⟩
  | .hbm, ⟨17, _⟩ => ⟨S2x16x2048x1, .f32⟩
  | .hbm, ⟨18, _⟩ => ⟨S2x16x2048x1, .f32⟩
  | .hbm, ⟨19, _⟩ => ⟨S2x16x2048x64, .f32⟩
  | .hbm, ⟨20, _⟩ => ⟨S2x16x2048x64, .f32⟩
  | .hbm, ⟨21, _⟩ => ⟨S1x1x1x64, .f32⟩
  | .hbm, ⟨22, _⟩ => ⟨S2x16x2048x64, .f32⟩
  | .hbm, ⟨23, _⟩ => ⟨S2x16x2048x64, .f32⟩
  | .hbm, ⟨24, _⟩ => ⟨S2x16x2048x64, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S_, .f32⟩
  | .hbm, ⟨29, _⟩ => ⟨S2x16x2048x1, .f32⟩
  | .hbm, ⟨30, _⟩ => ⟨S2x16x2048x1, .f32⟩
  | .hbm, ⟨31, _⟩ => ⟨S_, .f32⟩
  | .hbm, ⟨32, _⟩ => ⟨S2x16x2048x1, .f32⟩
  | .hbm, ⟨33, _⟩ => ⟨S2x16x2048x1, .f32⟩
  | .hbm, ⟨34, _⟩ => ⟨S2x16x2048x1, .f32⟩
  | .hbm, ⟨35, _⟩ => ⟨S2x16x2048x64, .f32⟩
  | .hbm, ⟨36, _⟩ => ⟨S2x16x2048x64, .f32⟩
  | .hbm, ⟨37, _⟩ => ⟨S1x1x1x64, .f32⟩
  | .hbm, ⟨38, _⟩ => ⟨S2x16x2048x64, .f32⟩
  | .hbm, ⟨39, _⟩ => ⟨S2x16x2048x64, .f32⟩
  | .hbm, ⟨40, _⟩ => ⟨S2x16x2048x2048, .f32⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S2048, .i32⟩
  | .hbm, ⟨45, _⟩ => ⟨S1x2048, .i32⟩
  | .hbm, ⟨46, _⟩ => ⟨S2048, .i32⟩
  | .hbm, ⟨47, _⟩ => ⟨S2048x1, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S2x16x2048x2048, .f32⟩
  | .hbm, ⟨52, _⟩ => ⟨S2x16x2048x2048, .f32⟩
  | .hbm, ⟨53, _⟩ => ⟨S_, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .i1⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S2x16x2048x2048, .f32⟩
  | .hbm, ⟨66, _⟩ => ⟨S2x16x2048x2048, .f32⟩
  | .hbm, ⟨67, _⟩ => ⟨S2x16x2048x2048, .f32⟩
  | .hbm, ⟨68, _⟩ => ⟨S_, .f32⟩
  | .hbm, ⟨69, _⟩ => ⟨S_, .f32⟩
  | .hbm, ⟨70, _⟩ => ⟨S2x16x2048x2048, .i1⟩
  | .hbm, ⟨71, _⟩ => ⟨S2x16x2048x2048, .f32⟩
  | .hbm, ⟨72, _⟩ => ⟨S2x16x2048x2048, .f32⟩
  | .hbm, ⟨73, _⟩ => ⟨S_, .f32⟩
  | .hbm, ⟨74, _⟩ => ⟨S2x16x2048, .f32⟩
  | .hbm, ⟨75, _⟩ => ⟨S2x16x2048x1, .f32⟩
  | .hbm, ⟨76, _⟩ => ⟨S2x16x2048x64, .f32⟩
  | .hbm, ⟨77, _⟩ => ⟨S2x16x2048x64, .f32⟩
  | .hbm, ⟨78, _⟩ => ⟨S2x16x2048x64, .f32⟩
  | .hbm, ⟨79, _⟩ => ⟨S1x64, .f32⟩
  | .hbm, ⟨80, _⟩ => ⟨S1x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x1, .f32⟩
  | .local _ .vmem, ⟨7, _⟩ => ⟨S1x1x2048x1, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x64, .f32⟩
  | .local _ .vmem, ⟨11, _⟩ => ⟨S1x64, .f32⟩
  | .local _ .vmem, ⟨12, _⟩ => ⟨S1x1x2048x64, .f32⟩
  | .local _ .vmem, ⟨13, _⟩ => ⟨S1x1x2048x64, .f32⟩
  | .local _ .vmem, ⟨14, _⟩ => ⟨S1x1x2048x64, .f32⟩
  | .local _ .vmem, ⟨15, _⟩ => ⟨S1x1x2048x64, .f32⟩
  | .local _ .vmem, ⟨16, _⟩ => ⟨S1x1x2048x64, .f32⟩
  | .local _ .vmem, ⟨17, _⟩ => ⟨S1x1x2048x64, .f32⟩
  | .local _ .vmem, ⟨18, _⟩ => ⟨S1x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v39 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43_0 : Ref sig .tc := ⟨.hbm, 76, rfl⟩
abbrev main_v43_1 : Ref sig .tc := ⟨.hbm, 77, rfl⟩
abbrev main_v43_2 : Ref sig .tc := ⟨.hbm, 78, rfl⟩
abbrev main_v43_3 : Ref sig .tc := ⟨.hbm, 79, rfl⟩
abbrev main_v43_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v59 : BitVec 32 := Scalar.addi c0_i32 c4_i32
  let c1_i32 : BitVec 32 := 1#32
  ⟨c0_i32, v59, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c512_i32 : BitVec 32 := 512#32
  let v117 : BitVec 32 := Scalar.muli arg19 c512_i32
  v117
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c512_i32 : BitVec 32 := 512#32
  let v117 : BitVec 32 := Scalar.muli arg19 c512_i32
  let v118 : BitVec 32 := v117
  let v119 : Index := Scalar.indexCast v118
  let c0_66 : Index := 0#32
  ![v119.toNat, 0]
def k0_off2 (k0_t1 : Fin k0_t1_loop.trips) : Fin 4 → Nat :=
  let c0_67 : Index := 0#32
  let c0_68 : Index := 0#32
  let c0_i32 : BitVec 32 := 0#32
  let c1_i32 : BitVec 32 := 1#32
  let arg19 : BitVec 32 := Scf.iv c0_i32 c1_i32 k0_t1
  let c512_i32 : BitVec 32 := 512#32
  let v117 : BitVec 32 := Scalar.muli arg19 c512_i32
  let v118 : BitVec 32 := v117
  let v121 : Index := Scalar.indexCast v118
  let c0_69 : Index := 0#32
  ![0, 0, v121.toNat, 0]
def k0_off3 (k0_t1 : Fin k0_t1_loop.trips) : Fin 4 → Nat :=
  let c0_70 : Index := 0#32
  let c0_71 : Index := 0#32
  let c0_i32 : BitVec 32 := 0#32
  let c1_i32 : BitVec 32 := 1#32
  let arg19 : BitVec 32 := Scf.iv c0_i32 c1_i32 k0_t1
  let c512_i32 : BitVec 32 := 512#32
  let v117 : BitVec 32 := Scalar.muli arg19 c512_i32
  let v118 : BitVec 32 := v117
  let v124 : Index := Scalar.indexCast v118
  let c0_72 : Index := 0#32
  ![0, 0, v124.toNat, 0]
@[reducible] def k0_t2_loop (k0_t1 : Fin k0_t1_loop.trips) : Scf.Loop 32 :=
  let c0_i32_75 : BitVec 32 := 0#32
  let c0_i32 : BitVec 32 := 0#32
  let c1_i32 : BitVec 32 := 1#32
  let arg19 : BitVec 32 := Scf.iv c0_i32 c1_i32 k0_t1
  let v129 : BitVec 32 := Scalar.subi arg19 c0_i32_75
  let c1_i32_76 : BitVec 32 := 1#32
  let v131 : BitVec 32 := Scalar.divsi v129 c1_i32_76
  let v132 : BitVec 32 := Scalar.muli v131 c1_i32_76
  let v133 : BitVec 32 := Scalar.addi c0_i32_75 v132
  let c1_i32_77 : BitVec 32 := 1#32
  ⟨c0_i32_75, v133, c1_i32_77⟩
def k0_mult2 (k0_t1 : Fin k0_t1_loop.trips) (k0_t2 : Fin (k0_t2_loop k0_t1).trips) : BitVec 32 :=
  let c0_i32_75 : BitVec 32 := 0#32
  let c1_i32_77 : BitVec 32 := 1#32
  let arg20 : BitVec 32 := Scf.iv c0_i32_75 c1_i32_77 k0_t2
  let c512_i32_127 : BitVec 32 := 512#32
  let v314 : BitVec 32 := Scalar.muli arg20 c512_i32_127
  v314
def k0_off4 (k0_t1 : Fin k0_t1_loop.trips) (k0_t2 : Fin (k0_t2_loop k0_t1).trips) : Fin 2 → Nat :=
  let c0_i32_75 : BitVec 32 := 0#32
  let c1_i32_77 : BitVec 32 := 1#32
  let arg20 : BitVec 32 := Scf.iv c0_i32_75 c1_i32_77 k0_t2
  let c512_i32_127 : BitVec 32 := 512#32
  let v314 : BitVec 32 := Scalar.muli arg20 c512_i32_127
  let v315 : BitVec 32 := v314
  let v316 : Index := Scalar.indexCast v315
  let c0_128 : Index := 0#32
  ![v316.toNat, 0]
def k0_off5 (k0_t1 : Fin k0_t1_loop.trips) (k0_t2 : Fin (k0_t2_loop k0_t1).trips) : Fin 4 → Nat :=
  let c0_129 : Index := 0#32
  let c0_130 : Index := 0#32
  let c0_i32_75 : BitVec 32 := 0#32
  let c1_i32_77 : BitVec 32 := 1#32
  let arg20 : BitVec 32 := Scf.iv c0_i32_75 c1_i32_77 k0_t2
  let c512_i32_127 : BitVec 32 := 512#32
  let v314 : BitVec 32 := Scalar.muli arg20 c512_i32_127
  let v315 : BitVec 32 := v314
  let v318 : Index := Scalar.indexCast v315
  let c0_131 : Index := 0#32
  ![0, 0, v318.toNat, 0]
@[reducible] def k0_t3_loop (k0_t1 : Fin k0_t1_loop.trips) : Scf.Loop 32 :=
  let c0_i32_75 : BitVec 32 := 0#32
  let c0_i32 : BitVec 32 := 0#32
  let c1_i32 : BitVec 32 := 1#32
  let arg19 : BitVec 32 := Scf.iv c0_i32 c1_i32 k0_t1
  let v129 : BitVec 32 := Scalar.subi arg19 c0_i32_75
  let c1_i32_76 : BitVec 32 := 1#32
  let v131 : BitVec 32 := Scalar.divsi v129 c1_i32_76
  let v132 : BitVec 32 := Scalar.muli v131 c1_i32_76
  let v133 : BitVec 32 := Scalar.addi c0_i32_75 v132
  let v130 : BitVec 32 := Scalar.addi c0_i32_75 v129
  let c1_i32_78 : BitVec 32 := 1#32
  ⟨v133, v130, c1_i32_78⟩
def k0_mult3 (k0_t1 : Fin k0_t1_loop.trips) (k0_t3 : Fin (k0_t3_loop k0_t1).trips) : BitVec 32 :=
  let c0_i32_75 : BitVec 32 := 0#32
  let c0_i32 : BitVec 32 := 0#32
  let c1_i32 : BitVec 32 := 1#32
  let arg19 : BitVec 32 := Scf.iv c0_i32 c1_i32 k0_t1
  let v129 : BitVec 32 := Scalar.subi arg19 c0_i32_75
  let c1_i32_76 : BitVec 32 := 1#32
  let v131 : BitVec 32 := Scalar.divsi v129 c1_i32_76
  let v132 : BitVec 32 := Scalar.muli v131 c1_i32_76
  let v133 : BitVec 32 := Scalar.addi c0_i32_75 v132
  let c1_i32_78 : BitVec 32 := 1#32
  let arg20 : BitVec 32 := Scf.iv v133 c1_i32_78 k0_t3
  let c512_i32_127 : BitVec 32 := 512#32
  let v314 : BitVec 32 := Scalar.muli arg20 c512_i32_127
  v314
def k0_off6 (k0_t1 : Fin k0_t1_loop.trips) (k0_t3 : Fin (k0_t3_loop k0_t1).trips) : Fin 2 → Nat :=
  let c0_i32_75 : BitVec 32 := 0#32
  let c0_i32 : BitVec 32 := 0#32
  let c1_i32 : BitVec 32 := 1#32
  let arg19 : BitVec 32 := Scf.iv c0_i32 c1_i32 k0_t1
  let v129 : BitVec 32 := Scalar.subi arg19 c0_i32_75
  let c1_i32_76 : BitVec 32 := 1#32
  let v131 : BitVec 32 := Scalar.divsi v129 c1_i32_76
  let v132 : BitVec 32 := Scalar.muli v131 c1_i32_76
  let v133 : BitVec 32 := Scalar.addi c0_i32_75 v132
  let c1_i32_78 : BitVec 32 := 1#32
  let arg20 : BitVec 32 := Scf.iv v133 c1_i32_78 k0_t3
  let c512_i32_127 : BitVec 32 := 512#32
  let v314 : BitVec 32 := Scalar.muli arg20 c512_i32_127
  let v315 : BitVec 32 := v314
  let v316 : Index := Scalar.indexCast v315
  let c0_128 : Index := 0#32
  ![v316.toNat, 0]
def k0_off7 (k0_t1 : Fin k0_t1_loop.trips) (k0_t3 : Fin (k0_t3_loop k0_t1).trips) : Fin 4 → Nat :=
  let c0_129 : Index := 0#32
  let c0_130 : Index := 0#32
  let c0_i32_75 : BitVec 32 := 0#32
  let c0_i32 : BitVec 32 := 0#32
  let c1_i32 : BitVec 32 := 1#32
  let arg19 : BitVec 32 := Scf.iv c0_i32 c1_i32 k0_t1
  let v129 : BitVec 32 := Scalar.subi arg19 c0_i32_75
  let c1_i32_76 : BitVec 32 := 1#32
  let v131 : BitVec 32 := Scalar.divsi v129 c1_i32_76
  let v132 : BitVec 32 := Scalar.muli v131 c1_i32_76
  let v133 : BitVec 32 := Scalar.addi c0_i32_75 v132
  let c1_i32_78 : BitVec 32 := 1#32
  let arg20 : BitVec 32 := Scf.iv v133 c1_i32_78 k0_t3
  let c512_i32_127 : BitVec 32 := 512#32
  let v314 : BitVec 32 := Scalar.muli arg20 c512_i32_127
  let v315 : BitVec 32 := v314
  let v318 : Index := Scalar.indexCast v315
  let c0_131 : Index := 0#32
  ![0, 0, v318.toNat, 0]
def k0_mult4 (k0_t1 : Fin k0_t1_loop.trips) : BitVec 32 :=
  let c0_i32 : BitVec 32 := 0#32
  let c1_i32 : BitVec 32 := 1#32
  let arg19 : BitVec 32 := Scf.iv c0_i32 c1_i32 k0_t1
  let c512_i32_79 : BitVec 32 := 512#32
  let v136 : BitVec 32 := Scalar.muli arg19 c512_i32_79
  v136
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S2x16x2048x64 : Shape := ⟨4, ![2, 16, 2048, 64]⟩
abbrev S1x64 : Shape := ⟨2, ![1, 64]⟩
abbrev S64 : Shape := ⟨1, ![64]⟩
abbrev S_ : Shape := ⟨0, ![]⟩
abbrev S2x16x2048 : Shape := ⟨3, ![2, 16, 2048]⟩
abbrev S2x16x2048x1 : Shape := ⟨4, ![2, 16, 2048, 1]⟩
abbrev S1x1x1x64 : Shape := ⟨4, ![1, 1, 1, 64]⟩
abbrev S2x16x2048x2048 : Shape := ⟨4, ![2, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x16x64x2048 : Shape := ⟨4, ![2, 16, 64, 2048]⟩

abbrev nBuf : Space → Nat
  | .hbm => 257
  | .vmem => 0
  | .smem => 0
  | _ => 0

abbrev hbmTy0_0 (i : Nat) : BufTy := match i % 128 with
  | 0 => ⟨S2x16x2048x64, .f32⟩
  | 1 => ⟨S2x16x2048x64, .f32⟩
  | 2 => ⟨S2x16x2048x64, .f32⟩
  | 3 => ⟨S1x64, .f32⟩
  | 4 => ⟨S1x64, .f32⟩
  | 5 => ⟨S2x16x2048x64, .f32⟩
  | 6 => ⟨S64, .f32⟩
  | 7 => ⟨S2x16x2048x64, .f32⟩
  | 8 => ⟨S_, .f32⟩
  | 9 => ⟨S2x16x2048, .f32⟩
  | 10 => ⟨S2x16x2048x1, .f32⟩
  | 11 => ⟨S_, .f32⟩
  | 12 => ⟨S2x16x2048x1, .f32⟩
  | 13 => ⟨S2x16x2048x1, .f32⟩
  | 14 => ⟨S_, .f32⟩
  | 15 => ⟨S2x16x2048x1, .f32⟩
  | 16 => ⟨S2x16x2048x1, .f32⟩
  | 17 => ⟨S2x16x2048x1, .f32⟩
  | 18 => ⟨S2x16x2048x1, .f32⟩
  | 19 => ⟨S_, .f32⟩
  | 20 => ⟨S2x16x2048x1, .f32⟩
  | 21 => ⟨S2x16x2048x1, .f32⟩
  | 22 => ⟨S2x16x2048x64, .f32⟩
  | 23 => ⟨S2x16x2048x64, .f32⟩
  | 24 => ⟨S1x1x1x64, .f32⟩
  | 25 => ⟨S2x16x2048x64, .f32⟩
  | 26 => ⟨S2x16x2048x64, .f32⟩
  | 27 => ⟨S64, .f32⟩
  | 28 => ⟨S2x16x2048x64, .f32⟩
  | 29 => ⟨S_, .f32⟩
  | 30 => ⟨S2x16x2048, .f32⟩
  | 31 => ⟨S2x16x2048x1, .f32⟩
  | 32 => ⟨S_, .f32⟩
  | 33 => ⟨S2x16x2048x1, .f32⟩
  | 34 => ⟨S2x16x2048x1, .f32⟩
  | 35 => ⟨S_, .f32⟩
  | 36 => ⟨S2x16x2048x1, .f32⟩
  | 37 => ⟨S2x16x2048x1, .f32⟩
  | 38 => ⟨S2x16x2048x1, .f32⟩
  | 39 => ⟨S2x16x2048x1, .f32⟩
  | 40 => ⟨S_, .f32⟩
  | 41 => ⟨S2x16x2048x1, .f32⟩
  | 42 => ⟨S2x16x2048x1, .f32⟩
  | 43 => ⟨S2x16x2048x64, .f32⟩
  | 44 => ⟨S2x16x2048x64, .f32⟩
  | 45 => ⟨S1x1x1x64, .f32⟩
  | 46 => ⟨S2x16x2048x64, .f32⟩
  | 47 => ⟨S2x16x2048x64, .f32⟩
  | 48 => ⟨S2x16x2048x2048, .f32⟩
  | 49 => ⟨S_, .f32⟩
  | 50 => ⟨S2x16x2048x2048, .f32⟩
  | 51 => ⟨S2x16x2048x2048, .f32⟩
  | 52 => ⟨S2048, .i32⟩
  | 53 => ⟨S1x2048, .i32⟩
  | 54 => ⟨S2048, .i32⟩
  | 55 => ⟨S2048x1, .i32⟩
  | 56 => ⟨S2048x2048, .i32⟩
  | 57 => ⟨S2048x2048, .i32⟩
  | 58 => ⟨S2048x2048, .i1⟩
  | 59 => ⟨S2x16x2048x2048, .f32⟩
  | 60 => ⟨S2x16x2048x2048, .f32⟩
  | 61 => ⟨S_, .f32⟩
  | 62 => ⟨S2x16x2048x2048, .f32⟩
  | 63 => ⟨S2x16x2048x2048, .f32⟩
  | 64 => ⟨S2x16x2048x2048, .f32⟩
  | 65 => ⟨S2x16x2048x2048, .f32⟩
  | 66 => ⟨S2x16x2048x2048, .i1⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S2x16x2048x2048, .f32⟩
  | 72 => ⟨S2x16x2048x2048, .f32⟩
  | 73 => ⟨S2x16x2048x2048, .f32⟩
  | 74 => ⟨S2x16x2048x2048, .f32⟩
  | 75 => ⟨S_, .f32⟩
  | 76 => ⟨S2x16x2048x2048, .f32⟩
  | 77 => ⟨S2x16x2048x2048, .i1⟩
  | 78 => ⟨S_, .f32⟩
  | 79 => ⟨S2x16x2048x2048, .f32⟩
  | 80 => ⟨S2x16x2048x2048, .f32⟩
  | 81 => ⟨S_, .f32⟩
  | 82 => ⟨S2x16x2048x2048, .f32⟩
  | 83 => ⟨S2x16x2048x2048, .i1⟩
  | 84 => ⟨S_, .f32⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S_, .f32⟩
  | 90 => ⟨S_, .f32⟩
  | 91 => ⟨S_, .i1⟩
  | 92 => ⟨S_, .f32⟩
  | 93 => ⟨S_, .f32⟩
  | 94 => ⟨S_, .f32⟩
  | 95 => ⟨S_, .f32⟩
  | 96 => ⟨S2x16x2048x2048, .f32⟩
  | 97 => ⟨S2x16x2048x2048, .i1⟩
  | 98 => ⟨S_, .f32⟩
  | 99 => ⟨S2x16x2048x2048, .f32⟩
  | 100 => ⟨S2x16x2048x2048, .f32⟩
  | 101 => ⟨S2x16x2048x2048, .f32⟩
  | 102 => ⟨S2x16x2048x2048, .f32⟩
  | 103 => ⟨S2x16x2048x2048, .f32⟩
  | 104 => ⟨S_, .f32⟩
  | 105 => ⟨S2x16x2048x2048, .f32⟩
  | 106 => ⟨S2x16x2048x2048, .f32⟩
  | 107 => ⟨S2x16x2048x2048, .f32⟩
  | 108 => ⟨S_, .f32⟩
  | 109 => ⟨S_, .f32⟩
  | 110 => ⟨S2x16x2048x2048, .i1⟩
  | 111 => ⟨S2x16x2048x2048, .f32⟩
  | 112 => ⟨S2x16x2048x2048, .f32⟩
  | 113 => ⟨S_, .f32⟩
  | 114 => ⟨S2x16x2048x2048, .f32⟩
  | 115 => ⟨S_, .f32⟩
  | 116 => ⟨S_, .f32⟩
  | 117 => ⟨S2x16x2048x2048, .f32⟩
  | 118 => ⟨S2x16x2048x2048, .f32⟩
  | 119 => ⟨S2x16x2048x2048, .f32⟩
  | 120 => ⟨S_, .f32⟩
  | 121 => ⟨S2x16x2048x2048, .f32⟩
  | 122 => ⟨S2x16x2048x2048, .f32⟩
  | 123 => ⟨S2x16x2048x2048, .f32⟩
  | 124 => ⟨S2x16x2048x2048, .f32⟩
  | 125 => ⟨S2x16x2048x2048, .i1⟩
  | 126 => ⟨S2x16x2048x2048, .f32⟩
  | 127 => ⟨S2x16x2048x2048, .f32⟩
  | _ => ⟨S2x16x2048x64, .f32⟩

abbrev hbmTy0_1 (i : Nat) : BufTy := match i % 128 with
  | 0 => ⟨S2x16x2048x2048, .f32⟩
  | 1 => ⟨S2x16x2048x2048, .f32⟩
  | 2 => ⟨S2x16x2048x2048, .f32⟩
  | 3 => ⟨S2x16x2048x2048, .f32⟩
  | 4 => ⟨S2x16x2048x2048, .f32⟩
  | 5 => ⟨S2x16x2048x2048, .f32⟩
  | 6 => ⟨S_, .f32⟩
  | 7 => ⟨S2x16x2048x2048, .f32⟩
  | 8 => ⟨S2x16x2048x2048, .i1⟩
  | 9 => ⟨S_, .f32⟩
  | 10 => ⟨S2x16x2048x2048, .f32⟩
  | 11 => ⟨S2x16x2048x2048, .f32⟩
  | 12 => ⟨S_, .f32⟩
  | 13 => ⟨S2x16x2048x2048, .f32⟩
  | 14 => ⟨S2x16x2048x2048, .i1⟩
  | 15 => ⟨S_, .f32⟩
  | 16 => ⟨S2x16x2048x2048, .f32⟩
  | 17 => ⟨S2x16x2048x2048, .f32⟩
  | 18 => ⟨S2x16x2048x2048, .f32⟩
  | 19 => ⟨S2x16x2048x2048, .f32⟩
  | 20 => ⟨S_, .f32⟩
  | 21 => ⟨S_, .f32⟩
  | 22 => ⟨S_, .i1⟩
  | 23 => ⟨S_, .f32⟩
  | 24 => ⟨S_, .f32⟩
  | 25 => ⟨S_, .f32⟩
  | 26 => ⟨S_, .f32⟩
  | 27 => ⟨S2x16x2048x2048, .f32⟩
  | 28 => ⟨S2x16x2048x2048, .i1⟩
  | 29 => ⟨S_, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .f32⟩
  | 35 => ⟨S_, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S_, .f32⟩
  | 42 => ⟨S_, .f32⟩
  | 43 => ⟨S2x16x2048x2048, .i1⟩
  | 44 => ⟨S2x16x2048x2048, .f32⟩
  | 45 => ⟨S2x16x2048x2048, .f32⟩
  | 46 => ⟨S_, .f32⟩
  | 47 => ⟨S2x16x2048x2048, .f32⟩
  | 48 => ⟨S2x16x2048x64, .f32⟩
  | 49 => ⟨S2x16x64x2048, .f32⟩
  | 50 => ⟨S2x16x2048x64, .f32⟩
  | 51 => ⟨S2x16x2048x2048, .f32⟩
  | 52 => ⟨S_, .f32⟩
  | 53 => ⟨S2x16x2048x2048, .f32⟩
  | 54 => ⟨S2x16x2048x2048, .f32⟩
  | 55 => ⟨S2x16x2048x2048, .f32⟩
  | 56 => ⟨S2x16x2048x2048, .f32⟩
  | 57 => ⟨S2x16x2048x2048, .f32⟩
  | 58 => ⟨S2x16x2048x2048, .f32⟩
  | 59 => ⟨S2x16x2048x2048, .f32⟩
  | 60 => ⟨S_, .f32⟩
  | 61 => ⟨S_, .f32⟩
  | 62 => ⟨S2x16x2048x2048, .f32⟩
  | 63 => ⟨S2x16x2048x2048, .f32⟩
  | 64 => ⟨S_, .f32⟩
  | 65 => ⟨S2x16x2048x2048, .f32⟩
  | 66 => ⟨S2x16x2048x2048, .f32⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S2x16x2048x2048, .f32⟩
  | 72 => ⟨S_, .f32⟩
  | 73 => ⟨S2x16x2048x2048, .f32⟩
  | 74 => ⟨S2x16x2048x2048, .f32⟩
  | 75 => ⟨S2x16x2048x64, .f32⟩
  | 76 => ⟨S2x16x2048x64, .f32⟩
  | 77 => ⟨S2x16x2048x64, .f32⟩
  | 78 => ⟨S_, .f32⟩
  | 79 => ⟨S64, .f32⟩
  | 80 => ⟨S1x1x1x64, .f32⟩
  | 81 => ⟨S2x16x2048x64, .f32⟩
  | 82 => ⟨S2x16x2048x64, .f32⟩
  | 83 => ⟨S_, .f32⟩
  | 84 => ⟨S64, .f32⟩
  | 85 => ⟨S2x16x2048x64, .f32⟩
  | 86 => ⟨S_, .f32⟩
  | 87 => ⟨S2x16x2048, .f32⟩
  | 88 => ⟨S2x16x2048x1, .f32⟩
  | 89 => ⟨S2x16x2048x64, .f32⟩
  | 90 => ⟨S2x16x2048x64, .f32⟩
  | 91 => ⟨S2x16x2048x1, .f32⟩
  | 92 => ⟨S_, .f32⟩
  | 93 => ⟨S2x16x2048x1, .f32⟩
  | 94 => ⟨S2x16x2048x1, .f32⟩
  | 95 => ⟨S_, .f32⟩
  | 96 => ⟨S2x16x2048, .f32⟩
  | 97 => ⟨S2x16x2048x64, .f32⟩
  | 98 => ⟨S2x16x2048x64, .f32⟩
  | 99 => ⟨S2x16x2048x64, .f32⟩
  | 100 => ⟨S2x16x2048x64, .f32⟩
  | 101 => ⟨S2x16x2048x64, .f32⟩
  | 102 => ⟨S1x64, .f32⟩
  | 103 => ⟨S2x16x2048x64, .f32⟩
  | 104 => ⟨S_, .f32⟩
  | 105 => ⟨S64, .f32⟩
  | 106 => ⟨S1x1x1x64, .f32⟩
  | 107 => ⟨S2x16x2048x64, .f32⟩
  | 108 => ⟨S2x16x2048x64, .f32⟩
  | 109 => ⟨S_, .f32⟩
  | 110 => ⟨S64, .f32⟩
  | 111 => ⟨S2x16x2048x64, .f32⟩
  | 112 => ⟨S_, .f32⟩
  | 113 => ⟨S2x16x2048, .f32⟩
  | 114 => ⟨S2x16x2048x1, .f32⟩
  | 115 => ⟨S2x16x2048x64, .f32⟩
  | 116 => ⟨S2x16x2048x64, .f32⟩
  | 117 => ⟨S2x16x2048x1, .f32⟩
  | 118 => ⟨S_, .f32⟩
  | 119 => ⟨S2x16x2048x1, .f32⟩
  | 120 => ⟨S2x16x2048x1, .f32⟩
  | 121 => ⟨S_, .f32⟩
  | 122 => ⟨S2x16x2048, .f32⟩
  | 123 => ⟨S2x16x2048x64, .f32⟩
  | 124 => ⟨S2x16x2048x64, .f32⟩
  | 125 => ⟨S2x16x2048x64, .f32⟩
  | 126 => ⟨S2x16x2048x64, .f32⟩
  | 127 => ⟨S2x16x2048x64, .f32⟩
  | _ => ⟨S2x16x2048x64, .f32⟩

abbrev hbmTy0_2 (i : Nat) : BufTy := match i % 128 with
  | 0 => ⟨S1x64, .f32⟩
  | _ => ⟨S2x16x2048x64, .f32⟩

abbrev hbmTy (i : Nat) : BufTy := match i / 128 with
  | 0 => hbmTy0_0 i
  | 1 => hbmTy0_1 i
  | 2 => hbmTy0_2 i
  | _ => ⟨S2x16x2048x64, .f32⟩

abbrev bufTy : (tb : Table) → Fin (tcTables nBuf tb) → BufTy
  | .hbm, ⟨i, _⟩ => hbmTy i
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1_0 : Ref sig .tc := ⟨.hbm, 74, rfl⟩
abbrev main_call0_call0_cst_0 : Ref sig .tc := ⟨.hbm, 75, rfl⟩
abbrev main_call0_call0_v13 : Ref sig .tc := ⟨.hbm, 76, rfl⟩
abbrev main_call0_call0_v14 : Ref sig .tc := ⟨.hbm, 77, rfl⟩
abbrev main_call0_call0_cst_1 : Ref sig .tc := ⟨.hbm, 78, rfl⟩
abbrev main_call0_call0_v15 : Ref sig .tc := ⟨.hbm, 79, rfl⟩
abbrev main_call0_call0_v16 : Ref sig .tc := ⟨.hbm, 80, rfl⟩
abbrev main_call0_call0_cst_2 : Ref sig .tc := ⟨.hbm, 81, rfl⟩
abbrev main_call0_call0_v17 : Ref sig .tc := ⟨.hbm, 82, rfl⟩
abbrev main_call0_call0_v18 : Ref sig .tc := ⟨.hbm, 83, rfl⟩
abbrev main_call0_call0_cst_3 : Ref sig .tc := ⟨.hbm, 84, rfl⟩
abbrev main_call0_call0_v19 : Ref sig .tc := ⟨.hbm, 85, rfl⟩
abbrev main_call0_call0_v20 : Ref sig .tc := ⟨.hbm, 86, rfl⟩
abbrev main_call0_call0_v21 : Ref sig .tc := ⟨.hbm, 87, rfl⟩
abbrev main_v45_1 : Ref sig .tc := ⟨.hbm, 88, rfl⟩
abbrev main_call0_call0_cst_4 : Ref sig .tc := ⟨.hbm, 89, rfl⟩
abbrev main_call0_call0_cst_5 : Ref sig .tc := ⟨.hbm, 90, rfl⟩
abbrev main_call0_call0_v23 : Ref sig .tc := ⟨.hbm, 91, rfl⟩
abbrev main_call0_call0_cst_6 : Ref sig .tc := ⟨.hbm, 92, rfl⟩
abbrev main_call0_call0_cst_7 : Ref sig .tc := ⟨.hbm, 93, rfl⟩
abbrev main_call0_call0_v24 : Ref sig .tc := ⟨.hbm, 94, rfl⟩
abbrev main_call0_call0_cst_8 : Ref sig .tc := ⟨.hbm, 95, rfl⟩
abbrev main_call0_call0_v25 : Ref sig .tc := ⟨.hbm, 96, rfl⟩
abbrev main_call0_call0_v26 : Ref sig .tc := ⟨.hbm, 97, rfl⟩
abbrev main_call0_call0_cst_9 : Ref sig .tc := ⟨.hbm, 98, rfl⟩
abbrev main_call0_call0_v27 : Ref sig .tc := ⟨.hbm, 99, rfl⟩
abbrev main_call0_call0_v28 : Ref sig .tc := ⟨.hbm, 100, rfl⟩
abbrev main_call0_call0_v29 : Ref sig .tc := ⟨.hbm, 101, rfl⟩
abbrev main_call0_call0_v30 : Ref sig .tc := ⟨.hbm, 102, rfl⟩
abbrev main_call0_call0_v31 : Ref sig .tc := ⟨.hbm, 103, rfl⟩
abbrev main_call0_call0_cst_10 : Ref sig .tc := ⟨.hbm, 104, rfl⟩
abbrev main_call0_call0_v32 : Ref sig .tc := ⟨.hbm, 105, rfl⟩
abbrev main_v45_2 : Ref sig .tc := ⟨.hbm, 106, rfl⟩
abbrev main_v45_0 : Ref sig .tc := ⟨.hbm, 107, rfl⟩
abbrev main_cst_8 : Ref sig .tc := ⟨.hbm, 108, rfl⟩
abbrev main_call1_v0 : Ref sig .tc := ⟨.hbm, 109, rfl⟩
abbrev main_v46_1 : Ref sig .tc := ⟨.hbm, 110, rfl⟩
abbrev main_call1_v2 : Ref sig .tc := ⟨.hbm, 111, rfl⟩
abbrev main_v46_0 : Ref sig .tc := ⟨.hbm, 112, rfl⟩
abbrev main_call1_cst : Ref sig .tc := ⟨.hbm, 113, rfl⟩
abbrev main_v46_2 : Ref sig .tc := ⟨.hbm, 114, rfl⟩
abbrev main_call2_cst : Ref sig .tc := ⟨.hbm, 115, rfl⟩
abbrev main_call2_v0 : Ref sig .tc := ⟨.hbm, 116, rfl⟩
abbrev main_v47 : Ref sig .tc := ⟨.hbm, 117, rfl⟩
abbrev main_v48 : Ref sig .tc := ⟨.hbm, 118, rfl⟩
abbrev main_call3_v0 : Ref sig .tc := ⟨.hbm, 119, rfl⟩
abbrev main_call3_call0_cst : Ref sig .tc := ⟨.hbm, 120, rfl⟩
abbrev main_call3_call0_v0 : Ref sig .tc := ⟨.hbm, 121, rfl⟩
abbrev main_call3_call0_v1 : Ref sig .tc := ⟨.hbm, 122, rfl⟩
abbrev main_call3_call0_v2 : Ref sig .tc := ⟨.hbm, 123, rfl⟩
abbrev main_call3_call0_v3 : Ref sig .tc := ⟨.hbm, 124, rfl⟩
abbrev main_call3_call0_v4 : Ref sig .tc := ⟨.hbm, 125, rfl⟩
abbrev main_call3_call0_v5 : Ref sig .tc := ⟨.hbm, 126, rfl⟩
abbrev main_call3_call0_v6 : Ref sig .tc := ⟨.hbm, 127, rfl⟩
abbrev main_call3_call0_v7 : Ref sig .tc := ⟨.hbm, 128, rfl⟩
abbrev main_call3_call0_v8 : Ref sig .tc := ⟨.hbm, 129, rfl⟩
abbrev main_call3_call0_v9 : Ref sig .tc := ⟨.hbm, 130, rfl⟩
abbrev main_call3_call0_v10 : Ref sig .tc := ⟨.hbm, 131, rfl⟩
abbrev main_call3_call0_v11 : Ref sig .tc := ⟨.hbm, 132, rfl⟩
abbrev main_call3_v1_0 : Ref sig .tc := ⟨.hbm, 133, rfl⟩
abbrev main_call3_call0_cst_0 : Ref sig .tc := ⟨.hbm, 134, rfl⟩
abbrev main_call3_call0_v13 : Ref sig .tc := ⟨.hbm, 135, rfl⟩
abbrev main_call3_call0_v14 : Ref sig .tc := ⟨.hbm, 136, rfl⟩
abbrev main_call3_call0_cst_1 : Ref sig .tc := ⟨.hbm, 137, rfl⟩
abbrev main_call3_call0_v15 : Ref sig .tc := ⟨.hbm, 138, rfl⟩
abbrev main_call3_call0_v16 : Ref sig .tc := ⟨.hbm, 139, rfl⟩
abbrev main_call3_call0_cst_2 : Ref sig .tc := ⟨.hbm, 140, rfl⟩
abbrev main_call3_call0_v17 : Ref sig .tc := ⟨.hbm, 141, rfl⟩
abbrev main_call3_call0_v18 : Ref sig .tc := ⟨.hbm, 142, rfl⟩
abbrev main_call3_call0_cst_3 : Ref sig .tc := ⟨.hbm, 143, rfl⟩
abbrev main_call3_call0_v19 : Ref sig .tc := ⟨.hbm, 144, rfl⟩
abbrev main_call3_call0_v20 : Ref sig .tc := ⟨.hbm, 145, rfl⟩
abbrev main_call3_call0_v21 : Ref sig .tc := ⟨.hbm, 146, rfl⟩
abbrev main_v49_1 : Ref sig .tc := ⟨.hbm, 147, rfl⟩
abbrev main_call3_call0_cst_4 : Ref sig .tc := ⟨.hbm, 148, rfl⟩
abbrev main_call3_call0_cst_5 : Ref sig .tc := ⟨.hbm, 149, rfl⟩
abbrev main_call3_call0_v23 : Ref sig .tc := ⟨.hbm, 150, rfl⟩
abbrev main_call3_call0_cst_6 : Ref sig .tc := ⟨.hbm, 151, rfl⟩
abbrev main_call3_call0_cst_7 : Ref sig .tc := ⟨.hbm, 152, rfl⟩
abbrev main_call3_call0_v24 : Ref sig .tc := ⟨.hbm, 153, rfl⟩
abbrev main_call3_call0_cst_8 : Ref sig .tc := ⟨.hbm, 154, rfl⟩
abbrev main_call3_call0_v25 : Ref sig .tc := ⟨.hbm, 155, rfl⟩
abbrev main_call3_call0_v26 : Ref sig .tc := ⟨.hbm, 156, rfl⟩
abbrev main_call3_call0_cst_9 : Ref sig .tc := ⟨.hbm, 157, rfl⟩
abbrev main_call3_call0_v27 : Ref sig .tc := ⟨.hbm, 158, rfl⟩
abbrev main_call3_call0_v28 : Ref sig .tc := ⟨.hbm, 159, rfl⟩
abbrev main_call3_call0_v29 : Ref sig .tc := ⟨.hbm, 160, rfl⟩
abbrev main_call3_call0_v30 : Ref sig .tc := ⟨.hbm, 161, rfl⟩
abbrev main_call3_call0_v31 : Ref sig .tc := ⟨.hbm, 162, rfl⟩
abbrev main_call3_call0_cst_10 : Ref sig .tc := ⟨.hbm, 163, rfl⟩
abbrev main_call3_call0_v32 : Ref sig .tc := ⟨.hbm, 164, rfl⟩
abbrev main_v49_2 : Ref sig .tc := ⟨.hbm, 165, rfl⟩
abbrev main_v49_0 : Ref sig .tc := ⟨.hbm, 166, rfl⟩
abbrev main_v50 : Ref sig .tc := ⟨.hbm, 167, rfl⟩
abbrev main_v51 : Ref sig .tc := ⟨.hbm, 168, rfl⟩
abbrev main_cst_9 : Ref sig .tc := ⟨.hbm, 169, rfl⟩
abbrev main_call4_v0 : Ref sig .tc := ⟨.hbm, 170, rfl⟩
abbrev main_v52_1 : Ref sig .tc := ⟨.hbm, 171, rfl⟩
abbrev main_call4_v2 : Ref sig .tc := ⟨.hbm, 172, rfl⟩
abbrev main_v52_0 : Ref sig .tc := ⟨.hbm, 173, rfl⟩
abbrev main_call4_cst : Ref sig .tc := ⟨.hbm, 174, rfl⟩
abbrev main_v52_2 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_call5_cst : Ref sig .tc := ⟨.hbm, 180, rfl⟩
abbrev main_call5_v0 : Ref sig .tc := ⟨.hbm, 181, rfl⟩
abbrev main_v57 : Ref sig .tc := ⟨.hbm, 182, rfl⟩
abbrev main_v58 : Ref sig .tc := ⟨.hbm, 183, rfl⟩
abbrev main_call6_v0 : Ref sig .tc := ⟨.hbm, 184, rfl⟩
abbrev main_call6_v1 : Ref sig .tc := ⟨.hbm, 185, rfl⟩
abbrev main_v59 : Ref sig .tc := ⟨.hbm, 186, rfl⟩
abbrev main_v60 : Ref sig .tc := ⟨.hbm, 187, rfl⟩
abbrev main_call7_cst : Ref sig .tc := ⟨.hbm, 188, rfl⟩
abbrev main_call7_v0 : Ref sig .tc := ⟨.hbm, 189, rfl⟩
abbrev main_v61 : Ref sig .tc := ⟨.hbm, 190, rfl⟩
abbrev main_v62 : Ref sig .tc := ⟨.hbm, 191, rfl⟩
abbrev main_call8_cst : Ref sig .tc := ⟨.hbm, 192, rfl⟩
abbrev main_call8_v0 : Ref sig .tc := ⟨.hbm, 193, rfl⟩
abbrev main_v63 : Ref sig .tc := ⟨.hbm, 194, rfl⟩
abbrev main_call9_v0 : Ref sig .tc := ⟨.hbm, 195, rfl⟩
abbrev main_call9_v1 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_cst_10 : Ref sig .tc := ⟨.hbm, 200, rfl⟩
abbrev main_v67 : Ref sig .tc := ⟨.hbm, 201, rfl⟩
abbrev main_v68 : Ref sig .tc := ⟨.hbm, 202, rfl⟩
abbrev main_v69 : Ref sig .tc := ⟨.hbm, 203, rfl⟩
abbrev main_v70 : Ref sig .tc := ⟨.hbm, 204, rfl⟩
abbrev main_v71 : Ref sig .tc := ⟨.hbm, 205, rfl⟩
abbrev main_cst_11 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_cst_12 : Ref sig .tc := ⟨.hbm, 211, rfl⟩
abbrev main_v76 : Ref sig .tc := ⟨.hbm, 212, rfl⟩
abbrev main_v77 : Ref sig .tc := ⟨.hbm, 213, rfl⟩
abbrev main_cst_13 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_cst_14 : Ref sig .tc := ⟨.hbm, 220, rfl⟩
abbrev main_v83 : Ref sig .tc := ⟨.hbm, 221, rfl⟩
abbrev main_v84 : Ref sig .tc := ⟨.hbm, 222, rfl⟩
abbrev main_cst_15 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_cst_16 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_cst_17 : Ref sig .tc := ⟨.hbm, 237, rfl⟩
abbrev main_v97 : Ref sig .tc := ⟨.hbm, 238, rfl⟩
abbrev main_v98 : Ref sig .tc := ⟨.hbm, 239, rfl⟩
abbrev main_cst_18 : Ref sig .tc := ⟨.hbm, 240, rfl⟩
abbrev main_v99 : Ref sig .tc := ⟨.hbm, 241, rfl⟩
abbrev main_v100 : Ref sig .tc := ⟨.hbm, 242, rfl⟩
abbrev main_v101 : Ref sig .tc := ⟨.hbm, 243, rfl⟩
abbrev main_v102 : Ref sig .tc := ⟨.hbm, 244, rfl⟩
abbrev main_v103 : Ref sig .tc := ⟨.hbm, 245, rfl⟩
abbrev main_cst_19 : Ref sig .tc := ⟨.hbm, 246, rfl⟩
abbrev main_v104 : Ref sig .tc := ⟨.hbm, 247, rfl⟩
abbrev main_v105 : Ref sig .tc := ⟨.hbm, 248, rfl⟩
abbrev main_cst_20 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_v112 : Ref sig .tc := ⟨.hbm, 256, rfl⟩

abbrev nD : Nat := 1
abbrev τ : Topo := Topo.v7x

variable {F : FTy → Type} [FloatOps F]
-- ==== Kernel2.lean ====
abbrev S4096x5632 : Shape := ⟨2, ![4096, 5632]⟩
abbrev S1024x5632 : Shape := ⟨2, ![1024, 5632]⟩
abbrev S4096x1024 : Shape := ⟨2, ![4096, 1024]⟩
abbrev S2048x1408 : Shape := ⟨2, ![2048, 1408]⟩
abbrev S512x1408 : Shape := ⟨2, ![512, 1408]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x5632, .bf16⟩
  | .hbm, ⟨3, _⟩ => ⟨S1024x5632, .bf16⟩
  | .hbm, ⟨4, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S512x1408, .bf16⟩
  | .local _ .vmem, ⟨3, _⟩ => ⟨S512x1408, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x512, .f32⟩
  | .local _ .vmem, ⟨3, _⟩ => ⟨S1024x512, .f32⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S1024x3072, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S_, .f32⟩
  | .hbm, ⟨3, _⟩ => ⟨S4096x1024, .f32⟩
  | .hbm, ⟨4, _⟩ => ⟨S4096x3072, .f32⟩
  | .hbm, ⟨5, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1024x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel16.lean ====
abbrev S4096x2048 : Shape := ⟨2, ![4096, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel18.lean ====
abbrev S1x256 : Shape := ⟨2, ![1, 256]⟩
abbrev S4x1x256 : Shape := ⟨3, ![4, 1, 256]⟩
abbrev S1x1x256 : Shape := ⟨3, ![1, 1, 256]⟩

abbrev nBuf : Space → Nat
  | .hbm => 9
  | .vmem => 9
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S4x1x256, .f32⟩
  | .hbm, ⟨4, _⟩ => ⟨S4x1x256, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S4x1x256, .f32⟩
  | .local _ .vmem, ⟨4, _⟩ => ⟨S4x1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference18Ideal.lean ====
abbrev S1x256 : Shape := ⟨2, ![1, 256]⟩
abbrev S4x1x256 : Shape := ⟨3, ![4, 1, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S4x1x256, .f32⟩
  | .hbm, ⟨4, _⟩ => ⟨S4x1x256, .f32⟩
  | .hbm, ⟨5, _⟩ => ⟨S_, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S1x256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel19.lean ====
abbrev S1x4x64x256 : Shape := ⟨4, ![1, 4, 64, 256]⟩
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 11
  | .vmem => 8
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S4x256x256, .bf16⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S4x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S1x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S1x4x64x256 : Shape := ⟨4, ![1, 4, 64, 256]⟩
abbrev S4x256x256 : Shape := ⟨3, ![4, 256, 256]⟩
abbrev S_ : Shape := ⟨0, ![]⟩
abbrev S256x256 : Shape := ⟨2, ![256, 256]⟩

abbrev nBuf : Space → Nat
  | .hbm => 43
  | .vmem => 0
  | .smem => 0
  | _ => 0

abbrev bufTy : (tb : Table) → Fin (tcTables nBuf tb) → BufTy
  | .hbm, ⟨0, _⟩ => ⟨S1x4x64x256, .f32⟩
  | .hbm, ⟨1, _⟩ => ⟨S1x4x64x256, .f32⟩
  | .hbm, ⟨2, _⟩ => ⟨S1x4x64x256, .f32⟩
  | .hbm, ⟨3, _⟩ => ⟨S4x256x256, .bf16⟩
  | .hbm, ⟨4, _⟩ => ⟨S4x256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | _, _ => ⟨S1x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel20.lean ====
abbrev S1x1024x512 : Shape := ⟨3, ![1, 1024, 512]⟩
abbrev S4x1024x512 : Shape := ⟨3, ![4, 1024, 512]⟩
abbrev S1024x512 : Shape := ⟨2, ![1024, 512]⟩
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S4x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x256x512, .bf16⟩
  | .local _ .vmem, ⟨7, _⟩ => ⟨S4x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1x1024x512 : Shape := ⟨3, ![1, 1024, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S4x1024x512, .bf16⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel21.lean ====
abbrev S1x256x1024 : Shape := ⟨3, ![1, 256, 1024]⟩
abbrev S4x256x1024 : Shape := ⟨3, ![4, 256, 1024]⟩
abbrev S256x1024 : Shape := ⟨2, ![256, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S4x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S1x256x1024 : Shape := ⟨3, ![1, 256, 1024]⟩
abbrev S4x256x1024 : Shape := ⟨3, ![4, 256, 1024]⟩
abbrev S_ : Shape := ⟨0, ![]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S4x256x1024, .bf16⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel22.lean ====
abbrev S1x1024x768 : Shape := ⟨3, ![1, 1024, 768]⟩
abbrev S4x1024x768 : Shape := ⟨3, ![4, 1024, 768]⟩
abbrev S1024x768 : Shape := ⟨2, ![1024, 768]⟩
abbrev S128x768 : Shape := ⟨2, ![128, 768]⟩
abbrev S4x128x768 : Shape := ⟨3, ![4, 128, 768]⟩
abbrev S1x128x768 : Shape := ⟨3, ![1, 128, 768]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S4x1024x768, .bf16⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S4x128x768, .bf16⟩
  | .local _ .vmem, ⟨7, _⟩ => ⟨S4x128x768, .bf16⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1x1024x768 : Shape := ⟨3, ![1, 1024, 768]⟩
abbrev S4x1024x768 : Shape := ⟨3, ![4, 1024, 768]⟩
abbrev S_ : Shape := ⟨0, ![]⟩
abbrev S1024x768 : Shape := ⟨2, ![1024, 768]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S4x1024x768, .bf16⟩
  | .hbm, ⟨4, _⟩ => ⟨S4x1024x768, .f32⟩
  | .hbm, ⟨5, _⟩ => ⟨S_, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S1024x768, .f32⟩
  | .hbm, ⟨40, _⟩ => ⟨S_, .f32⟩
  | .hbm, ⟨41, _⟩ => ⟨S1024x768, .f32⟩
  | .hbm, ⟨42, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel23.lean ====
abbrev S4x1024x1408 : Shape := ⟨3, ![4, 1024, 1408]⟩
abbrev S4x4096x1408 : Shape := ⟨3, ![4, 4096, 1408]⟩
abbrev S4096x1408 : Shape := ⟨2, ![4096, 1408]⟩
abbrev S64x1408 : Shape := ⟨2, ![64, 1408]⟩
abbrev S4x64x1408 : Shape := ⟨3, ![4, 64, 1408]⟩
abbrev S1x64x1408 : Shape := ⟨3, ![1, 64, 1408]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x4096x1408, .bf16⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S64x1408, .f32⟩
  | .local _ .vmem, ⟨1, _⟩ => ⟨S64x1408, .f32⟩
  | .local _ .vmem, ⟨2, _⟩ => ⟨S64x1408, .f32⟩
  | .local _ .vmem, ⟨3, _⟩ => ⟨S64x1408, .f32⟩
  | .local _ .vmem, ⟨4, _⟩ => ⟨S64x1408, .f32⟩
  | .local _ .vmem, ⟨5, _⟩ => ⟨S64x1408, .f32⟩
  | .local _ .vmem, ⟨6, _⟩ => ⟨S4x64x1408, .bf16⟩
  | .local _ .vmem, ⟨7, _⟩ => ⟨S4x64x1408, .bf16⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4x1024x1408 : Shape := ⟨3, ![4, 1024, 1408]⟩
abbrev S4x4096x1408 : Shape := ⟨3, ![4, 4096, 1408]⟩
abbrev S_ : Shape := ⟨0, ![]⟩
abbrev S4096x1408 : Shape := ⟨2, ![4096, 1408]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x4096x1408, .bf16⟩
  | .hbm, ⟨4, _⟩ => ⟨S4x4096x1408, .f32⟩
  | .hbm, ⟨5, _⟩ => ⟨S_, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S_, .f32⟩
  | .hbm, ⟨11, _⟩ => ⟨S4096x1408, .f32⟩
  | .hbm, ⟨12, _⟩ => ⟨S4096x1408, .f32⟩
  | .hbm, ⟨13, _⟩ => ⟨S_, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S_, .f32⟩
  | .hbm, ⟨18, _⟩ => ⟨S4096x1408, .f32⟩
  | .hbm, ⟨19, _⟩ => ⟨S4096x1408, .f32⟩
  | .hbm, ⟨20, _⟩ => ⟨S4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S4096x1408, .f32⟩
  | .hbm, ⟨25, _⟩ => ⟨S_, .f32⟩
  | .hbm, ⟨26, _⟩ => ⟨S4096x1408, .f32⟩
  | .hbm, ⟨27, _⟩ => ⟨S4096x1408, .f32⟩
  | .hbm, ⟨28, _⟩ => ⟨S_, .f32⟩
  | .hbm, ⟨29, _⟩ => ⟨S4096x1408, .f32⟩
  | .hbm, ⟨30, _⟩ => ⟨S4096x1408, .f32⟩
  | .hbm, ⟨31, _⟩ => ⟨S4096x1408, .f32⟩
  | .hbm, ⟨32, _⟩ => ⟨S_, .f32⟩
  | .hbm, ⟨33, _⟩ => ⟨S4096x1408, .f32⟩
  | .hbm, ⟨34, _⟩ => ⟨S4096x1408, .f32⟩
  | .hbm, ⟨35, _⟩ => ⟨S4096x1408, .f32⟩
  | .hbm, ⟨36, _⟩ => ⟨S_, .f32⟩
  | .hbm, ⟨37, _⟩ => ⟨S4096x1408, .f32⟩
  | .hbm, ⟨38, _⟩ => ⟨S4096x1408, .f32⟩
  | .hbm, ⟨39, _⟩ => ⟨S4096x1408, .f32⟩
  | .hbm, ⟨40, _⟩ => ⟨S_, .f32⟩
  | .hbm, ⟨41, _⟩ => ⟨S4096x1408, .f32⟩
  | .hbm, ⟨42, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel24.lean ====
abbrev S4x704x1024 : Shape := ⟨3, ![4, 704, 1024]⟩
abbrev S4x2816x1024 : Shape := ⟨3, ![4, 2816, 1024]⟩
abbrev S2816x1024 : Shape := ⟨2, ![2816, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x2816x1024, .bf16⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4x704x1024 : Shape := ⟨3, ![4, 704, 1024]⟩
abbrev S4x2816x1024 : Shape := ⟨3, ![4, 2816, 1024]⟩
abbrev S_ : Shape := ⟨0, ![]⟩
abbrev S2816x1024 : Shape := ⟨2, ![2816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x2816x1024, .bf16⟩
  | .hbm, ⟨4, _⟩ => ⟨S4x2816x1024, .f32⟩
  | .hbm, ⟨5, _⟩ => ⟨S_, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S_, .f32⟩
  | .hbm, ⟨11, _⟩ => ⟨S2816x1024, .f32⟩
  | .hbm, ⟨12, _⟩ => ⟨S2816x1024, .f32⟩
  | .hbm, ⟨13, _⟩ => ⟨S_, .f32⟩
  | .hbm, ⟨14, _⟩ => ⟨S2816x1024, .f32⟩
  | .hbm, ⟨15, _⟩ => ⟨S2816x1024, .f32⟩
  | .hbm, ⟨16, _⟩ => ⟨S2816x1024, .f32⟩
  | .hbm, ⟨17, _⟩ => ⟨S_, .f32⟩
  | .hbm, ⟨18, _⟩ => ⟨S2816x1024, .f32⟩
  | .hbm, ⟨19, _⟩ => ⟨S2816x1024, .f32⟩
  | .hbm, ⟨20, _⟩ => ⟨S2816x1024, .f32⟩
  | .hbm, ⟨21, _⟩ => ⟨S_, .f32⟩
  | .hbm, ⟨22, _⟩ => ⟨S2816x1024, .f32⟩
  | .hbm, ⟨23, _⟩ => ⟨S2816x1024, .f32⟩
  | .hbm, ⟨24, _⟩ => ⟨S2816x1024, .f32⟩
  | .hbm, ⟨25, _⟩ => ⟨S_, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S_, .f32⟩
  | .hbm, ⟨41, _⟩ => ⟨S2816x1024, .f32⟩
  | .hbm, ⟨42, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel25.lean ====
abbrev S1x512 : Shape := ⟨2, ![1, 512]⟩
abbrev S4x1x512 : Shape := ⟨3, ![4, 1, 512]⟩
abbrev S1x1x512 : Shape := ⟨3, ![1, 1, 512]⟩

abbrev nBuf : Space → Nat
  | .hbm => 9
  | .vmem => 9
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S4x1x512, .f32⟩
  | .hbm, ⟨4, _⟩ => ⟨S4x1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S4x1x512, .f32⟩
  | .local _ .vmem, ⟨4, _⟩ => ⟨S4x1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference25Ideal.lean ====
abbrev S1x512 : Shape := ⟨2, ![1, 512]⟩
abbrev S4x1x512 : Shape := ⟨3, ![4, 1, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S4x1x512, .f32⟩
  | .hbm, ⟨4, _⟩ => ⟨S4x1x512, .f32⟩
  | .hbm, ⟨5, _⟩ => ⟨S_, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S1x512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S_, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel26.lean ====
abbrev S1x4x256 : Shape := ⟨3, ![1, 4, 256]⟩
abbrev S4x4x256 : Shape := ⟨3, ![4, 4, 256]⟩
abbrev S4x256 : Shape := ⟨2, ![4, 256]⟩

abbrev nBuf : Space → Nat
  | .hbm => 12
  | .vmem => 9
  | .smem => 0
  | _ => 0

abbrev bufTy : (tb : Table) → Fin (tcTables nBuf tb) → BufTy
  | .hbm, ⟨0, _⟩ => ⟨S1x4x256, .f32⟩
  | .hbm, ⟨1, _⟩ => ⟨S1x4x256, .f32⟩
  | .hbm, ⟨2, _⟩ => ⟨S1x4x256, .f32⟩
  | .hbm, ⟨3, _⟩ => ⟨S4x4x256, .f32⟩
  | .hbm, ⟨4, _⟩ => ⟨S4x4x256, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x4x256, .f32⟩
  | .local _ .vmem, ⟨4, _⟩ => ⟨S4x4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | _, _ => ⟨S1x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference26Ideal.lean ====
abbrev S1x4x256 : Shape := ⟨3, ![1, 4, 256]⟩
abbrev S4x4x256 : Shape := ⟨3, ![4, 4, 256]⟩
abbrev S_ : Shape := ⟨0, ![]⟩
abbrev S4x256 : Shape := ⟨2, ![4, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x4x256, .f32⟩
  | .hbm, ⟨1, _⟩ => ⟨S1x4x256, .f32⟩
  | .hbm, ⟨2, _⟩ => ⟨S1x4x256, .f32⟩
  | .hbm, ⟨3, _⟩ => ⟨S4x4x256, .f32⟩
  | .hbm, ⟨4, _⟩ => ⟨S4x4x256, .f32⟩
  | .hbm, ⟨5, _⟩ => ⟨S_, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S_, .f32⟩
  | .hbm, ⟨14, _⟩ => ⟨S4x256, .f32⟩
  | .hbm, ⟨15, _⟩ => ⟨S4x256, .f32⟩
  | .hbm, ⟨16, _⟩ => ⟨S_, .f32⟩
  | .hbm, ⟨17, _⟩ => ⟨S4x256, .f32⟩
  | .hbm, ⟨18, _⟩ => ⟨S4x256, .f32⟩
  | .hbm, ⟨19, _⟩ => ⟨S4x256, .f32⟩
  | .hbm, ⟨20, _⟩ => ⟨S_, .f32⟩
  | .hbm, ⟨21, _⟩ => ⟨S4x256, .f32⟩
  | .hbm, ⟨22, _⟩ => ⟨S4x256, .f32⟩
  | .hbm, ⟨23, _⟩ => ⟨S4x256, .f32⟩
  | .hbm, ⟨24, _⟩ => ⟨S_, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S_, .f32⟩
  | .hbm, ⟨32, _⟩ => ⟨S4x256, .f32⟩
  | .hbm, ⟨33, _⟩ => ⟨S4x256, .f32⟩
  | .hbm, ⟨34, _⟩ => ⟨S4x256, .f32⟩
  | .hbm, ⟨35, _⟩ => ⟨S_, .f32⟩
  | .hbm, ⟨36, _⟩ => ⟨S4x256, .f32⟩
  | .hbm, ⟨37, _⟩ => ⟨S4x256, .f32⟩
  | .hbm, ⟨38, _⟩ => ⟨S4x256, .f32⟩
  | .hbm, ⟨39, _⟩ => ⟨S_, .f32⟩
  | .hbm, ⟨40, _⟩ => ⟨S4x256, .f32⟩
  | .hbm, ⟨41, _⟩ => ⟨S4x256, .f32⟩
  | .hbm, ⟨42, _⟩ => ⟨S4x256, .f32⟩
  | .hbm, ⟨43, _⟩ => ⟨S_, .f32⟩
  | .hbm, ⟨44, _⟩ => ⟨S4x256, .f32⟩
  | .hbm, ⟨45, _⟩ => ⟨S4x256, .f32⟩
  | _, _ => ⟨S1x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel27.lean ====
abbrev S4x3x1408 : Shape := ⟨3, ![4, 3, 1408]⟩
abbrev S4x12x1408 : Shape := ⟨3, ![4, 12, 1408]⟩
abbrev S12x1408 : Shape := ⟨2, ![12, 1408]⟩
abbrev S1x12x1408 : Shape := ⟨3, ![1, 12, 1408]⟩

abbrev nBuf : Space → Nat
  | .hbm => 12
  | .vmem => 9
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x12x1408, .f32⟩
  | .hbm, ⟨4, _⟩ => ⟨S4x12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S4x12x1408, .f32⟩
  | .local _ .vmem, ⟨4, _⟩ => ⟨S4x12x1408, .f32⟩
  | .local _ .vmem, ⟨5, _⟩ => ⟨S12x1408, .f32⟩
  | .local _ .vmem, ⟨6, _⟩ => ⟨S12x1408, .f32⟩
  | .local _ .vmem, ⟨7, _⟩ => ⟨S12x1408, .f32⟩
  | .local _ .vmem, ⟨8, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S12x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference27Ideal.lean ====
abbrev S4x3x1408 : Shape := ⟨3, ![4, 3, 1408]⟩
abbrev S4x12x1408 : Shape := ⟨3, ![4, 12, 1408]⟩
abbrev S_ : Shape := ⟨0, ![]⟩
abbrev S12x1408 : Shape := ⟨2, ![12, 1408]⟩

abbrev nBuf : Space → Nat
  | .hbm => 46
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x12x1408, .f32⟩
  | .hbm, ⟨4, _⟩ => ⟨S4x12x1408, .f32⟩
  | .hbm, ⟨5, _⟩ => ⟨S_, .f32⟩
  | .hbm, ⟨6, _⟩ => ⟨S12x1408, .f32⟩
  | .hbm, ⟨7, _⟩ => ⟨S_, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S12x1408, .f32⟩
  | .hbm, ⟨12, _⟩ => ⟨S12x1408, .f32⟩
  | .hbm, ⟨13, _⟩ => ⟨S_, .f32⟩
  | .hbm, ⟨14, _⟩ => ⟨S12x1408, .f32⟩
  | .hbm, ⟨15, _⟩ => ⟨S12x1408, .f32⟩
  | .hbm, ⟨16, _⟩ => ⟨S_, .f32⟩
  | .hbm, ⟨17, _⟩ => ⟨S12x1408, .f32⟩
  | .hbm, ⟨18, _⟩ => ⟨S12x1408, .f32⟩
  | .hbm, ⟨19, _⟩ => ⟨S12x1408, .f32⟩
  | .hbm, ⟨20, _⟩ => ⟨S_, .f32⟩
  | .hbm, ⟨21, _⟩ => ⟨S12x1408, .f32⟩
  | .hbm, ⟨22, _⟩ => ⟨S12x1408, .f32⟩
  | .hbm, ⟨23, _⟩ => ⟨S12x1408, .f32⟩
  | .hbm, ⟨24, _⟩ => ⟨S_, .f32⟩
  | .hbm, ⟨25, _⟩ => ⟨S12x1408, .f32⟩
  | .hbm, ⟨26, _⟩ => ⟨S12x1408, .f32⟩
  | .hbm, ⟨27, _⟩ => ⟨S12x1408, .f32⟩
  | .hbm, ⟨28, _⟩ => ⟨S_, .f32⟩
  | .hbm, ⟨29, _⟩ => ⟨S12x1408, .f32⟩
  | .hbm, ⟨30, _⟩ => ⟨S12x1408, .f32⟩
  | .hbm, ⟨31, _⟩ => ⟨S_, .f32⟩
  | .hbm, ⟨32, _⟩ => ⟨S12x1408, .f32⟩
  | .hbm, ⟨33, _⟩ => ⟨S12x1408, .f32⟩
  | .hbm, ⟨34, _⟩ => ⟨S12x1408, .f32⟩
  | .hbm, ⟨35, _⟩ => ⟨S_, .f32⟩
  | .hbm, ⟨36, _⟩ => ⟨S12x1408, .f32⟩
  | .hbm, ⟨37, _⟩ => ⟨S12x1408, .f32⟩
  | .hbm, ⟨38, _⟩ => ⟨S12x1408, .f32⟩
  | .hbm, ⟨39, _⟩ => ⟨S_, .f32⟩
  | .hbm, ⟨40, _⟩ => ⟨S12x1408, .f32⟩
  | .hbm, ⟨41, _⟩ => ⟨S12x1408, .f32⟩
  | .hbm, ⟨42, _⟩ => ⟨S12x1408, .f32⟩
  | .hbm, ⟨43, _⟩ => ⟨S_, .f32⟩
  | .hbm, ⟨44, _⟩ => ⟨S12x1408, .f32⟩
  | .hbm, ⟨45, _⟩ => ⟨S12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.MatSum.lean ====
/-
  Tiled matrix products, stated once for every program: the sums a tile holds, what a grid that accumulates over the
  summed index leaves, where a block's entry lies in its array, and what whole stores and loads of a buffer read.
-/
module

public import Idealize.ShloMosaic.Init
public import Idealize.ShloMosaic.Lib.Pointwise
public import Idealize.ShloMosaic.Lib.ValueIdx
public import Idealize.ShloMosaic.Lib.VecWindow
public import Idealize.ShloMosaic.Lib.Pipeline.Value
public import Mathlib.Algebra.BigOperators.Fin

@[expose] public section

noncomputable section

open Idealize.ShloMosaic

namespace Cert.Proof.MatSum

/-- A matrix read at two natural numbers: its entry where both are in range, zero elsewhere. -/
def at2 {M N : ℕ} (A : Fin M → Fin N → EReal) (i j : ℕ) : EReal :=
  if h : i < M ∧ j < N then A ⟨i, h.1⟩ ⟨j, h.2⟩ else 0

/-- In range it is the entry. -/
theorem at2_eq {M N : ℕ} (A : Fin M → Fin N → EReal) (i : Fin M) (j : Fin N) : at2 A i.val j.val = A i j :=
  dif_pos ⟨i.isLt, j.isLt⟩

/-- An array is read at an index through the index's two coordinates. -/
theorem entry_at {α : Type} {M N : ℕ} (f : (⟨2, ![M, N]⟩ : Shape).Idx → α) (e : (⟨2, ![M, N]⟩ : Shape).Idx) {i : Fin M} {j : Fin N}
    (h0 : (e 0).val = i.val) (h1 : (e 1).val = j.val) : f e = f (ix2 i j) :=
  congrArg f (funext fun a => match a with | ⟨0, _⟩ => Fin.ext h0 | ⟨1, _⟩ => Fin.ext h1)

/-- Row `a` of the `q`-th block of 512 rows, of 4096. -/
def row512 (q : ℕ) (h : q < 8) (a : Fin 512) : Fin 4096 := ⟨q * 512 + a.val, by have ha := a.isLt; omega⟩

/-- An array's entry is the matrix read at the entry's two coordinates; -/
theorem entry {M N : ℕ} (f : (⟨2, ![M, N]⟩ : Shape).Idx → EReal) (e : (⟨2, ![M, N]⟩ : Shape).Idx) {i j : ℕ}
    (h0 : (e 0).val = i) (h1 : (e 1).val = j) : f e = at2 (fun x y => f (ix2 x y)) i j := by
  subst h0 h1
  have he : e = ix2 (e 0) (e 1) := funext fun a => match a with | ⟨0, _⟩ => rfl | ⟨1, _⟩ => rfl
  exact (congrArg f he).trans (at2_eq (fun x y => f (ix2 x y)) (e 0) (e 1)).symm

/-- and of the matrix with its two indices exchanged, at the exchanged coordinates. -/
theorem entry_swap {M N : ℕ} (f : (⟨2, ![M, N]⟩ : Shape).Idx → EReal) (e : (⟨2, ![M, N]⟩ : Shape).Idx) {i j : ℕ}
    (h0 : (e 1).val = i) (h1 : (e 0).val = j) : f e = at2 (fun x y => f (ix2 y x)) i j := by
  subst h0 h1
  have he : e = ix2 (e 0) (e 1) := funext fun a => match a with | ⟨0, _⟩ => rfl | ⟨1, _⟩ => rfl
  exact (congrArg f he).trans (at2_eq (fun x y => f (ix2 y x)) (e 1) (e 0)).symm

/-- A sum over `n` blocks of `t` terms each is the sum over all `n * t` terms. -/
theorem sum_blocks (f : ℕ → EReal) (t : ℕ) : ∀ n : ℕ,
    ∑ s ∈ Finset.range n, ∑ k : Fin t, f (s * t + k.val) = ∑ k ∈ Finset.range (n * t), f k
  | 0 => by simp
  | n + 1 => by
    rw [Finset.sum_range_succ, sum_blocks f t n, Nat.succ_mul, Finset.sum_range_add,
      Fin.sum_univ_eq_sum_range (fun k => f (n * t + k))]

/-- The blocks' sum as a sum over the indices below `K`. -/
theorem sum_blocks_fin (f : ℕ → EReal) (n t K : ℕ) (hK : n * t = K) :
    ∑ s ∈ Finset.range n, ∑ k : Fin t, f (s * t + k.val) = ∑ k : Fin K, f k.val := by
  rw [sum_blocks, hK, Fin.sum_univ_eq_sum_range]

/-- What block `u` of the summed index adds to entry `a, b` of tile `r`: the tiles are `tm` by `tn`, `nj` of them in
    a row, and a block of the summed index holds `tk` terms. Both matrices are read with the summed index second. -/
def part {M N K : ℕ} (A : Fin M → Fin K → EReal) (B : Fin N → Fin K → EReal) (tm tn tk nj r a b u : ℕ) : EReal :=
  ∑ k : Fin tk, at2 A (r / nj * tm + a) (u * tk + k.val) * at2 B (r % nj * tn + b) (u * tk + k.val)

/-- All the blocks of the summed index together are the whole row times the whole column. -/
theorem sum_part {M N K : ℕ} (A : Fin M → Fin K → EReal) (B : Fin N → Fin K → EReal) {tm tn tk nj nk r a b : ℕ}
    (hK : nk * tk = K) {i : Fin M} {j : Fin N} (hi : i.val = r / nj * tm + a) (hj : j.val = r % nj * tn + b) :
    ∑ u ∈ Finset.range nk, part A B tm tn tk nj r a b u = ∑ k : Fin K, A i k * B j k := by
  unfold part
  rw [← hi, ← hj, sum_blocks_fin (fun k => at2 A i.val k * at2 B j.val k) nk tk K hK]
  exact Finset.sum_congr rfl fun k _ => congrArg₂ (· * ·) (at2_eq A i k) (at2_eq B j k)

/-- Where the summed index is one block, that block alone is. -/
theorem part_one {M N K : ℕ} (A : Fin M → Fin K → EReal) (B : Fin N → Fin K → EReal) {tm tn nj r a b : ℕ}
    {i : Fin M} {j : Fin N} (hi : i.val = r / nj * tm + a) (hj : j.val = r % nj * tn + b) :
    part A B tm tn K nj r a b 0 = ∑ k : Fin K, A i k * B j k :=
  (Finset.sum_range_one (part A B tm tn K nj r a b)).symm.trans (sum_part A B (Nat.one_mul K) hi hj)

/-- Entry `i, j` lies in the tile numbered `nj * (i / tm) + j / tn`, whose row of tiles is `i / tm` -/
theorem tile_row {tm tn nj : ℕ} (i : ℕ) {j : ℕ} (hj : j < nj * tn) : (nj * (i / tm) + j / tn) / nj = i / tm := by
  have h : j / tn < nj := Nat.div_lt_of_lt_mul (by rwa [Nat.mul_comm])
  rw [Nat.mul_add_div (Nat.zero_lt_of_lt h), Nat.div_eq_of_lt h, Nat.add_zero]

/-- and whose column is `j / tn`. -/
theorem tile_col {tm tn nj : ℕ} (i : ℕ) {j : ℕ} (hj : j < nj * tn) : (nj * (i / tm) + j / tn) % nj = j / tn := by
  have h : j / tn < nj := Nat.div_lt_of_lt_mul (by rwa [Nat.mul_comm])
  rw [Nat.mul_add_mod, Nat.mod_eq_of_lt h]

/-- There is such a tile. -/
theorem tile_lt {tm tn ni nj i j : ℕ} (hi : i < ni * tm) (hj : j < nj * tn) : nj * (i / tm) + j / tn < ni * nj := by
  have h : j / tn < nj := Nat.div_lt_of_lt_mul (by rwa [Nat.mul_comm])
  have h' : i / tm < ni := Nat.div_lt_of_lt_mul (by rwa [Nat.mul_comm])
  calc nj * (i / tm) + j / tn < nj * (i / tm) + nj := by omega
    _ = nj * (i / tm + 1) := (Nat.mul_succ _ _).symm
    _ ≤ nj * ni := Nat.mul_le_mul_left _ h'
    _ = ni * nj := Nat.mul_comm _ _

/-- The tile's own blocks of the summed index, all together, are the whole row times the whole column. -/
theorem sum_part_tile {M N K : ℕ} (A : Fin M → Fin K → EReal) (B : Fin N → Fin K → EReal) (tm tn tk nj nk : ℕ)
    (hK : nk * tk = K) (hN : N = nj * tn) (i : Fin M) (j : Fin N) :
    ∑ u ∈ Finset.range nk, part A B tm tn tk nj (nj * (i.val / tm) + j.val / tn) (i.val % tm) (j.val % tn) u
      = ∑ k : Fin K, A i k * B j k :=
  sum_part A B hK (by rw [tile_row _ (hN ▸ j.isLt), Nat.div_add_mod']) (by rw [tile_col _ (hN ▸ j.isLt), Nat.div_add_mod'])

/-- A coordinate lies between its block's first coordinate and the next block's. -/
theorem block_mem {q x s : ℕ} (hs : 0 < s) (h : q = x / s) : q * s ≤ x ∧ x < q * s + s := by
  subst h
  exact ⟨Nat.div_mul_le_self _ _, Nat.lt_div_mul_add hs⟩

/-- An accumulator which every `nk`-th point starts at that point's term and every other point raises by its term
    holds, after each point, the sum of its run's terms so far. -/
theorem run_sum {N : ℕ} (nk : ℕ) (acc : (n : ℕ) → n < N → EReal) (p : ℕ → ℕ → EReal)
    (first : ∀ (n : ℕ) (h : n < N), n % nk = 0 → acc n h = p (n / nk) (n % nk))
    (step : ∀ (n : ℕ) (h : n + 1 < N), ¬(n + 1) % nk = 0 →
      acc (n + 1) h = acc n (Nat.lt_of_succ_lt h) + p ((n + 1) / nk) ((n + 1) % nk)) :
    ∀ (n : ℕ) (h : n < N), acc n h = ∑ u ∈ Finset.range (n % nk + 1), p (n / nk) u := by
  have start : ∀ (n : ℕ) (h : n < N), n % nk = 0 → acc n h = ∑ u ∈ Finset.range (n % nk + 1), p (n / nk) u :=
    fun n h h0 => by rw [first n h h0, h0, Finset.sum_range_one]
  intro n
  induction n with
  | zero => exact fun h => start 0 h (Nat.zero_mod _)
  | succ n ih =>
    intro h
    by_cases h0 : (n + 1) % nk = 0
    · exact start (n + 1) h h0
    · have hd : ¬nk ∣ n + 1 := fun hd => h0 (Nat.mod_eq_zero_of_dvd hd)
      have ed : (n + 1) / nk = n / nk := Nat.succ_div_of_not_dvd hd
      have em : (n + 1) % nk = n % nk + 1 := by
        have e1 := Nat.div_add_mod (n + 1) nk
        have e2 := Nat.div_add_mod n nk
        rw [ed] at e1
        omega
      rw [step n h h0, ih (Nat.lt_of_succ_lt h), ed, em, Finset.sum_range_succ _ (n % nk + 1)]

/-- An accumulating grid with an output block. At each run's first point the accumulator `scr` starts at the point's
    block product, at every other it is raised by it, and where the run ends the output `out` holds the accumulator.
    Then, at a run's end, the output holds the sum of the run's block products. -/
theorem run_end {N : ℕ} (nk : ℕ) (scr out : (n : ℕ) → n < N → EReal) (p : ℕ → ℕ → EReal)
    (first : ∀ (n : ℕ) (h : n < N), n % nk = 0 → scr n h = p (n / nk) (n % nk))
    (step : ∀ (n : ℕ) (h : n + 1 < N), ¬(n + 1) % nk = 0 →
      scr (n + 1) h = scr n (Nat.lt_of_succ_lt h) + p ((n + 1) / nk) ((n + 1) % nk))
    (last : ∀ (n : ℕ) (h : n < N), n % nk + 1 = nk → out n h = scr n h) :
    ∀ (n : ℕ) (h : n < N), n % nk + 1 = nk → out n h = ∑ u ∈ Finset.range nk, p (n / nk) u := fun n h he => by
  rw [last n h he, run_sum nk scr p first step n h, he]

/-- A buffer's whole extent starts at zero on both axes. -/
theorem hz : (![0, 0] : Fin 2 → Nat) = fun _ => 0 := funext fun a => by fin_cases a <;> rfl

/-- A load of a whole buffer held at `x` reads `x`. -/
theorem ld_whole {F : FTy → Type} [FloatOps F] {sig : RefSig} {κ : Kind} {sp : Space} {s : Shape} {e : EltTy} (M : Memref sig κ sp s e)
    (hM : M.IsWhole) (x : Vec F s e) {off : Fin s.rank → ℕ} (inb : ∀ a, off a + s.size a ≤ s.size a) :
    M.view.readAt (Elt F) (Rect.unit off s.size inb).toLoadRect (hM.unread x) = x :=
  (View.readAt_full _ _ _).trans (hM.read_unread _)

end Cert.Proof.MatSum

end
-- ==== Proof.FfnInDx.lean ====
/-
  The gradient of the feed-forward's input through its first weight: what the accumulating grid leaves, entry by entry.
-/
module

public import proofs.«01_k».proof.Defs
public import proofs.«01_k».proof.Proof.Gen.Kernel2Ideal.Value
public import proofs.«01_k».proof.Proof.Gen.Reference2Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnInDx

open Cert.Kernel2Ideal Cert.Kernel2Ideal.Gen Cert.Kernel2Ideal.Value Cert.Proof.MatSum

variable (m : (ℓ : Loc nD τ sig) → Buf (Elt Ideal) ℓ)

/-- The two factors as matrices of extended reals, each read with the summed index second. -/
abbrev lhs (c : Dev nD) : Fin 4096 → Fin 5632 → EReal := fun a b => m ((c : Thread nD τ).loc main_arg0) (ix2 a b)
abbrev rhs (c : Dev nD) : Fin 1024 → Fin 5632 → EReal := fun a b => m ((c : Thread nD τ).loc main_arg1) (ix2 a b)

/-- The windows' block indices at every point. -/
theorem index_eq : ∀ t : Fin cfg0.N, win0_0.index t (0 : Fin 2) = t.val / 4 / 2 ∧ win0_0.index t (1 : Fin 2) = t.val % 4
    ∧ win0_1.index t (0 : Fin 2) = t.val / 4 % 2 ∧ win0_1.index t (1 : Fin 2) = t.val % 4 :=
  (by decide +kernel : ∀ t : Fin grid0.N, _)

/-- The left block at a point, entry by entry; -/
theorem lblk (c : Dev nD) (t : Fin cfg0.N) (a : Fin 2048) (b : Fin 1408) :
    iblk m c 0 t (ix2 a b) = at2 (lhs m c) (t.val / 4 / 2 * 2048 + a.val) (t.val % 4 * 1408 + b.val) := by
  obtain ⟨e0, e1, -, -⟩ := index_eq t
  exact entry (m ((c : Thread nD τ).loc main_arg0)) (((cfg0.win 0).blk t).view.emb (ix2 a b))
    (by show win0_0.index t 0 * 2048 + 1 * a.val = _; rw [e0, Nat.one_mul])
    (by show win0_0.index t 1 * 1408 + 1 * b.val = _; rw [e1, Nat.one_mul])

/-- the right block too. -/
theorem rblk (c : Dev nD) (t : Fin cfg0.N) (a : Fin 512) (b : Fin 1408) :
    iblk m c 1 t (ix2 a b) = at2 (rhs m c) (t.val / 4 % 2 * 512 + a.val) (t.val % 4 * 1408 + b.val) := by
  obtain ⟨-, -, e0, e1⟩ := index_eq t
  exact entry (m ((c : Thread nD τ).loc main_arg1)) (((cfg0.win 1).blk t).view.emb (ix2 a b))
    (by show win0_1.index t 0 * 512 + 1 * a.val = _; rw [e0, Nat.one_mul])
    (by show win0_1.index t 1 * 1408 + 1 * b.val = _; rw [e1, Nat.one_mul])

/-- The block product at a point. -/
theorem pay_at (c : Dev nD) (t : Fin cfg0.N) (j : S2048x512.Idx) :
    k0_pay1 (F := Ideal) (iblk m c 0 t) (iblk m c 1 t) j
      = part (lhs m c) (rhs m c) 2048 512 1408 2 (t.val / 4) (j 0).val (j 1).val (t.val % 4) := by
  idx_vars j
  refine Eq.trans (b := ∑ k : Fin 1408, (fun a b : EReal => a * b) (iblk m c 0 t (ix2 j0 k)) (iblk m c 1 t (ix2 j1 k))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S2048x1408 .bf16) (h3 : a3.IsWhole)
  (a4 : Memref sig .tc .vmem S512x1408 .bf16) (h4 : a4.IsWhole) (a5 : Memref sig .tc .vmem S2048x512 .f32) (h5 : a5.IsWhole)
  (a6 : Memref sig .tc .vmem S2048x512 .f32) (h6 : a6.IsWhole)
  (x0 : Vec Ideal S2048x1408 .bf16) (x1 : Vec Ideal S512x1408 .bf16) (xs : Vec Ideal S2048x512 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S2048x512.Idx) : ∀ (n : ℕ) (h : n < cfg0.N), n % 4 + 1 = 4 →
    (outsAt0 m c n h).1 j = ∑ u ∈ Finset.range 4, part (lhs m c) (rhs m c) 2048 512 1408 2 (n / 4) (j 0).val (j 1).val u := by
  refine run_end 4 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 4 = 3
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S4096x1024.Idx) : G2 m c i = ∑ k : Fin 5632, lhs m c (i 0) k * rhs m c (i 1) k := by
  have hp : pt2Of i < cfg0.N := by
    have := tile_lt (tm := 2048) (tn := 512) (ni := 2) (nj := 2) (i 0).isLt (i 1).isLt
    rw [show cfg0.N = 16 from N_0]; dsimp only [pt2Of, run2Of]; omega
  unfold G2
  rw [dif_pos hp, ← outsAt0_sweep m c (pt2Of i) hp, out_eq m c _ (pt2Of i) hp (by dsimp only [pt2Of, run2Of]; omega),
    show pt2Of i / 4 = 2 * ((i 0).val / 2048) + (i 1).val / 512 by dsimp only [pt2Of, run2Of]; omega]
  exact sum_part_tile (lhs m c) (rhs m c) 2048 512 1408 2 4 rfl rfl (i 0) (i 1)

/-- Over the extended reals the program's result is the reference's. -/
theorem equal : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => G2 m c, run (F := Ideal) m ρ, ?_⟩
  refine (θ_run Cert.Reference2Ideal.defs _ _).mono (fun _ h c => ⟨?_, (h c).2⟩) (Cert.Reference2Ideal.Value.run (F := Ideal) m' ρ')
  rw [(h c).1, (hagree c).1, (hagree c).2]
  funext (i : S4096x1024.Idx)
  refine Eq.trans ?_ (result_at m c i).symm
  idx_vars i
  pointwise

end Cert.Proof.FfnInDx

end
-- ==== Proof.FfnInDw.lean ====
/-
  The gradient of the feed-forward's first weight: what the accumulating grid leaves, entry by entry.
-/
module

public import proofs.«01_k».proof.Defs
public import proofs.«01_k».proof.Proof.Gen.Kernel3Ideal.Value
public import proofs.«01_k».proof.Proof.Gen.Reference3Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnInDw

open Cert.Kernel3Ideal Cert.Kernel3Ideal.Gen Cert.Kernel3Ideal.Value Cert.Proof.MatSum

variable (m : (ℓ : Loc nD τ sig) → Buf (Elt Ideal) ℓ)

/-- The two factors as matrices of extended reals, each read with the summed index second. -/
abbrev lhs (c : Dev nD) : Fin 1024 → Fin 4096 → EReal := fun a b => m ((c : Thread nD τ).loc main_arg0) (ix2 b a)
abbrev rhs (c : Dev nD) : Fin 5632 → Fin 4096 → EReal := fun a b => m ((c : Thread nD τ).loc main_arg1) (ix2 b a)

/-- The windows' block indices at every point. -/
theorem index_eq : ∀ t : Fin cfg0.N, win0_0.index t (1 : Fin 2) = t.val / 4 / 4 ∧ win0_0.index t (0 : Fin 2) = t.val % 4
    ∧ win0_1.index t (1 : Fin 2) = t.val / 4 % 4 ∧ win0_1.index t (0 : Fin 2) = t.val % 4 :=
  (by decide +kernel : ∀ t : Fin grid0.N, _)

/-- The left block at a point, entry by entry; -/
theorem lblk (c : Dev nD) (t : Fin cfg0.N) (a : Fin 512) (b : Fin 1024) :
    iblk m c 0 t (ix2 b a) = at2 (lhs m c) (t.val / 4 / 4 * 512 + a.val) (t.val % 4 * 1024 + b.val) := by
  obtain ⟨e0, e1, -, -⟩ := index_eq t
  exact entry_swap (m ((c : Thread nD τ).loc main_arg0)) (((cfg0.win 0).blk t).view.emb (ix2 b a))
    (by show win0_0.index t 1 * 512 + 1 * a.val = _; rw [e0, Nat.one_mul])
    (by show win0_0.index t 0 * 1024 + 1 * b.val = _; rw [e1, Nat.one_mul])

/-- the right block too. -/
theorem rblk (c : Dev nD) (t : Fin cfg0.N) (a : Fin 1408) (b : Fin 1024) :
    iblk m c 1 t (ix2 b a) = at2 (rhs m c) (t.val / 4 % 4 * 1408 + a.val) (t.val % 4 * 1024 + b.val) := by
  obtain ⟨-, -, e0, e1⟩ := index_eq t
  exact entry_swap (m ((c : Thread nD τ).loc main_arg1)) (((cfg0.win 1).blk t).view.emb (ix2 b a))
    (by show win0_1.index t 1 * 1408 + 1 * a.val = _; rw [e0, Nat.one_mul])
    (by show win0_1.index t 0 * 1024 + 1 * b.val = _; rw [e1, Nat.one_mul])

/-- The block product at a point. -/
theorem pay_at (c : Dev nD) (t : Fin cfg0.N) (j : S512x1408.Idx) :
    k0_pay1 (F := Ideal) (iblk m c 0 t) (iblk m c 1 t) j
      = part (lhs m c) (rhs m c) 512 1408 1024 4 (t.val / 4) (j 0).val (j 1).val (t.val % 4) := by
  idx_vars j
  refine Eq.trans (b := ∑ k : Fin 1024, (fun a b : EReal => a * b) (iblk m c 0 t (ix2 k j0)) (iblk m c 1 t (ix2 k j1))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S1024x512 .bf16) (h3 : a3.IsWhole)
  (a4 : Memref sig .tc .vmem S1024x1408 .bf16) (h4 : a4.IsWhole) (a5 : Memref sig .tc .vmem S512x1408 .f32) (h5 : a5.IsWhole)
  (a6 : Memref sig .tc .vmem S512x1408 .f32) (h6 : a6.IsWhole)
  (x0 : Vec Ideal S1024x512 .bf16) (x1 : Vec Ideal S1024x1408 .bf16) (xs : Vec Ideal S512x1408 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S512x1408.Idx) : ∀ (n : ℕ) (h : n < cfg0.N), n % 4 + 1 = 4 →
    (outsAt0 m c n h).1 j = ∑ u ∈ Finset.range 4, part (lhs m c) (rhs m c) 512 1408 1024 4 (n / 4) (j 0).val (j 1).val u := by
  refine run_end 4 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 4 = 3
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S1024x5632.Idx) : G2 m c i = ∑ k : Fin 4096, lhs m c (i 0) k * rhs m c (i 1) k := by
  have hp : pt2Of i < cfg0.N := by
    have := tile_lt (tm := 512) (tn := 1408) (ni := 2) (nj := 4) (i 0).isLt (i 1).isLt
    rw [show cfg0.N = 32 from N_0]; dsimp only [pt2Of, run2Of]; omega
  unfold G2
  rw [dif_pos hp, ← outsAt0_sweep m c (pt2Of i) hp, out_eq m c _ (pt2Of i) hp (by dsimp only [pt2Of, run2Of]; omega),
    show pt2Of i / 4 = 4 * ((i 0).val / 512) + (i 1).val / 1408 by dsimp only [pt2Of, run2Of]; omega]
  exact sum_part_tile (lhs m c) (rhs m c) 512 1408 1024 4 4 rfl rfl (i 0) (i 1)

/-- Over the extended reals the program's result is the reference's. -/
theorem equal : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => G2 m c, run (F := Ideal) m ρ, ?_⟩
  refine (θ_run Cert.Reference3Ideal.defs _ _).mono (fun _ h c => ⟨?_, (h c).2⟩) (Cert.Reference3Ideal.Value.run (F := Ideal) m' ρ')
  rw [(h c).1, (hagree c).1, (hagree c).2]
  funext (i : S1024x5632.Idx)
  refine Eq.trans ?_ (result_at m c i).symm
  idx_vars i
  pointwise
  exact Finset.sum_congr rfl fun k _ => mul_comm _ _

end Cert.Proof.FfnInDw

end
-- ==== Proof.FfnOutDx.lean ====
/-
  The gradient of the gated hidden rows through the feed-forward's second weight: what the grid leaves, entry by entry.
-/
module

public import proofs.«01_k».proof.Defs
public import proofs.«01_k».proof.Proof.Gen.Kernel4Ideal.Value
public import proofs.«01_k».proof.Proof.Gen.Reference4Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnOutDx

open Cert.Kernel4Ideal Cert.Kernel4Ideal.Gen Cert.Kernel4Ideal.Value Cert.Proof.MatSum

variable (m : (ℓ : Loc nD τ sig) → Buf (Elt Ideal) ℓ)

/-- The two factors as matrices of extended reals, each read with the summed index second. -/
abbrev lhs (c : Dev nD) : Fin 4096 → Fin 1024 → EReal := fun a b => m ((c : Thread nD τ).loc main_arg0) (ix2 a b)
abbrev rhs (c : Dev nD) : Fin 2816 → Fin 1024 → EReal := fun a b => m ((c : Thread nD τ).loc main_arg1) (ix2 a b)

/-- The windows' block indices at every point. -/
theorem index_eq : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The left block at a point, entry by entry; -/
theorem lblk (c : Dev nD) (t : Fin cfg0.N) (a : Fin 1024) (b : Fin 1024) :
    iblk m c 0 t (ix2 a b) = at2 (lhs m c) (t.val / 2 * 1024 + a.val) (0 * 1024 + b.val) := by
  obtain ⟨e0, e1, -⟩ := index_eq t
  exact entry (m ((c : Thread nD τ).loc main_arg0)) (((cfg0.win 0).blk t).view.emb (ix2 a b))
    (by show win0_0.index t 0 * 1024 + 1 * a.val = _; rw [e0, Nat.one_mul])
    (by show win0_0.index t 1 * 1024 + 1 * b.val = _; rw [e1, Nat.one_mul])

/-- the right block too. -/
theorem rblk (c : Dev nD) (t : Fin cfg0.N) (a : Fin 1408) (b : Fin 1024) :
    iblk m c 1 t (ix2 a b) = at2 (rhs m c) (t.val % 2 * 1408 + a.val) (0 * 1024 + b.val) := by
  obtain ⟨-, -, e0, e1, -⟩ := index_eq t
  exact entry (m ((c : Thread nD τ).loc main_arg1)) (((cfg0.win 1).blk t).view.emb (ix2 a b))
    (by show win0_1.index t 0 * 1408 + 1 * a.val = _; rw [e0, Nat.one_mul])
    (by show win0_1.index t 1 * 1024 + 1 * b.val = _; rw [e1, Nat.one_mul])

/-- The block product at a point. -/
theorem pay_at (c : Dev nD) (t : Fin cfg0.N) (j : S1024x1408.Idx) :
    k0_pay1 (F := Ideal) (iblk m c 0 t) (iblk m c 1 t) j
      = part (lhs m c) (rhs m c) 1024 1408 1024 2 t.val (j 0).val (j 1).val 0 := by
  idx_vars j
  refine Eq.trans (b := ∑ k : Fin 1024, (fun a b : EReal => a * b) (iblk m c 0 t (ix2 j0 k)) (iblk m c 1 t (ix2 j1 k))) ?_
    (Finset.sum_congr rfl fun k _ => congrArg₂ (fun a b : EReal => a * b) (lblk m c t j0 k) (rblk m c t j1 k))
  unfold k0_pay1
  pointwise

/-- The result, entry by entry. -/
def result (c : Dev nD) : Buf (Elt Ideal) ((c : Thread nD τ).loc main_v1) := fun i : S4096x2816.Idx =>
  (∑ k : Fin 1024, lhs m c (i 0) k * rhs m c (i 1) k : EReal)

/-- What the body leaves in the result's staging buffer. -/
theorem out_eq (x0 : Vec Ideal S1024x1024 .f32) (x1 : Vec Ideal S1408x1024 .bf16) :
    out0_2 (F := Ideal) x0 x1 = k0_pay1 (F := Ideal) x0 x1 := by
  unfold out0_2
  rw [View.canon_unit_zero hz]
  simp only [View.ld_unit_zero (S := S1024x1024) hz, View.ld_unit_zero (S := S1408x1024) hz]

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2, out_eq]
  funext j
  exact (pay_at m c t j).trans (part_one (lhs m c) (rhs m c)
    (i := (((cfg0.win 2).blk t).view.emb j : S4096x2816.Idx) 0) (j := (((cfg0.win 2).blk t).view.emb j : S4096x2816.Idx) 1)
    (by show win0_2.index t 0 * 1024 + 1 * (j 0).val = _; rw [e0, Nat.one_mul])
    (by show win0_2.index t 1 * 1408 + 1 * (j 1).val = _; rw [e1, Nat.one_mul]))

/-- The points' blocks cover the result. -/
theorem final (c : Dev nD) : (dats m 0 c).arrAt 2 cfg0.N = result m c :=
  (dats m 0 c).arrAt_eq_of_cover 2 (result m c) (flushed_eq m c) fun (i : S4096x2816.Idx) => by
    have ht : 2 * ((i 0).val / 1024) + (i 1).val / 1408 < cfg0.N :=
      lt_of_lt_of_eq (tile_lt (tm := 1024) (tn := 1408) (ni := 4) (nj := 2) (i 0).isLt (i 1).isLt) N_0.symm
    obtain ⟨-, -, -, -, e0, e1⟩ := index_eq ⟨_, ht⟩
    refine ⟨⟨_, ht⟩, flush0_2 _, ?_⟩
    show i ∈ ((View.whole main_v1).slice (win0_2.rect ⟨_, ht⟩)).set
    rw [View.set_slice_whole, Rect.mem_set_unit]
    intro a
    match a with
    | ⟨0, _⟩ => exact block_mem (by decide : 0 < 1024) (e0.trans (tile_row (tm := 1024) (tn := 1408) (nj := 2) (i 0).val (i 1).isLt))
    | ⟨1, _⟩ => exact block_mem (by decide : 0 < 1408) (e1.trans (tile_col (tm := 1024) (tn := 1408) (nj := 2) (i 0).val (i 1).isLt))

/-- Over the extended reals the program's result is the reference's. -/
theorem equal : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference4Ideal.defs _ _).mono (fun _ h c => ⟨?_, (h c).2⟩) (Cert.Reference4Ideal.Value.run (F := Ideal) m' ρ')
  rw [(h c).1, (hagree c).1, (hagree c).2]
  funext (i : S4096x2816.Idx)
  show _ = (∑ k : Fin 1024, lhs m c (i 0) k * rhs m c (i 1) k : EReal)
  idx_vars i
  pointwise

end Cert.Proof.FfnOutDx

end
-- ==== Proof.FfnOutDw.lean ====
/-
  The gradient of the feed-forward's second weight: what the accumulating grid leaves, entry by entry.
-/
module

public import proofs.«01_k».proof.Defs
public import proofs.«01_k».proof.Proof.Gen.Kernel5Ideal.Value
public import proofs.«01_k».proof.Proof.Gen.Reference5Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnOutDw

open Cert.Kernel5Ideal Cert.Kernel5Ideal.Gen Cert.Kernel5Ideal.Value Cert.Proof.MatSum

variable (m : (ℓ : Loc nD τ sig) → Buf (Elt Ideal) ℓ)

/-- The two factors as matrices of extended reals, each read with the summed index second. -/
abbrev lhs (c : Dev nD) : Fin 2816 → Fin 4096 → EReal := fun a b => m ((c : Thread nD τ).loc main_arg0) (ix2 b a)
abbrev rhs (c : Dev nD) : Fin 1024 → Fin 4096 → EReal := fun a b => m ((c : Thread nD τ).loc main_arg1) (ix2 b a)

/-- The windows' block indices at every point. -/
theorem index_eq : ∀ t : Fin cfg0.N, win0_0.index t (1 : Fin 2) = t.val / 4 / 2 ∧ win0_0.index t (0 : Fin 2) = t.val % 4
    ∧ win0_1.index t (1 : Fin 2) = t.val / 4 % 2 ∧ win0_1.index t (0 : Fin 2) = t.val % 4 :=
  (by decide +kernel : ∀ t : Fin grid0.N, _)

/-- The left block at a point, entry by entry; -/
theorem lblk (c : Dev nD) (t : Fin cfg0.N) (a : Fin 1408) (b : Fin 1024) :
    iblk m c 0 t (ix2 b a) = at2 (lhs m c) (t.val / 4 / 2 * 1408 + a.val) (t.val % 4 * 1024 + b.val) := by
  obtain ⟨e0, e1, -, -⟩ := index_eq t
  exact entry_swap (m ((c : Thread nD τ).loc main_arg0)) (((cfg0.win 0).blk t).view.emb (ix2 b a))
    (by show win0_0.index t 1 * 1408 + 1 * a.val = _; rw [e0, Nat.one_mul])
    (by show win0_0.index t 0 * 1024 + 1 * b.val = _; rw [e1, Nat.one_mul])

/-- the right block too. -/
theorem rblk (c : Dev nD) (t : Fin cfg0.N) (a : Fin 512) (b : Fin 1024) :
    iblk m c 1 t (ix2 b a) = at2 (rhs m c) (t.val / 4 % 2 * 512 + a.val) (t.val % 4 * 1024 + b.val) := by
  obtain ⟨-, -, e0, e1⟩ := index_eq t
  exact entry_swap (m ((c : Thread nD τ).loc main_arg1)) (((cfg0.win 1).blk t).view.emb (ix2 b a))
    (by show win0_1.index t 1 * 512 + 1 * a.val = _; rw [e0, Nat.one_mul])
    (by show win0_1.index t 0 * 1024 + 1 * b.val = _; rw [e1, Nat.one_mul])

/-- The block product at a point. -/
theorem pay_at (c : Dev nD) (t : Fin cfg0.N) (j : S1408x512.Idx) :
    k0_pay1 (F := Ideal) (iblk m c 0 t) (iblk m c 1 t) j
      = part (lhs m c) (rhs m c) 1408 512 1024 2 (t.val / 4) (j 0).val (j 1).val (t.val % 4) := by
  idx_vars j
  refine Eq.trans (b := ∑ k : Fin 1024, (fun a b : EReal => a * b) (iblk m c 0 t (ix2 k j0)) (iblk m c 1 t (ix2 k j1))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S1024x1408 .bf16) (h3 : a3.IsWhole)
  (a4 : Memref sig .tc .vmem S1024x512 .f32) (h4 : a4.IsWhole) (a5 : Memref sig .tc .vmem S1408x512 .f32) (h5 : a5.IsWhole)
  (a6 : Memref sig .tc .vmem S1408x512 .f32) (h6 : a6.IsWhole)
  (x0 : Vec Ideal S1024x1408 .bf16) (x1 : Vec Ideal S1024x512 .f32) (xs : Vec Ideal S1408x512 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S1408x512.Idx) : ∀ (n : ℕ) (h : n < cfg0.N), n % 4 + 1 = 4 →
    (outsAt0 m c n h).1 j = ∑ u ∈ Finset.range 4, part (lhs m c) (rhs m c) 1408 512 1024 2 (n / 4) (j 0).val (j 1).val u := by
  refine run_end 4 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 4 = 3
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S2816x1024.Idx) : G2 m c i = ∑ k : Fin 4096, lhs m c (i 0) k * rhs m c (i 1) k := by
  have hp : pt2Of i < cfg0.N := by
    have := tile_lt (tm := 1408) (tn := 512) (ni := 2) (nj := 2) (i 0).isLt (i 1).isLt
    rw [show cfg0.N = 16 from N_0]; dsimp only [pt2Of, run2Of]; omega
  unfold G2
  rw [dif_pos hp, ← outsAt0_sweep m c (pt2Of i) hp, out_eq m c _ (pt2Of i) hp (by dsimp only [pt2Of, run2Of]; omega),
    show pt2Of i / 4 = 2 * ((i 0).val / 1408) + (i 1).val / 512 by dsimp only [pt2Of, run2Of]; omega]
  exact sum_part_tile (lhs m c) (rhs m c) 1408 512 1024 2 4 rfl rfl (i 0) (i 1)

/-- Over the extended reals the program's result is the reference's. -/
theorem equal : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => G2 m c, run (F := Ideal) m ρ, ?_⟩
  refine (θ_run Cert.Reference5Ideal.defs _ _).mono (fun _ h c => ⟨?_, (h c).2⟩) (Cert.Reference5Ideal.Value.run (F := Ideal) m' ρ')
  rw [(h c).1, (hagree c).1, (hagree c).2]
  funext (i : S2816x1024.Idx)
  refine Eq.trans ?_ (result_at m c i).symm
  idx_vars i
  pointwise
  exact Finset.sum_congr rfl fun k _ => mul_comm _ _

end Cert.Proof.FfnOutDw

end
-- ==== Proof.FfnIn.lean ====
/-
  The feed-forward's first product: what the grid leaves, entry by entry.
-/
module

public import proofs.«01_k».proof.Defs
public import proofs.«01_k».proof.Proof.Gen.Kernel6Ideal.Value
public import proofs.«01_k».proof.Proof.Gen.Reference6Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnIn

open Cert.Kernel6Ideal Cert.Kernel6Ideal.Gen Cert.Kernel6Ideal.Value Cert.Proof.MatSum

variable (m : (ℓ : Loc nD τ sig) → Buf (Elt Ideal) ℓ)

/-- The two factors as matrices of extended reals, each read with the summed index second. -/
abbrev lhs (c : Dev nD) : Fin 4096 → Fin 1024 → EReal := fun a b => m ((c : Thread nD τ).loc main_arg0) (ix2 a b)
abbrev rhs (c : Dev nD) : Fin 5632 → Fin 1024 → EReal := fun a b => m ((c : Thread nD τ).loc main_arg1) (ix2 b a)

/-- The windows' block indices at every point. -/
theorem index_eq : ∀ t : Fin cfg0.N, win0_0.index t (0 : Fin 2) = t.val / 4 ∧ win0_0.index t (1 : Fin 2) = 0
    ∧ win0_1.index t (1 : Fin 2) = t.val % 4 ∧ win0_1.index t (0 : Fin 2) = 0
    ∧ win0_2.index t (0 : Fin 2) = t.val / 4 ∧ win0_2.index t (1 : Fin 2) = t.val % 4 :=
  (by decide +kernel : ∀ t : Fin grid0.N, _)

/-- The left block at a point, entry by entry; -/
theorem lblk (c : Dev nD) (t : Fin cfg0.N) (a : Fin 1024) (b : Fin 1024) :
    iblk m c 0 t (ix2 a b) = at2 (lhs m c) (t.val / 4 * 1024 + a.val) (0 * 1024 + b.val) := by
  obtain ⟨e0, e1, -⟩ := index_eq t
  exact entry (m ((c : Thread nD τ).loc main_arg0)) (((cfg0.win 0).blk t).view.emb (ix2 a b))
    (by show win0_0.index t 0 * 1024 + 1 * a.val = _; rw [e0, Nat.one_mul])
    (by show win0_0.index t 1 * 1024 + 1 * b.val = _; rw [e1, Nat.one_mul])

/-- the right block too. -/
theorem rblk (c : Dev nD) (t : Fin cfg0.N) (a : Fin 1408) (b : Fin 1024) :
    iblk m c 1 t (ix2 b a) = at2 (rhs m c) (t.val % 4 * 1408 + a.val) (0 * 1024 + b.val) := by
  obtain ⟨-, -, e0, e1, -⟩ := index_eq t
  exact entry_swap (m ((c : Thread nD τ).loc main_arg1)) (((cfg0.win 1).blk t).view.emb (ix2 b a))
    (by show win0_1.index t 1 * 1408 + 1 * a.val = _; rw [e0, Nat.one_mul])
    (by show win0_1.index t 0 * 1024 + 1 * b.val = _; rw [e1, Nat.one_mul])

/-- The block product at a point. -/
theorem pay_at (c : Dev nD) (t : Fin cfg0.N) (j : S1024x1408.Idx) :
    k0_pay1 (F := Ideal) (iblk m c 0 t) (iblk m c 1 t) j
      = part (lhs m c) (rhs m c) 1024 1408 1024 4 t.val (j 0).val (j 1).val 0 := by
  idx_vars j
  refine Eq.trans (b := ∑ k : Fin 1024, (fun a b : EReal => a * b) (iblk m c 0 t (ix2 j0 k)) (iblk m c 1 t (ix2 k j1))) ?_
    (Finset.sum_congr rfl fun k _ => congrArg₂ (fun a b : EReal => a * b) (lblk m c t j0 k) (rblk m c t j1 k))
  unfold k0_pay1
  pointwise

/-- The result, entry by entry. -/
def result (c : Dev nD) : Buf (Elt Ideal) ((c : Thread nD τ).loc main_v2) := fun i : S4096x5632.Idx =>
  (∑ k : Fin 1024, lhs m c (i 0) k * rhs m c (i 1) k : EReal)

/-- What the body leaves in the result's staging buffer. -/
theorem out_eq (x0 : Vec Ideal S1024x1024 .bf16) (x1 : Vec Ideal S1024x1408 .bf16) :
    out0_2 (F := Ideal) x0 x1 = k0_pay1 (F := Ideal) x0 x1 := by
  unfold out0_2
  rw [View.canon_unit_zero hz]
  simp only [View.ld_unit_zero (S := S1024x1024) hz, View.ld_unit_zero (S := S1024x1408) hz]

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2, out_eq]
  funext j
  exact (pay_at m c t j).trans (part_one (lhs m c) (rhs m c)
    (i := (((cfg0.win 2).blk t).view.emb j : S4096x5632.Idx) 0) (j := (((cfg0.win 2).blk t).view.emb j : S4096x5632.Idx) 1)
    (by show win0_2.index t 0 * 1024 + 1 * (j 0).val = _; rw [e0, Nat.one_mul])
    (by show win0_2.index t 1 * 1408 + 1 * (j 1).val = _; rw [e1, Nat.one_mul]))

/-- The points' blocks cover the result. -/
theorem final (c : Dev nD) : (dats m 0 c).arrAt 2 cfg0.N = result m c :=
  (dats m 0 c).arrAt_eq_of_cover 2 (result m c) (flushed_eq m c) fun (i : S4096x5632.Idx) => by
    have ht : 4 * ((i 0).val / 1024) + (i 1).val / 1408 < cfg0.N :=
      lt_of_lt_of_eq (tile_lt (tm := 1024) (tn := 1408) (ni := 4) (nj := 4) (i 0).isLt (i 1).isLt) N_0.symm
    obtain ⟨-, -, -, -, e0, e1⟩ := index_eq ⟨_, ht⟩
    refine ⟨⟨_, ht⟩, flush0_2 _, ?_⟩
    show i ∈ ((View.whole main_v2).slice (win0_2.rect ⟨_, ht⟩)).set
    rw [View.set_slice_whole, Rect.mem_set_unit]
    intro a
    match a with
    | ⟨0, _⟩ => exact block_mem (by decide : 0 < 1024) (e0.trans (tile_row (tm := 1024) (tn := 1408) (nj := 4) (i 0).val (i 1).isLt))
    | ⟨1, _⟩ => exact block_mem (by decide : 0 < 1408) (e1.trans (tile_col (tm := 1024) (tn := 1408) (nj := 4) (i 0).val (i 1).isLt))

/-- Over the extended reals the program's result is the reference's. -/
theorem equal : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference6Ideal.defs _ _).mono (fun _ h c => ⟨?_, (h c).2⟩) (Cert.Reference6Ideal.Value.run (F := Ideal) m' ρ')
  rw [(h c).1, (hagree c).1, (hagree c).2]
  funext (i : S4096x5632.Idx)
  show _ = (∑ k : Fin 1024, lhs m c (i 0) k * rhs m c (i 1) k : EReal)
  idx_vars i
  pointwise

end Cert.Proof.FfnIn

end
-- ==== Proof.FfnOut.lean ====
/-
  The feed-forward's second product, added to its residual: what the grid leaves, entry by entry.
-/
module

public import proofs.«01_k».proof.Defs
public import proofs.«01_k».proof.Proof.Gen.Kernel7Ideal.Value
public import proofs.«01_k».proof.Proof.Gen.Reference7Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.FfnOut

open Cert.Kernel7Ideal Cert.Kernel7Ideal.Gen Cert.Kernel7Ideal.Value Cert.Proof.MatSum

variable (m : (ℓ : Loc nD τ sig) → Buf (Elt Ideal) ℓ)

/-- The two factors as matrices of extended reals, each read with the summed index second. -/
abbrev lhs (c : Dev nD) : Fin 4096 → Fin 2816 → EReal := fun a b => m ((c : Thread nD τ).loc main_arg0) (ix2 a b)
abbrev rhs (c : Dev nD) : Fin 1024 → Fin 2816 → EReal := fun a b => m ((c : Thread nD τ).loc main_arg1) (ix2 b a)

/-- The windows' block indices at every point. -/
theorem index_eq : ∀ t : Fin cfg0.N, win0_0.index t (0 : Fin 2) = t.val / 2 ∧ win0_0.index t (1 : Fin 2) = 0
    ∧ win0_1.index t (1 : Fin 2) = t.val % 2 ∧ win0_1.index t (0 : Fin 2) = 0
    ∧ win0_2.index t (0 : Fin 2) = t.val / 2 ∧ win0_2.index t (1 : Fin 2) = t.val % 2
    ∧ win0_3.index t (0 : Fin 2) = t.val / 2 ∧ win0_3.index t (1 : Fin 2) = t.val % 2 :=
  (by decide +kernel : ∀ t : Fin grid0.N, _)

/-- The left block at a point, entry by entry; -/
theorem lblk (c : Dev nD) (t : Fin cfg0.N) (a : Fin 1024) (b : Fin 2816) :
    iblk m c 0 t (ix2 a b) = at2 (lhs m c) (t.val / 2 * 1024 + a.val) (0 * 2816 + b.val) := by
  obtain ⟨e0, e1, -⟩ := index_eq t
  exact entry (m ((c : Thread nD τ).loc main_arg0)) (((cfg0.win 0).blk t).view.emb (ix2 a b))
    (by show win0_0.index t 0 * 1024 + 1 * a.val = _; rw [e0, Nat.one_mul])
    (by show win0_0.index t 1 * 2816 + 1 * b.val = _; rw [e1, Nat.one_mul])

/-- the right block too. -/
theorem rblk (c : Dev nD) (t : Fin cfg0.N) (a : Fin 512) (b : Fin 2816) :
    iblk m c 1 t (ix2 b a) = at2 (rhs m c) (t.val % 2 * 512 + a.val) (0 * 2816 + b.val) := by
  obtain ⟨-, -, e0, e1, -⟩ := index_eq t
  exact entry_swap (m ((c : Thread nD τ).loc main_arg1)) (((cfg0.win 1).blk t).view.emb (ix2 b a))
    (by show win0_1.index t 1 * 512 + 1 * a.val = _; rw [e0, Nat.one_mul])
    (by show win0_1.index t 0 * 2816 + 1 * b.val = _; rw [e1, Nat.one_mul])

/-- The residual's block at a point, where the result's block lies. -/
theorem cblk (c : Dev nD) (t : Fin cfg0.N) (j : S1024x512.Idx) :
    iblk m c 2 t j = m ((c : Thread nD τ).loc main_arg2) (((cfg0.win 3).blk t).view.emb j : S4096x1024.Idx) := by
  obtain ⟨-, -, -, -, e0, e1, e2, e3⟩ := index_eq t
  refine congrArg (m ((c : Thread nD τ).loc main_arg2)) (funext fun x => Fin.ext ?_)
  match x with
  | ⟨0, _⟩ => show win0_2.index t 0 * 1024 + 1 * (j 0).val = win0_3.index t 0 * 1024 + 1 * (j 0).val; rw [e0, e2]
  | ⟨1, _⟩ => show win0_2.index t 1 * 512 + 1 * (j 1).val = win0_3.index t 1 * 512 + 1 * (j 1).val; rw [e1, e3]

/-- The block product at a point, and the residual's block. -/
theorem pay_at (c : Dev nD) (t : Fin cfg0.N) (j : S1024x512.Idx) :
    k0_pay1 (F := Ideal) (iblk m c 0 t) (iblk m c 1 t) (iblk m c 2 t) j
      = part (lhs m c) (rhs m c) 1024 512 2816 2 t.val (j 0).val (j 1).val 0 + iblk m c 2 t j := by
  idx_vars j
  refine Eq.trans (b := (∑ k : Fin 2816, (fun a b : EReal => a * b) (iblk m c 0 t (ix2 j0 k)) (iblk m c 1 t (ix2 k j1))) + (fun a : EReal => a) (iblk m c 2 t (ix2 j0 j1))) ?_
    (congrArg (fun a : EReal => a + (fun a : EReal => a) (iblk m c 2 t (ix2 j0 j1))) (Finset.sum_congr rfl fun k _ => congrArg₂ (fun a b : EReal => a * b) (lblk m c t j0 k) (rblk m c t j1 k)))
  unfold k0_pay1
  pointwise

/-- The result, entry by entry. -/
def result (c : Dev nD) : Buf (Elt Ideal) ((c : Thread nD τ).loc main_v2) := fun i : S4096x1024.Idx =>
  (∑ k : Fin 2816, lhs m c (i 0) k * rhs m c (i 1) k + m ((c : Thread nD τ).loc main_arg2) i : EReal)

/-- What the body leaves in the result's staging buffer. -/
theorem out_eq (x0 : Vec Ideal S1024x2816 .bf16) (x1 : Vec Ideal S2816x512 .bf16) (x2 : Vec Ideal S1024x512 .f32) :
    out0_3 (F := Ideal) x0 x1 x2 = k0_pay1 (F := Ideal) x0 x1 x2 := by
  unfold out0_3
  rw [View.canon_unit_zero hz]
  simp only [View.ld_unit_zero (S := S1024x2816) hz, View.ld_unit_zero (S := S2816x512) hz, View.ld_unit_zero (S := S1024x512) hz]

/-- Every point writes back its block of the result. -/
theorem flushed_eq (c : Dev nD) (t : Fin cfg0.N) (hf : (cfg0.win 3).flush t = true) :
    (dats m 0 c).flushed 3 t = ((cfg0.win 3).blk t).view.read (Elt Ideal) (result m c) := by
  obtain ⟨-, -, -, -, -, -, e0, e1⟩ := index_eq t
  rw [flushed3, out_eq]
  funext j
  exact (pay_at m c t j).trans (congrArg₂ (fun a b : EReal => a + b) (part_one (lhs m c) (rhs m c)
    (i := (((cfg0.win 3).blk t).view.emb j : S4096x1024.Idx) 0) (j := (((cfg0.win 3).blk t).view.emb j : S4096x1024.Idx) 1)
    (by show win0_3.index t 0 * 1024 + 1 * (j 0).val = _; rw [e0, Nat.one_mul])
    (by show win0_3.index t 1 * 512 + 1 * (j 1).val = _; rw [e1, Nat.one_mul])) (cblk m c t j))

/-- The points' blocks cover the result. -/
theorem final (c : Dev nD) : (dats m 0 c).arrAt 3 cfg0.N = result m c :=
  (dats m 0 c).arrAt_eq_of_cover 3 (result m c) (flushed_eq m c) fun (i : S4096x1024.Idx) => by
    have ht : 2 * ((i 0).val / 1024) + (i 1).val / 512 < cfg0.N :=
      lt_of_lt_of_eq (tile_lt (tm := 1024) (tn := 512) (ni := 4) (nj := 2) (i 0).isLt (i 1).isLt) N_0.symm
    obtain ⟨-, -, -, -, -, -, e0, e1⟩ := index_eq ⟨_, ht⟩
    refine ⟨⟨_, ht⟩, flush0_3 _, ?_⟩
    show i ∈ ((View.whole main_v2).slice (win0_3.rect ⟨_, ht⟩)).set
    rw [View.set_slice_whole, Rect.mem_set_unit]
    intro a
    match a with
    | ⟨0, _⟩ => exact block_mem (by decide : 0 < 1024) (e0.trans (tile_row (tm := 1024) (tn := 512) (nj := 2) (i 0).val (i 1).isLt))
    | ⟨1, _⟩ => exact block_mem (by decide : 0 < 512) (e1.trans (tile_col (tm := 1024) (tn := 512) (nj := 2) (i 0).val (i 1).isLt))

/-- Over the extended reals the program's result is the reference's. -/
theorem equal : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference7Ideal.defs _ _).mono (fun _ h c => ⟨?_, (h c).2⟩) (Cert.Reference7Ideal.Value.run (F := Ideal) m' ρ')
  rw [(h c).1, (hagree c).1, (hagree c).2.1, (hagree c).2.2]
  funext (i : S4096x1024.Idx)
  show _ = (∑ k : Fin 2816, lhs m c (i 0) k * rhs m c (i 1) k + m ((c : Thread nD τ).loc main_arg2) i : EReal)
  idx_vars i
  pointwise
  exact add_comm _ _

end Cert.Proof.FfnOut

end
-- ==== Proof.QkvDx.lean ====
/-
  The gradient of the attention's input through its projection: what the accumulating grid leaves, entry by entry.
-/
module

public import proofs.«01_k».proof.Defs
public import proofs.«01_k».proof.Proof.Gen.Kernel8Ideal.Value
public import proofs.«01_k».proof.Proof.Gen.Reference8Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.QkvDx

open Cert.Kernel8Ideal Cert.Kernel8Ideal.Gen Cert.Kernel8Ideal.Value Cert.Proof.MatSum

variable (m : (ℓ : Loc nD τ sig) → Buf (Elt Ideal) ℓ)

/-- The two factors as matrices of extended reals, each read with the summed index second. -/
abbrev lhs (c : Dev nD) : Fin 4096 → Fin 3072 → EReal := fun a b => m ((c : Thread nD τ).loc main_arg0) (ix2 a b)
abbrev rhs (c : Dev nD) : Fin 1024 → Fin 3072 → EReal := fun a b => m ((c : Thread nD τ).loc main_arg1) (ix2 a b)

/-- The windows' block indices at every point. -/
theorem index_eq : ∀ t : Fin cfg0.N, win0_0.index t (0 : Fin 2) = t.val / 3 / 1 ∧ win0_0.index t (1 : Fin 2) = t.val % 3
    ∧ win0_1.index t (0 : Fin 2) = t.val / 3 % 1 ∧ win0_1.index t (1 : Fin 2) = t.val % 3 :=
  (by decide +kernel : ∀ t : Fin grid0.N, _)

/-- The left block at a point, entry by entry; -/
theorem lblk (c : Dev nD) (t : Fin cfg0.N) (a : Fin 1024) (b : Fin 1024) :
    iblk m c 0 t (ix2 a b) = at2 (lhs m c) (t.val / 3 / 1 * 1024 + a.val) (t.val % 3 * 1024 + b.val) := by
  obtain ⟨e0, e1, -, -⟩ := index_eq t
  exact entry (m ((c : Thread nD τ).loc main_arg0)) (((cfg0.win 0).blk t).view.emb (ix2 a b))
    (by show win0_0.index t 0 * 1024 + 1 * a.val = _; rw [e0, Nat.one_mul])
    (by show win0_0.index t 1 * 1024 + 1 * b.val = _; rw [e1, Nat.one_mul])

/-- the right block too. -/
theorem rblk (c : Dev nD) (t : Fin cfg0.N) (a : Fin 1024) (b : Fin 1024) :
    iblk m c 1 t (ix2 a b) = at2 (rhs m c) (t.val / 3 % 1 * 1024 + a.val) (t.val % 3 * 1024 + b.val) := by
  obtain ⟨-, -, e0, e1⟩ := index_eq t
  exact entry (m ((c : Thread nD τ).loc main_arg1)) (((cfg0.win 1).blk t).view.emb (ix2 a b))
    (by show win0_1.index t 0 * 1024 + 1 * a.val = _; rw [e0, Nat.one_mul])
    (by show win0_1.index t 1 * 1024 + 1 * b.val = _; rw [e1, Nat.one_mul])

/-- The block product at a point. -/
theorem pay_at (c : Dev nD) (t : Fin cfg0.N) (j : S1024x1024.Idx) :
    k0_pay1 (F := Ideal) (iblk m c 0 t) (iblk m c 1 t) j
      = part (lhs m c) (rhs m c) 1024 1024 1024 1 (t.val / 3) (j 0).val (j 1).val (t.val % 3) := by
  idx_vars j
  refine Eq.trans (b := ∑ k : Fin 1024, (fun a b : EReal => a * b) (iblk m c 0 t (ix2 j0 k)) (iblk m c 1 t (ix2 j1 k))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S1024x1024 .f32) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x1024 .f32) (x1 : Vec Ideal S1024x1024 .bf16) (xs : Vec Ideal S1024x1024 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S1024x1024.Idx) : ∀ (n : ℕ) (h : n < cfg0.N), n % 3 + 1 = 3 →
    (outsAt0 m c n h).1 j = ∑ u ∈ Finset.range 3, part (lhs m c) (rhs m c) 1024 1024 1024 1 (n / 3) (j 0).val (j 1).val u := by
  refine run_end 3 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 3 = 2
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S4096x1024.Idx) : G2 m c i = ∑ k : Fin 3072, lhs m c (i 0) k * rhs m c (i 1) k := by
  have hp : pt2Of i < cfg0.N := by
    have := tile_lt (tm := 1024) (tn := 1024) (ni := 4) (nj := 1) (i 0).isLt (i 1).isLt
    rw [show cfg0.N = 12 from N_0]; dsimp only [pt2Of, run2Of]; omega
  unfold G2
  rw [dif_pos hp, ← outsAt0_sweep m c (pt2Of i) hp, out_eq m c _ (pt2Of i) hp (by dsimp only [pt2Of, run2Of]; omega),
    show pt2Of i / 3 = 1 * ((i 0).val / 1024) + (i 1).val / 1024 by dsimp only [pt2Of, run2Of]; omega]
  exact sum_part_tile (lhs m c) (rhs m c) 1024 1024 1024 1 3 rfl rfl (i 0) (i 1)

/-- Over the extended reals the program's result is the reference's. -/
theorem equal : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => G2 m c, run (F := Ideal) m ρ, ?_⟩
  refine (θ_run Cert.Reference8Ideal.defs _ _).mono (fun _ h c => ⟨?_, (h c).2⟩) (Cert.Reference8Ideal.Value.run (F := Ideal) m' ρ')
  rw [(h c).1, (hagree c).1, (hagree c).2]
  funext (i : S4096x1024.Idx)
  refine Eq.trans ?_ (result_at m c i).symm
  idx_vars i
  pointwise

end Cert.Proof.QkvDx

end
-- ==== Proof.QkvDw.lean ====
/-
  The gradient of the attention's projection weight: what the accumulating grid leaves, entry by entry.
-/
module

public import proofs.«01_k».proof.Defs
public import proofs.«01_k».proof.Proof.Gen.Kernel9Ideal.Value
public import proofs.«01_k».proof.Proof.Gen.Reference9Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.QkvDw

open Cert.Kernel9Ideal Cert.Kernel9Ideal.Gen Cert.Kernel9Ideal.Value Cert.Proof.MatSum

variable (m : (ℓ : Loc nD τ sig) → Buf (Elt Ideal) ℓ)

/-- The two factors as matrices of extended reals, each read with the summed index second. -/
abbrev lhs (c : Dev nD) : Fin 1024 → Fin 4096 → EReal := fun a b => m ((c : Thread nD τ).loc main_arg0) (ix2 b a)
abbrev rhs (c : Dev nD) : Fin 3072 → Fin 4096 → EReal := fun a b => m ((c : Thread nD τ).loc main_arg1) (ix2 b a)

/-- The windows' block indices at every point. -/
theorem index_eq : ∀ t : Fin cfg0.N, win0_0.index t (1 : Fin 2) = t.val / 4 / 3 ∧ win0_0.index t (0 : Fin 2) = t.val % 4
    ∧ win0_1.index t (1 : Fin 2) = t.val / 4 % 3 ∧ win0_1.index t (0 : Fin 2) = t.val % 4 :=
  (by decide +kernel : ∀ t : Fin grid0.N, _)

/-- The left block at a point, entry by entry; -/
theorem lblk (c : Dev nD) (t : Fin cfg0.N) (a : Fin 1024) (b : Fin 1024) :
    iblk m c 0 t (ix2 b a) = at2 (lhs m c) (t.val / 4 / 3 * 1024 + a.val) (t.val % 4 * 1024 + b.val) := by
  obtain ⟨e0, e1, -, -⟩ := index_eq t
  exact entry_swap (m ((c : Thread nD τ).loc main_arg0)) (((cfg0.win 0).blk t).view.emb (ix2 b a))
    (by show win0_0.index t 1 * 1024 + 1 * a.val = _; rw [e0, Nat.one_mul])
    (by show win0_0.index t 0 * 1024 + 1 * b.val = _; rw [e1, Nat.one_mul])

/-- the right block too. -/
theorem rblk (c : Dev nD) (t : Fin cfg0.N) (a : Fin 1024) (b : Fin 1024) :
    iblk m c 1 t (ix2 b a) = at2 (rhs m c) (t.val / 4 % 3 * 1024 + a.val) (t.val % 4 * 1024 + b.val) := by
  obtain ⟨-, -, e0, e1⟩ := index_eq t
  exact entry_swap (m ((c : Thread nD τ).loc main_arg1)) (((cfg0.win 1).blk t).view.emb (ix2 b a))
    (by show win0_1.index t 1 * 1024 + 1 * a.val = _; rw [e0, Nat.one_mul])
    (by show win0_1.index t 0 * 1024 + 1 * b.val = _; rw [e1, Nat.one_mul])

/-- The block product at a point. -/
theorem pay_at (c : Dev nD) (t : Fin cfg0.N) (j : S1024x1024.Idx) :
    k0_pay1 (F := Ideal) (iblk m c 0 t) (iblk m c 1 t) j
      = part (lhs m c) (rhs m c) 1024 1024 1024 3 (t.val / 4) (j 0).val (j 1).val (t.val % 4) := by
  idx_vars j
  refine Eq.trans (b := ∑ k : Fin 1024, (fun a b : EReal => a * b) (iblk m c 0 t (ix2 k j0)) (iblk m c 1 t (ix2 k j1))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S1024x1024 .bf16) (h3 : a3.IsWhole)
  (a4 : Memref sig .tc .vmem S1024x1024 .f32) (h4 : a4.IsWhole) (a5 : Memref sig .tc .vmem S1024x1024 .f32) (h5 : a5.IsWhole)
  (a6 : Memref sig .tc .vmem S1024x1024 .f32) (h6 : a6.IsWhole)
  (x0 : Vec Ideal S1024x1024 .bf16) (x1 : Vec Ideal S1024x1024 .f32) (xs : Vec Ideal S1024x1024 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S1024x1024.Idx) : ∀ (n : ℕ) (h : n < cfg0.N), n % 4 + 1 = 4 →
    (outsAt0 m c n h).1 j = ∑ u ∈ Finset.range 4, part (lhs m c) (rhs m c) 1024 1024 1024 3 (n / 4) (j 0).val (j 1).val u := by
  refine run_end 4 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 4 = 3
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S1024x3072.Idx) : G2 m c i = ∑ k : Fin 4096, lhs m c (i 0) k * rhs m c (i 1) k := by
  have hp : pt2Of i < cfg0.N := by
    have := tile_lt (tm := 1024) (tn := 1024) (ni := 1) (nj := 3) (i 0).isLt (i 1).isLt
    rw [show cfg0.N = 12 from N_0]; dsimp only [pt2Of, run2Of]; omega
  unfold G2
  rw [dif_pos hp, ← outsAt0_sweep m c (pt2Of i) hp, out_eq m c _ (pt2Of i) hp (by dsimp only [pt2Of, run2Of]; omega),
    show pt2Of i / 4 = 3 * ((i 0).val / 1024) + (i 1).val / 1024 by dsimp only [pt2Of, run2Of]; omega]
  exact sum_part_tile (lhs m c) (rhs m c) 1024 1024 1024 3 4 rfl rfl (i 0) (i 1)

/-- Over the extended reals the program's result is the reference's. -/
theorem equal : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => G2 m c, run (F := Ideal) m ρ, ?_⟩
  refine (θ_run Cert.Reference9Ideal.defs _ _).mono (fun _ h c => ⟨?_, (h c).2⟩) (Cert.Reference9Ideal.Value.run (F := Ideal) m' ρ')
  rw [(h c).1, (hagree c).1, (hagree c).2]
  funext (i : S1024x3072.Idx)
  refine Eq.trans ?_ (result_at m c i).symm
  idx_vars i
  pointwise
  exact Finset.sum_congr rfl fun k _ => mul_comm _ _

end Cert.Proof.QkvDw

end
-- ==== Proof.OutDx.lean ====
/-
  The gradient of the attention's rows through its output weight: what the grid leaves, entry by entry.
-/
module

public import proofs.«01_k».proof.Defs
public import proofs.«01_k».proof.Proof.Gen.Kernel10Ideal.Value
public import proofs.«01_k».proof.Proof.Gen.Reference10Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.OutDx

open Cert.Kernel10Ideal Cert.Kernel10Ideal.Gen Cert.Kernel10Ideal.Value Cert.Proof.MatSum

variable (m : (ℓ : Loc nD τ sig) → Buf (Elt Ideal) ℓ)

/-- The two factors as matrices of extended reals, each read with the summed index second. -/
abbrev lhs (c : Dev nD) : Fin 4096 → Fin 1024 → EReal := fun a b => m ((c : Thread nD τ).loc main_arg0) (ix2 a b)
abbrev rhs (c : Dev nD) : Fin 1024 → Fin 1024 → EReal := fun a b => m ((c : Thread nD τ).loc main_arg1) (ix2 a b)

/-- The windows' block indices at every point. -/
theorem index_eq : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The left block at a point, entry by entry; -/
theorem lblk (c : Dev nD) (t : Fin cfg0.N) (a : Fin 2048) (b : Fin 1024) :
    iblk m c 0 t (ix2 a b) = at2 (lhs m c) (t.val / 2 * 2048 + a.val) (0 * 1024 + b.val) := by
  obtain ⟨e0, e1, -⟩ := index_eq t
  exact entry (m ((c : Thread nD τ).loc main_arg0)) (((cfg0.win 0).blk t).view.emb (ix2 a b))
    (by show win0_0.index t 0 * 2048 + 1 * a.val = _; rw [e0, Nat.one_mul])
    (by show win0_0.index t 1 * 1024 + 1 * b.val = _; rw [e1, Nat.one_mul])

/-- the right block too. -/
theorem rblk (c : Dev nD) (t : Fin cfg0.N) (a : Fin 512) (b : Fin 1024) :
    iblk m c 1 t (ix2 a b) = at2 (rhs m c) (t.val % 2 * 512 + a.val) (0 * 1024 + b.val) := by
  obtain ⟨-, -, e0, e1, -⟩ := index_eq t
  exact entry (m ((c : Thread nD τ).loc main_arg1)) (((cfg0.win 1).blk t).view.emb (ix2 a b))
    (by show win0_1.index t 0 * 512 + 1 * a.val = _; rw [e0, Nat.one_mul])
    (by show win0_1.index t 1 * 1024 + 1 * b.val = _; rw [e1, Nat.one_mul])

/-- The block product at a point. -/
theorem pay_at (c : Dev nD) (t : Fin cfg0.N) (j : S2048x512.Idx) :
    k0_pay1 (F := Ideal) (iblk m c 0 t) (iblk m c 1 t) j
      = part (lhs m c) (rhs m c) 2048 512 1024 2 t.val (j 0).val (j 1).val 0 := by
  idx_vars j
  refine Eq.trans (b := ∑ k : Fin 1024, (fun a b : EReal => a * b) (iblk m c 0 t (ix2 j0 k)) (iblk m c 1 t (ix2 j1 k))) ?_
    (Finset.sum_congr rfl fun k _ => congrArg₂ (fun a b : EReal => a * b) (lblk m c t j0 k) (rblk m c t j1 k))
  unfold k0_pay1
  pointwise

/-- The result, entry by entry. -/
def result (c : Dev nD) : Buf (Elt Ideal) ((c : Thread nD τ).loc main_v1) := fun i : S4096x1024.Idx =>
  (∑ k : Fin 1024, lhs m c (i 0) k * rhs m c (i 1) k : EReal)

/-- What the body leaves in the result's staging buffer. -/
theorem out_eq (x0 : Vec Ideal S2048x1024 .f32) (x1 : Vec Ideal S512x1024 .bf16) :
    out0_2 (F := Ideal) x0 x1 = k0_pay1 (F := Ideal) x0 x1 := by
  unfold out0_2
  rw [View.canon_unit_zero hz]
  simp only [View.ld_unit_zero (S := S2048x1024) hz, View.ld_unit_zero (S := S512x1024) hz]

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2, out_eq]
  funext j
  exact (pay_at m c t j).trans (part_one (lhs m c) (rhs m c)
    (i := (((cfg0.win 2).blk t).view.emb j : S4096x1024.Idx) 0) (j := (((cfg0.win 2).blk t).view.emb j : S4096x1024.Idx) 1)
    (by show win0_2.index t 0 * 2048 + 1 * (j 0).val = _; rw [e0, Nat.one_mul])
    (by show win0_2.index t 1 * 512 + 1 * (j 1).val = _; rw [e1, Nat.one_mul]))

/-- The points' blocks cover the result. -/
theorem final (c : Dev nD) : (dats m 0 c).arrAt 2 cfg0.N = result m c :=
  (dats m 0 c).arrAt_eq_of_cover 2 (result m c) (flushed_eq m c) fun (i : S4096x1024.Idx) => by
    have ht : 2 * ((i 0).val / 2048) + (i 1).val / 512 < cfg0.N :=
      lt_of_lt_of_eq (tile_lt (tm := 2048) (tn := 512) (ni := 2) (nj := 2) (i 0).isLt (i 1).isLt) N_0.symm
    obtain ⟨-, -, -, -, e0, e1⟩ := index_eq ⟨_, ht⟩
    refine ⟨⟨_, ht⟩, flush0_2 _, ?_⟩
    show i ∈ ((View.whole main_v1).slice (win0_2.rect ⟨_, ht⟩)).set
    rw [View.set_slice_whole, Rect.mem_set_unit]
    intro a
    match a with
    | ⟨0, _⟩ => exact block_mem (by decide : 0 < 2048) (e0.trans (tile_row (tm := 2048) (tn := 512) (nj := 2) (i 0).val (i 1).isLt))
    | ⟨1, _⟩ => exact block_mem (by decide : 0 < 512) (e1.trans (tile_col (tm := 2048) (tn := 512) (nj := 2) (i 0).val (i 1).isLt))

/-- Over the extended reals the program's result is the reference's. -/
theorem equal : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference10Ideal.defs _ _).mono (fun _ h c => ⟨?_, (h c).2⟩) (Cert.Reference10Ideal.Value.run (F := Ideal) m' ρ')
  rw [(h c).1, (hagree c).1, (hagree c).2]
  funext (i : S4096x1024.Idx)
  show _ = (∑ k : Fin 1024, lhs m c (i 0) k * rhs m c (i 1) k : EReal)
  idx_vars i
  pointwise

end Cert.Proof.OutDx

end
-- ==== Proof.OutDw.lean ====
/-
  The gradient of the attention's output weight: what the accumulating grid leaves, entry by entry.
-/
module

public import proofs.«01_k».proof.Defs
public import proofs.«01_k».proof.Proof.Gen.Kernel11Ideal.Value
public import proofs.«01_k».proof.Proof.Gen.Reference11Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.OutDw

open Cert.Kernel11Ideal Cert.Kernel11Ideal.Gen Cert.Kernel11Ideal.Value Cert.Proof.MatSum

variable (m : (ℓ : Loc nD τ sig) → Buf (Elt Ideal) ℓ)

/-- The two factors as matrices of extended reals, each read with the summed index second. -/
abbrev lhs (c : Dev nD) : Fin 1024 → Fin 4096 → EReal := fun a b => m ((c : Thread nD τ).loc main_arg0) (ix2 b a)
abbrev rhs (c : Dev nD) : Fin 1024 → Fin 4096 → EReal := fun a b => m ((c : Thread nD τ).loc main_arg1) (ix2 b a)

/-- The windows' block indices at every point. -/
theorem index_eq : ∀ t : Fin cfg0.N, win0_0.index t (1 : Fin 2) = t.val / 4 / 2 ∧ win0_0.index t (0 : Fin 2) = t.val % 4
    ∧ win0_1.index t (1 : Fin 2) = t.val / 4 % 2 ∧ win0_1.index t (0 : Fin 2) = t.val % 4 :=
  (by decide +kernel : ∀ t : Fin grid0.N, _)

/-- The left block at a point, entry by entry; -/
theorem lblk (c : Dev nD) (t : Fin cfg0.N) (a : Fin 1024) (b : Fin 1024) :
    iblk m c 0 t (ix2 b a) = at2 (lhs m c) (t.val / 4 / 2 * 1024 + a.val) (t.val % 4 * 1024 + b.val) := by
  obtain ⟨e0, e1, -, -⟩ := index_eq t
  exact entry_swap (m ((c : Thread nD τ).loc main_arg0)) (((cfg0.win 0).blk t).view.emb (ix2 b a))
    (by show win0_0.index t 1 * 1024 + 1 * a.val = _; rw [e0, Nat.one_mul])
    (by show win0_0.index t 0 * 1024 + 1 * b.val = _; rw [e1, Nat.one_mul])

/-- the right block too. -/
theorem rblk (c : Dev nD) (t : Fin cfg0.N) (a : Fin 512) (b : Fin 1024) :
    iblk m c 1 t (ix2 b a) = at2 (rhs m c) (t.val / 4 % 2 * 512 + a.val) (t.val % 4 * 1024 + b.val) := by
  obtain ⟨-, -, e0, e1⟩ := index_eq t
  exact entry_swap (m ((c : Thread nD τ).loc main_arg1)) (((cfg0.win 1).blk t).view.emb (ix2 b a))
    (by show win0_1.index t 1 * 512 + 1 * a.val = _; rw [e0, Nat.one_mul])
    (by show win0_1.index t 0 * 1024 + 1 * b.val = _; rw [e1, Nat.one_mul])

/-- The block product at a point. -/
theorem pay_at (c : Dev nD) (t : Fin cfg0.N) (j : S1024x512.Idx) :
    k0_pay1 (F := Ideal) (iblk m c 0 t) (iblk m c 1 t) j
      = part (lhs m c) (rhs m c) 1024 512 1024 2 (t.val / 4) (j 0).val (j 1).val (t.val % 4) := by
  idx_vars j
  refine Eq.trans (b := ∑ k : Fin 1024, (fun a b : EReal => a * b) (iblk m c 0 t (ix2 k j0)) (iblk m c 1 t (ix2 k j1))) ?_
    (Finset.sum_congr rfl fun k _ => congrArg₂ (fun a b : EReal => a * b) (lblk m c t j0 k) (rblk m c t j1 k))
  unfold k0_pay1
  pointwise

section Stores

variable (c : Dev nD) (i : grid0.Coords) (a3 : Memref sig .tc .vmem S1024x1024 .f32) (h3 : a3.IsWhole)
  (a4 : Memref sig .tc .vmem S1024x512 .f32) (h4 : a4.IsWhole) (a5 : Memref sig .tc .vmem S1024x512 .f32) (h5 : a5.IsWhole)
  (a6 : Memref sig .tc .vmem S1024x512 .f32) (h6 : a6.IsWhole)
  (x0 : Vec Ideal S1024x1024 .f32) (x1 : Vec Ideal S1024x512 .f32) (xs : Vec Ideal S1024x512 .f32)

/-- A run's first point leaves the block product in the accumulator; -/
theorem scr_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0 kernelRun0_A
  dsimp only
  sl_unfold_words
  rw [View.read_writes_full, ld_whole a3 h3 x0, ld_whole a4 h4 x1]
  exact shapeCast_self _ _

/-- a middle point adds its block product; -/
theorem scr_B (hc0 : ¬cond0_0 i) (hc1 : cond0_1 i) (hc2 : ¬cond0_2 i) :
    sout0_B_0 (F := Ideal) c i a3 h3 a4 h4 a5 h5 a6 h6 hc0 hc1 hc2 x0 x1 xs = addf (F := Ideal) xs (k0_pay1 (F := Ideal) x0 x1) := by
  unfold sout0_B_0 kernelRun0_B
  dsimp only
  sl_unfold_words
  rw [View.read_writes_full, ld_whole a3 h3 x0, ld_whole a4 h4 x1, ld_whole a6 h6 xs]
  exact shapeCast_self _ _

/-- a run's last point adds its block product too, -/
theorem scr_C (hc0 : ¬cond0_0 i) (hc1 : cond0_1 i) (hc2 : cond0_2 i) :
    sout0_C_0 (F := Ideal) c i a3 h3 a4 h4 a5 h5 a6 h6 hc0 hc1 hc2 x0 x1 xs = addf (F := Ideal) xs (k0_pay1 (F := Ideal) x0 x1) := by
  unfold sout0_C_0 kernelRun0_C
  dsimp only
  sl_unfold_words
  rw [View.read_writes_full, ld_whole a3 h3 x0, ld_whole a4 h4 x1, ld_whole a6 h6 xs]
  exact shapeCast_self _ _

/-- and stores the accumulator as the result's block. -/
theorem out_C (hc0 : ¬cond0_0 i) (hc1 : cond0_1 i) (hc2 : cond0_2 i) :
    out0_C_2 (F := Ideal) c i a3 h3 a4 h4 a5 h5 a6 h6 hc0 hc1 hc2 x0 x1 xs = addf (F := Ideal) xs (k0_pay1 (F := Ideal) x0 x1) := by
  unfold out0_C_2 kernelRun0_C
  dsimp only
  sl_unfold_words
  rw [View.read_writes_full, View.readCov_full, ld_whole a3 h3 x0, ld_whole a4 h4 x1, ld_whole a6 h6 xs]
  exact shapeCast_self _ _

end Stores

/-- Where a run ends, the result's block is the sum of the run's block products. -/
theorem out_eq (c : Dev nD) (j : S1024x512.Idx) : ∀ (n : ℕ) (h : n < cfg0.N), n % 4 + 1 = 4 →
    (outsAt0 m c n h).1 j = ∑ u ∈ Finset.range 4, part (lhs m c) (rhs m c) 1024 512 1024 2 (n / 4) (j 0).val (j 1).val u := by
  refine run_end 4 (fun n h => (outsAt0 m c n h).2 j) (fun n h => (outsAt0 m c n h).1 j) (fun r u => part _ _ _ _ _ _ r _ _ u)
    (fun n h h0 => ?_) (fun n h h0 => ?_) (fun n h he => ?_)
  · rw [outsAt0_A m c ⟨n, h⟩ h0 (by dsimp only; omega) (by dsimp only; omega), scr_A]
    exact pay_at m c ⟨n, h⟩ j
  · by_cases h2 : (n + 1) % 4 = 3
    · rw [outsAt0_C m c ⟨n + 1, h⟩ h0 (by dsimp only; omega) h2, scr_C]
      exact congrArg₂ (· + ·) rfl (pay_at m c ⟨n + 1, h⟩ j)
    · rw [outsAt0_B m c ⟨n + 1, h⟩ h0 (by dsimp only; omega) h2, scr_B]
      exact congrArg₂ (· + ·) rfl (pay_at m c ⟨n + 1, h⟩ j)
  · rw [outsAt0_C m c ⟨n, h⟩ (by dsimp only; omega) (by dsimp only; omega) (by dsimp only; omega), scr_C, out_C]

/-- The result, entry by entry: the whole row times the whole column. -/
theorem result_at (c : Dev nD) (i : S1024x1024.Idx) : G2 m c i = ∑ k : Fin 4096, lhs m c (i 0) k * rhs m c (i 1) k := by
  have hp : pt2Of i < cfg0.N := by
    have := tile_lt (tm := 1024) (tn := 512) (ni := 1) (nj := 2) (i 0).isLt (i 1).isLt
    rw [show cfg0.N = 8 from N_0]; dsimp only [pt2Of, run2Of]; omega
  unfold G2
  rw [dif_pos hp, ← outsAt0_sweep m c (pt2Of i) hp, out_eq m c _ (pt2Of i) hp (by dsimp only [pt2Of, run2Of]; omega),
    show pt2Of i / 4 = 2 * ((i 0).val / 1024) + (i 1).val / 512 by dsimp only [pt2Of, run2Of]; omega]
  exact sum_part_tile (lhs m c) (rhs m c) 1024 512 1024 2 4 rfl rfl (i 0) (i 1)

/-- Over the extended reals the program's result is the reference's. -/
theorem equal : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => G2 m c, run (F := Ideal) m ρ, ?_⟩
  refine (θ_run Cert.Reference11Ideal.defs _ _).mono (fun _ h c => ⟨?_, (h c).2⟩) (Cert.Reference11Ideal.Value.run (F := Ideal) m' ρ')
  rw [(h c).1, (hagree c).1, (hagree c).2]
  funext (i : S1024x1024.Idx)
  refine Eq.trans ?_ (result_at m c i).symm
  idx_vars i
  pointwise
  exact Finset.sum_congr rfl fun k _ => mul_comm _ _

end Cert.Proof.OutDw

end
-- ==== Proof.Qkv.lean ====
/-
  The attention's projection: what the grid leaves, entry by entry.
-/
module

public import proofs.«01_k».proof.Defs
public import proofs.«01_k».proof.Proof.Gen.Kernel12Ideal.Value
public import proofs.«01_k».proof.Proof.Gen.Reference12Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.Qkv

open Cert.Kernel12Ideal Cert.Kernel12Ideal.Gen Cert.Kernel12Ideal.Value Cert.Proof.MatSum

variable (m : (ℓ : Loc nD τ sig) → Buf (Elt Ideal) ℓ)

/-- The two factors as matrices of extended reals, each read with the summed index second. -/
abbrev lhs (c : Dev nD) : Fin 4096 → Fin 1024 → EReal := fun a b => m ((c : Thread nD τ).loc main_arg0) (ix2 a b)
abbrev rhs (c : Dev nD) : Fin 3072 → Fin 1024 → EReal := fun a b => m ((c : Thread nD τ).loc main_arg1) (ix2 b a)

/-- The windows' block indices at every point. -/
theorem index_eq : ∀ t : Fin cfg0.N, win0_0.index t (0 : Fin 2) = t.val / 6 ∧ win0_0.index t (1 : Fin 2) = 0
    ∧ win0_1.index t (1 : Fin 2) = t.val % 6 ∧ win0_1.index t (0 : Fin 2) = 0
    ∧ win0_2.index t (0 : Fin 2) = t.val / 6 ∧ win0_2.index t (1 : Fin 2) = t.val % 6 :=
  (by decide +kernel : ∀ t : Fin grid0.N, _)

/-- The left block at a point, entry by entry; -/
theorem lblk (c : Dev nD) (t : Fin cfg0.N) (a : Fin 2048) (b : Fin 1024) :
    iblk m c 0 t (ix2 a b) = at2 (lhs m c) (t.val / 6 * 2048 + a.val) (0 * 1024 + b.val) := by
  obtain ⟨e0, e1, -⟩ := index_eq t
  exact entry (m ((c : Thread nD τ).loc main_arg0)) (((cfg0.win 0).blk t).view.emb (ix2 a b))
    (by show win0_0.index t 0 * 2048 + 1 * a.val = _; rw [e0, Nat.one_mul])
    (by show win0_0.index t 1 * 1024 + 1 * b.val = _; rw [e1, Nat.one_mul])

/-- the right block too. -/
theorem rblk (c : Dev nD) (t : Fin cfg0.N) (a : Fin 512) (b : Fin 1024) :
    iblk m c 1 t (ix2 b a) = at2 (rhs m c) (t.val % 6 * 512 + a.val) (0 * 1024 + b.val) := by
  obtain ⟨-, -, e0, e1, -⟩ := index_eq t
  exact entry_swap (m ((c : Thread nD τ).loc main_arg1)) (((cfg0.win 1).blk t).view.emb (ix2 b a))
    (by show win0_1.index t 1 * 512 + 1 * a.val = _; rw [e0, Nat.one_mul])
    (by show win0_1.index t 0 * 1024 + 1 * b.val = _; rw [e1, Nat.one_mul])

/-- The block product at a point. -/
theorem pay_at (c : Dev nD) (t : Fin cfg0.N) (j : S2048x512.Idx) :
    k0_pay1 (F := Ideal) (iblk m c 0 t) (iblk m c 1 t) j
      = part (lhs m c) (rhs m c) 2048 512 1024 6 t.val (j 0).val (j 1).val 0 := by
  idx_vars j
  refine Eq.trans (b := ∑ k : Fin 1024, (fun a b : EReal => a * b) (iblk m c 0 t (ix2 j0 k)) (iblk m c 1 t (ix2 k j1))) ?_
    (Finset.sum_congr rfl fun k _ => congrArg₂ (fun a b : EReal => a * b) (lblk m c t j0 k) (rblk m c t j1 k))
  unfold k0_pay1
  pointwise

/-- The result, entry by entry. -/
def result (c : Dev nD) : Buf (Elt Ideal) ((c : Thread nD τ).loc main_v2) := fun i : S4096x3072.Idx =>
  (∑ k : Fin 1024, lhs m c (i 0) k * rhs m c (i 1) k : EReal)

/-- What the body leaves in the result's staging buffer. -/
theorem out_eq (x0 : Vec Ideal S2048x1024 .bf16) (x1 : Vec Ideal S1024x512 .bf16) :
    out0_2 (F := Ideal) x0 x1 = k0_pay1 (F := Ideal) x0 x1 := by
  unfold out0_2
  rw [View.canon_unit_zero hz]
  simp only [View.ld_unit_zero (S := S2048x1024) hz, View.ld_unit_zero (S := S1024x512) hz]

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2, out_eq]
  funext j
  exact (pay_at m c t j).trans (part_one (lhs m c) (rhs m c)
    (i := (((cfg0.win 2).blk t).view.emb j : S4096x3072.Idx) 0) (j := (((cfg0.win 2).blk t).view.emb j : S4096x3072.Idx) 1)
    (by show win0_2.index t 0 * 2048 + 1 * (j 0).val = _; rw [e0, Nat.one_mul])
    (by show win0_2.index t 1 * 512 + 1 * (j 1).val = _; rw [e1, Nat.one_mul]))

/-- The points' blocks cover the result. -/
theorem final (c : Dev nD) : (dats m 0 c).arrAt 2 cfg0.N = result m c :=
  (dats m 0 c).arrAt_eq_of_cover 2 (result m c) (flushed_eq m c) fun (i : S4096x3072.Idx) => by
    have ht : 6 * ((i 0).val / 2048) + (i 1).val / 512 < cfg0.N :=
      lt_of_lt_of_eq (tile_lt (tm := 2048) (tn := 512) (ni := 2) (nj := 6) (i 0).isLt (i 1).isLt) N_0.symm
    obtain ⟨-, -, -, -, e0, e1⟩ := index_eq ⟨_, ht⟩
    refine ⟨⟨_, ht⟩, flush0_2 _, ?_⟩
    show i ∈ ((View.whole main_v2).slice (win0_2.rect ⟨_, ht⟩)).set
    rw [View.set_slice_whole, Rect.mem_set_unit]
    intro a
    match a with
    | ⟨0, _⟩ => exact block_mem (by decide : 0 < 2048) (e0.trans (tile_row (tm := 2048) (tn := 512) (nj := 6) (i 0).val (i 1).isLt))
    | ⟨1, _⟩ => exact block_mem (by decide : 0 < 512) (e1.trans (tile_col (tm := 2048) (tn := 512) (nj := 6) (i 0).val (i 1).isLt))

/-- Over the extended reals the program's result is the reference's. -/
theorem equal : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference12Ideal.defs _ _).mono (fun _ h c => ⟨?_, (h c).2⟩) (Cert.Reference12Ideal.Value.run (F := Ideal) m' ρ')
  rw [(h c).1, (hagree c).1, (hagree c).2]
  funext (i : S4096x3072.Idx)
  show _ = (∑ k : Fin 1024, lhs m c (i 0) k * rhs m c (i 1) k : EReal)
  idx_vars i
  pointwise

end Cert.Proof.Qkv

end
-- ==== Proof.Out.lean ====
/-
  The attention's output product, added to its residual: what the grid leaves, entry by entry.
-/
module

public import proofs.«01_k».proof.Defs
public import proofs.«01_k».proof.Proof.Gen.Kernel13Ideal.Value
public import proofs.«01_k».proof.Proof.Gen.Reference13Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.Out

open Cert.Kernel13Ideal Cert.Kernel13Ideal.Gen Cert.Kernel13Ideal.Value Cert.Proof.MatSum

variable (m : (ℓ : Loc nD τ sig) → Buf (Elt Ideal) ℓ)

/-- The two factors as matrices of extended reals, each read with the summed index second. -/
abbrev lhs (c : Dev nD) : Fin 4096 → Fin 1024 → EReal := fun a b => m ((c : Thread nD τ).loc main_arg0) (ix2 a b)
abbrev rhs (c : Dev nD) : Fin 1024 → Fin 1024 → EReal := fun a b => m ((c : Thread nD τ).loc main_arg1) (ix2 b a)

/-- The windows' block indices at every point. -/
theorem index_eq : ∀ t : Fin cfg0.N, win0_0.index t (0 : Fin 2) = t.val / 4 ∧ win0_0.index t (1 : Fin 2) = 0
    ∧ win0_1.index t (1 : Fin 2) = t.val % 4 ∧ win0_1.index t (0 : Fin 2) = 0
    ∧ win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N, _)

/-- The left block at a point, entry by entry; -/
theorem lblk (c : Dev nD) (t : Fin cfg0.N) (a : Fin 2048) (b : Fin 1024) :
    iblk m c 0 t (ix2 a b) = at2 (lhs m c) (t.val / 4 * 2048 + a.val) (0 * 1024 + b.val) := by
  obtain ⟨e0, e1, -⟩ := index_eq t
  exact entry (m ((c : Thread nD τ).loc main_arg0)) (((cfg0.win 0).blk t).view.emb (ix2 a b))
    (by show win0_0.index t 0 * 2048 + 1 * a.val = _; rw [e0, Nat.one_mul])
    (by show win0_0.index t 1 * 1024 + 1 * b.val = _; rw [e1, Nat.one_mul])

/-- the right block too. -/
theorem rblk (c : Dev nD) (t : Fin cfg0.N) (a : Fin 256) (b : Fin 1024) :
    iblk m c 1 t (ix2 b a) = at2 (rhs m c) (t.val % 4 * 256 + a.val) (0 * 1024 + b.val) := by
  obtain ⟨-, -, e0, e1, -⟩ := index_eq t
  exact entry_swap (m ((c : Thread nD τ).loc main_arg1)) (((cfg0.win 1).blk t).view.emb (ix2 b a))
    (by show win0_1.index t 1 * 256 + 1 * a.val = _; rw [e0, Nat.one_mul])
    (by show win0_1.index t 0 * 1024 + 1 * b.val = _; rw [e1, Nat.one_mul])

/-- The residual's block at a point, where the result's block lies. -/
theorem cblk (c : Dev nD) (t : Fin cfg0.N) (j : S2048x256.Idx) :
    iblk m c 2 t j = m ((c : Thread nD τ).loc main_arg2) (((cfg0.win 3).blk t).view.emb j : S4096x1024.Idx) := by
  obtain ⟨-, -, -, -, e0, e1, e2, e3⟩ := index_eq t
  refine congrArg (m ((c : Thread nD τ).loc main_arg2)) (funext fun x => Fin.ext ?_)
  match x with
  | ⟨0, _⟩ => show win0_2.index t 0 * 2048 + 1 * (j 0).val = win0_3.index t 0 * 2048 + 1 * (j 0).val; rw [e0, e2]
  | ⟨1, _⟩ => show win0_2.index t 1 * 256 + 1 * (j 1).val = win0_3.index t 1 * 256 + 1 * (j 1).val; rw [e1, e3]

/-- The block product at a point, and the residual's block. -/
theorem pay_at (c : Dev nD) (t : Fin cfg0.N) (j : S2048x256.Idx) :
    k0_pay1 (F := Ideal) (iblk m c 0 t) (iblk m c 1 t) (iblk m c 2 t) j
      = part (lhs m c) (rhs m c) 2048 256 1024 4 t.val (j 0).val (j 1).val 0 + iblk m c 2 t j := by
  idx_vars j
  refine Eq.trans (b := (∑ k : Fin 1024, (fun a b : EReal => a * b) (iblk m c 0 t (ix2 j0 k)) (iblk m c 1 t (ix2 k j1))) + (fun a : EReal => a) (iblk m c 2 t (ix2 j0 j1))) ?_
    (congrArg (fun a : EReal => a + (fun a : EReal => a) (iblk m c 2 t (ix2 j0 j1))) (Finset.sum_congr rfl fun k _ => congrArg₂ (fun a b : EReal => a * b) (lblk m c t j0 k) (rblk m c t j1 k)))
  unfold k0_pay1
  pointwise

/-- The result, entry by entry. -/
def result (c : Dev nD) : Buf (Elt Ideal) ((c : Thread nD τ).loc main_v1) := fun i : S4096x1024.Idx =>
  (∑ k : Fin 1024, lhs m c (i 0) k * rhs m c (i 1) k + m ((c : Thread nD τ).loc main_arg2) i : EReal)

/-- What the body leaves in the result's staging buffer. -/
theorem out_eq (x0 : Vec Ideal S2048x1024 .f32) (x1 : Vec Ideal S1024x256 .bf16) (x2 : Vec Ideal S2048x256 .f32) :
    out0_3 (F := Ideal) x0 x1 x2 = k0_pay1 (F := Ideal) x0 x1 x2 := by
  unfold out0_3
  rw [View.canon_unit_zero hz]
  simp only [View.ld_unit_zero (S := S2048x1024) hz, View.ld_unit_zero (S := S1024x256) hz, View.ld_unit_zero (S := S2048x256) hz]

/-- Every point writes back its block of the result. -/
theorem flushed_eq (c : Dev nD) (t : Fin cfg0.N) (hf : (cfg0.win 3).flush t = true) :
    (dats m 0 c).flushed 3 t = ((cfg0.win 3).blk t).view.read (Elt Ideal) (result m c) := by
  obtain ⟨-, -, -, -, -, -, e0, e1⟩ := index_eq t
  rw [flushed3, out_eq]
  funext j
  exact (pay_at m c t j).trans (congrArg₂ (fun a b : EReal => a + b) (part_one (lhs m c) (rhs m c)
    (i := (((cfg0.win 3).blk t).view.emb j : S4096x1024.Idx) 0) (j := (((cfg0.win 3).blk t).view.emb j : S4096x1024.Idx) 1)
    (by show win0_3.index t 0 * 2048 + 1 * (j 0).val = _; rw [e0, Nat.one_mul])
    (by show win0_3.index t 1 * 256 + 1 * (j 1).val = _; rw [e1, Nat.one_mul])) (cblk m c t j))

/-- The points' blocks cover the result. -/
theorem final (c : Dev nD) : (dats m 0 c).arrAt 3 cfg0.N = result m c :=
  (dats m 0 c).arrAt_eq_of_cover 3 (result m c) (flushed_eq m c) fun (i : S4096x1024.Idx) => by
    have ht : 4 * ((i 0).val / 2048) + (i 1).val / 256 < cfg0.N :=
      lt_of_lt_of_eq (tile_lt (tm := 2048) (tn := 256) (ni := 2) (nj := 4) (i 0).isLt (i 1).isLt) N_0.symm
    obtain ⟨-, -, -, -, -, -, e0, e1⟩ := index_eq ⟨_, ht⟩
    refine ⟨⟨_, ht⟩, flush0_3 _, ?_⟩
    show i ∈ ((View.whole main_v1).slice (win0_3.rect ⟨_, ht⟩)).set
    rw [View.set_slice_whole, Rect.mem_set_unit]
    intro a
    match a with
    | ⟨0, _⟩ => exact block_mem (by decide : 0 < 2048) (e0.trans (tile_row (tm := 2048) (tn := 256) (nj := 4) (i 0).val (i 1).isLt))
    | ⟨1, _⟩ => exact block_mem (by decide : 0 < 256) (e1.trans (tile_col (tm := 2048) (tn := 256) (nj := 4) (i 0).val (i 1).isLt))

/-- Over the extended reals the program's result is the reference's. -/
theorem equal : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference13Ideal.defs _ _).mono (fun _ h c => ⟨?_, (h c).2⟩) (Cert.Reference13Ideal.Value.run (F := Ideal) m' ρ')
  rw [(h c).1, (hagree c).1, (hagree c).2.1, (hagree c).2.2]
  funext (i : S4096x1024.Idx)
  show _ = (∑ k : Fin 1024, lhs m c (i 0) k * rhs m c (i 1) k + m ((c : Thread nD τ).loc main_arg2) i : EReal)
  idx_vars i
  pointwise
  exact add_comm _ _

end Cert.Proof.Out

end
-- ==== Proof.RmsRow.lean ====
/-
  The gradient of the root-mean-square norm at one row: the kernel's formula and the chain rule's agree on all extended reals.
-/
module

public import Idealize.ShloMosaic.Init
public import Idealize.ShloMosaic.Lib.IdealHost

@[expose] public section

noncomputable section

open Idealize.ShloMosaic

namespace Cert.Proof.RmsRow

/-- The constants, as their words denote them: the row's length, the norm's ε and the exponent of the root's derivative. -/
abbrev len : EReal := Ideal.ofBits .f32 0x44800000#32
abbrev eps : EReal := Ideal.ofBits .f32 0x358637BD#32
abbrev mhalf : EReal := Ideal.ofBits .f32 0xBF000000#32

theorem len_eq : len = ((1024 : ℝ) : EReal) := by
  simp [len, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_pos : ∃ e : ℝ, 0 < e ∧ eps = (e : EReal) := by
  refine ⟨_, ?_, by simp only [eps, Ideal.ofBits, Ideal.ieee]; simp; rfl⟩
  positivity

/-- Dividing by the row's length is multiplying by a real. -/
theorem div_len (x : EReal) : Ideal.div x len = x * (((1024 : ℝ)⁻¹ : ℝ) : EReal) := by
  have h : ((1024 : ℝ) : EReal) ≠ 0 := by norm_cast
  rw [len_eq, Ideal.div, if_neg h, EReal.coe_inv]

/-- The mean square of a row with ε added, and the reciprocal of its root. -/
def ms (x : Fin 1024 → EReal) : EReal := Ideal.div (∑ k, x k * x k) len + eps
def r (x : Fin 1024 → EReal) : EReal := Ideal.rsqrt (ms x)

/-- The reciprocal root is a nonnegative real, and over the mean square it is its own cube. -/
theorem r_real (x : Fin 1024 → EReal) :
    ∃ ρ : ℝ, 0 ≤ ρ ∧ r x = (ρ : EReal) ∧ Ideal.div (r x) (ms x) = ((ρ * ρ * ρ : ℝ) : EReal) := by
  have h0 : 0 ≤ ∑ k, x k * x k := Finset.sum_nonneg fun k _ => by
    rcases le_total 0 (x k) with h | h
    · exact mul_nonneg h h
    · have h2 : 0 ≤ -(x k) := by simpa using EReal.neg_le_neg_iff.mpr h
      have h3 := mul_nonneg h2 h2
      simpa [neg_mul, mul_neg] using h3
  obtain ⟨e, he, ee⟩ := eps_pos
  unfold r ms
  rw [div_len, ee]
  generalize (∑ k, x k * x k) = s at h0
  induction s with
  | bot => exact absurd h0 (by simp)
  | top =>
    rw [EReal.top_mul_coe_of_pos (by norm_num), EReal.top_add_coe]
    exact ⟨0, le_rfl, by simp, by simp [Ideal.div]⟩
  | coe s =>
    have hs : 0 ≤ s := by exact_mod_cast h0
    have hp : 0 < s * (1024 : ℝ)⁻¹ + e := by positivity
    rw [← EReal.coe_mul, ← EReal.coe_add]
    generalize s * (1024 : ℝ)⁻¹ + e = p at hp
    refine ⟨(Real.sqrt p)⁻¹, by positivity, ?_, ?_⟩
    · rw [Ideal.rsqrt_coe, if_neg (not_lt.mpr hp.le), if_neg hp.ne']
    · have hne : (p : EReal) ≠ 0 := by exact_mod_cast hp.ne'
      rw [Ideal.rsqrt_coe, if_neg (not_lt.mpr hp.le), if_neg hp.ne', Ideal.div, if_neg hne, ← EReal.coe_inv, ← EReal.coe_mul]
      congr 1
      have hq : Real.sqrt p * Real.sqrt p = p := Real.mul_self_sqrt hp.le
      have hsq : 0 < Real.sqrt p := Real.sqrt_pos.mpr hp
      rw [mul_assoc, ← mul_inv (Real.sqrt p) (Real.sqrt p), hq]

/-- A nonnegative real factor goes out of a sum of extended reals. -/
theorem sum_mul_real {ι : Type} (s : Finset ι) (f : ι → EReal) (ρ : ℝ) (h : 0 ≤ ρ) :
    ∑ k ∈ s, f k * (ρ : EReal) = (∑ k ∈ s, f k) * (ρ : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top ρ)]

/-- Minus a nonnegative multiple, as twice the negative half of it. -/
theorem halves (z : EReal) (κ : ℝ) (h : 0 ≤ κ) :
    -(z * (κ : EReal)) = z * ((-(1 / 2) * κ : ℝ) : EReal) + z * ((-(1 / 2) * κ : ℝ) : EReal) := by
  have hκ : (0 : EReal) ≤ ((κ / 2 : ℝ) : EReal) := by exact_mod_cast (by positivity : (0 : ℝ) ≤ κ / 2)
  have e1 : z * (κ : EReal) = z * ((κ / 2 : ℝ) : EReal) + z * ((κ / 2 : ℝ) : EReal) := by
    rw [← EReal.left_distrib_of_nonneg hκ hκ, ← EReal.coe_add, add_halves]
  have e2 : z * ((-(1 / 2) * κ : ℝ) : EReal) = -(z * ((κ / 2 : ℝ) : EReal)) := by
    rw [show (-(1 / 2) * κ : ℝ) = -(κ / 2) by ring, EReal.coe_neg, mul_neg]
  rw [e2, e1]
  generalize z * ((κ / 2 : ℝ) : EReal) = a
  rw [EReal.neg_add (by induction a <;> simp) (by induction a <;> simp), sub_eq_add_neg]

/-- The gradient of a row as the kernel computes it, -/
def dxKernel (x g dh dres : Fin 1024 → EReal) (j : Fin 1024) : EReal :=
  dres j + r x * (dh j * g j - x j * r x * Ideal.div (∑ k, dh k * g k * (x k * r x)) len)

/-- and as the chain rule gives it: the mean square's gradient reaches each entry twice, once through either factor of the square. -/
def scale (x g dh : Fin 1024 → EReal) : EReal :=
  Ideal.div ((∑ k, x k * (dh k * g k)) * (mhalf * Ideal.div (r x) (ms x))) len
def dxRule (x g dh dres : Fin 1024 → EReal) (j : Fin 1024) : EReal :=
  dh j * g j * r x + x j * scale x g dh + scale x g dh * x j + dres j

/-- The two agree, infinite entries included. -/
theorem dx_eq (x g dh dres : Fin 1024 → EReal) (j : Fin 1024) : dxKernel x g dh dres j = dxRule x g dh dres j := by
  obtain ⟨ρ, h0, hr, hc⟩ := r_real x
  unfold dxKernel dxRule scale
  rw [hc, hr, mhalf_eq, div_len, div_len]
  have hs : ∑ k, dh k * g k * (x k * (ρ : EReal)) = (∑ k, x k * (dh k * g k)) * (ρ : EReal) := by
    rw [← sum_mul_real _ _ _ h0]
    exact Finset.sum_congr rfl fun k _ => by ac_rfl
  rw [hs]
  generalize (∑ k, x k * (dh k * g k)) = T
  have hρ : (0 : EReal) ≤ (ρ : EReal) := by exact_mod_cast h0
  rw [sub_eq_add_neg, EReal.left_distrib_of_nonneg_of_ne_top hρ (EReal.coe_ne_top ρ), mul_neg]
  have e1 : (ρ : EReal) * (x j * ρ * (T * ρ * (((1024 : ℝ)⁻¹ : ℝ) : EReal))) = x j * T * ((ρ * ρ * ρ * (1024 : ℝ)⁻¹ : ℝ) : EReal) := by
    simp only [EReal.coe_mul]; ac_rfl
  have e2 : x j * (T * (((-(1 / 2) : ℝ) : EReal) * ((ρ * ρ * ρ : ℝ) : EReal)) * (((1024 : ℝ)⁻¹ : ℝ) : EReal))
      = x j * T * ((-(1 / 2) * (ρ * ρ * ρ * (1024 : ℝ)⁻¹) : ℝ) : EReal) := by
    simp only [EReal.coe_mul]; ac_rfl
  rw [e1, halves _ _ (by positivity), mul_comm _ (x j), e2]
  ac_rfl

end Cert.Proof.RmsRow

end
-- ==== Proof.RmsBwd.lean ====
/-
  The gradient of the root-mean-square norm: what the grid leaves in both results, entry by entry, and the reference's.
-/
module

public import proofs.«01_k».proof.Defs
public import proofs.«01_k».proof.Proof.Gen.Kernel14Ideal.Value
public import proofs.«01_k».proof.Proof.Gen.Reference14Ideal.Run
public import proofs.«01_k».proof.Proof.MatSum
public import proofs.«01_k».proof.Proof.RmsRow
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.RmsBwd

open Cert.Kernel14Ideal Cert.Kernel14Ideal.Gen Cert.Kernel14Ideal.Value Cert.Proof.MatSum Cert.Proof.RmsRow

variable (m : (ℓ : Loc nD τ sig) → Buf (Elt Ideal) ℓ)

/-- The arguments as arrays of extended reals: the norm's input, its scale, the gradient from above and the residual's gradient. -/
abbrev xs (c : Dev nD) : Fin 4096 → Fin 1024 → EReal := fun a b => m ((c : Thread nD τ).loc main_arg0) (ix2 a b)
abbrev gs (c : Dev nD) : Fin 1024 → EReal := fun b => m ((c : Thread nD τ).loc main_arg1) (ix2 0 b)
abbrev ds (c : Dev nD) : Fin 4096 → Fin 1024 → EReal := fun a b => m ((c : Thread nD τ).loc main_arg2) (ix2 a b)
abbrev es (c : Dev nD) : Fin 4096 → Fin 1024 → EReal := fun a b => m ((c : Thread nD τ).loc main_arg3) (ix2 a b)

/-- The windows' block indices at every point. -/
theorem index_eq : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- Row `a` of a point's block is row `512 t + a` of the array. -/
def row (t : Fin cfg0.N) (a : Fin 512) : Fin 4096 :=
  ⟨t.val * 512 + a.val, by have hN : t.val < 8 := lt_of_lt_of_eq t.isLt N_0; have ha := a.isLt; omega⟩

/-- The blocks at a point, entry by entry. -/
theorem xblk (c : Dev nD) (t : Fin cfg0.N) (a : Fin 512) (b : Fin 1024) : iblk m c 0 t (ix2 a b) = xs m c (row t a) b := by
  obtain ⟨e0, e1, -⟩ := index_eq t
  unfold iblk; rw [View.read_apply]
  show V m c main_arg0 _ = _
  refine congrArg (m ((c : Thread nD τ).loc main_arg0)) (funext fun x => Fin.ext ?_)
  match x with
  | ⟨0, _⟩ => show win0_0.index t 0 * 512 + 1 * a.val = _; rw [e0, one_mul]; rfl
  | ⟨1, _⟩ => show win0_0.index t 1 * 1024 + 1 * b.val = _; rw [e1, one_mul, Nat.zero_mul, Nat.zero_add]; rfl

theorem gblk (c : Dev nD) (t : Fin cfg0.N) (b : Fin 1024) : iblk m c 1 t (ix2 0 b) = gs m c b := by
  obtain ⟨-, -, e0, e1, -⟩ := index_eq t
  unfold iblk; rw [View.read_apply]
  show V m c main_arg1 _ = _
  refine congrArg (m ((c : Thread nD τ).loc main_arg1)) (funext fun x => Fin.ext ?_)
  match x with
  | ⟨0, _⟩ => show win0_1.index t 0 * 1 + 1 * 0 = _; rw [e0]; rfl
  | ⟨1, _⟩ => show win0_1.index t 1 * 1024 + 1 * b.val = _; rw [e1, one_mul, Nat.zero_mul, Nat.zero_add]; rfl

theorem dblk (c : Dev nD) (t : Fin cfg0.N) (a : Fin 512) (b : Fin 1024) : iblk m c 2 t (ix2 a b) = ds m c (row t a) b := by
  obtain ⟨-, -, -, -, e0, e1, -⟩ := index_eq t
  unfold iblk; rw [View.read_apply]
  show V m c main_arg2 _ = _
  refine congrArg (m ((c : Thread nD τ).loc main_arg2)) (funext fun x => Fin.ext ?_)
  match x with
  | ⟨0, _⟩ => show win0_2.index t 0 * 512 + 1 * a.val = _; rw [e0, one_mul]; rfl
  | ⟨1, _⟩ => show win0_2.index t 1 * 1024 + 1 * b.val = _; rw [e1, one_mul, Nat.zero_mul, Nat.zero_add]; rfl

theorem eblk (c : Dev nD) (t : Fin cfg0.N) (a : Fin 512) (b : Fin 1024) : iblk m c 3 t (ix2 a b) = es m c (row t a) b := by
  obtain ⟨-, -, -, -, -, -, e0, e1, -⟩ := index_eq t
  unfold iblk; rw [View.read_apply]
  show V m c main_arg3 _ = _
  refine congrArg (m ((c : Thread nD τ).loc main_arg3)) (funext fun x => Fin.ext ?_)
  match x with
  | ⟨0, _⟩ => show win0_3.index t 0 * 512 + 1 * a.val = _; rw [e0, one_mul]; rfl
  | ⟨1, _⟩ => show win0_3.index t 1 * 1024 + 1 * b.val = _; rw [e1, one_mul, Nat.zero_mul, Nat.zero_add]; rfl

/-- The body's first store, entry by entry: the row's gradient by the kernel's formula. -/
theorem pay3_at (x0 : Vec Ideal S512x1024 .f32) (x1 : Vec Ideal S1x1024 .f32) (x2 x3 : Vec Ideal S512x1024 .f32) (a : Fin 512) (b : Fin 1024) :
    k0_pay3 (F := Ideal) x0 x2 x1 x3 (ix2 a b)
      = dxKernel (fun k => x0 (ix2 a k)) (fun k => x1 (ix2 0 k)) (fun k => x2 (ix2 a k)) (fun k => x3 (ix2 a k)) b := by
  unfold k0_pay3 k0_pay2 k0_pay1 dxKernel r ms
  pointwise

/-- Its second: what the block's rows add to the scale's gradient. -/
theorem pay5_at (x0 x2 : Vec Ideal S512x1024 .f32) (acc : Vec Ideal S1x1024 .f32) (b : Fin 1024) :
    k0_pay5 (F := Ideal) x0 x2 acc (ix2 0 b)
      = (acc (ix2 0 b) + ∑ a : Fin 512, (fun u v : EReal => u * v) (x2 (ix2 a b)) ((fun u v : EReal => u * v) (x0 (ix2 a b)) (r fun k => x0 (ix2 a k))) : EReal) := by
  unfold k0_pay5 k0_pay2 k0_pay1 r ms
  pointwise

section Stores
variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (x0 : Vec Ideal S512x1024 .f32) (x1 : Vec Ideal S1x1024 .f32) (x2 x3 : Vec Ideal S512x1024 .f32) (x5 : Vec Ideal S1x1024 .f32)

/-- Both cases store the rows' gradient in the first result's block; -/
theorem out4_A (hc0 : cond0_0 i) :
    out0_A_4 (F := Ideal) c i a1 h1 a2 h2 a3 h3 a4 h4 a5 h5 a6 h6 hc0 x0 x1 x2 x3 = k0_pay3 (F := Ideal) x0 x2 x1 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

theorem out4_B (hc0 : ¬cond0_0 i) :
    out0_B_4 (F := Ideal) c i a1 h1 a2 h2 a3 h3 a4 h4 a5 h5 a6 h6 hc0 x0 x1 x2 x3 x5 = k0_pay3 (F := Ideal) x0 x2 x1 x3 := by
  unfold out0_B_4
  rw [View.read_writes_eq_canon _ _ _ (cover0_B_4 c i a1 h1 a2 h2 a3 h3 a4 h4 a5 h5 a6 h6 hc0 x0 x1 x2 x3 x5)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- the first point adds its rows to a zero, -/
theorem out5_A (hc0 : cond0_0 i) :
    out0_A_5 (F := Ideal) c i a1 h1 a2 h2 a3 h3 a4 h4 a5 h5 a6 h6 hc0 x0 x1 x2 x3 = k0_pay5 (F := Ideal) x0 x2 (k0_pay4 (F := Ideal)) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, View.ld_unit_zero (S := S512x1024) hz, View.ld_unit_zero (S := S1x1024) hz]

/-- and the others to what the point before left. -/
theorem out5_B (hc0 : ¬cond0_0 i) :
    out0_B_5 (F := Ideal) c i a1 h1 a2 h2 a3 h3 a4 h4 a5 h5 a6 h6 hc0 x0 x1 x2 x3 x5 = k0_pay5 (F := Ideal) x0 x2 x5 := by
  unfold out0_B_5
  rw [View.read_writes_eq_canon _ _ _ (cover0_B_5 c i a1 h1 a2 h2 a3 h3 a4 h4 a5 h5 a6 h6 hc0 x0 x1 x2 x3 x5)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1024) hz]

end Stores

/-- The first result: each row's gradient by the kernel's formula. -/
def result (c : Dev nD) : Vec Ideal S4096x1024 .f32 := fun i => dxKernel (xs m c (i 0)) (gs m c) (ds m c (i 0)) (es m c (i 0)) (i 1)

/-- At every point the first result's block is the payload. -/
theorem out4_eq (c : Dev nD) (t : Fin cfg0.N) :
    (outsAt0 m c t.val t.isLt).1 = k0_pay3 (F := Ideal) (iblk m c 0 t) (iblk m c 2 t) (iblk m c 1 t) (iblk m c 3 t) := by
  by_cases h0 : t.val % 8 = 0
  · rw [outsAt0_A m c t h0]; dsimp only; rw [out4_A]
  · rw [outsAt0_B m c t h0]; dsimp only; rw [out4_B]

theorem flushed4_eq (c : Dev nD) (t : Fin cfg0.N) (hf : (cfg0.win 4).flush t = true) :
    (dats m 0 c).flushed 4 t = ((cfg0.win 4).blk t).view.read (Elt Ideal) (result m c) := by
  obtain ⟨-, -, -, -, -, -, -, -, e0, e1, -⟩ := index_eq t
  rw [flushed4, out4_eq]
  funext j
  have h0 : (((cfg0.win 4).blk t).view.emb j : S4096x1024.Idx) = ix2 (row t (j 0)) (j 1) := by
    funext x
    match x with
    | ⟨0, _⟩ => exact Fin.ext (by show win0_4.index t 0 * 512 + 1 * (j 0).val = _; rw [e0, one_mul]; rfl)
    | ⟨1, _⟩ => exact Fin.ext (by show win0_4.index t 1 * 1024 + 1 * (j 1).val = _; rw [e1, one_mul, Nat.zero_mul, Nat.zero_add]; rfl)
  rw [View.read_apply, h0]
  show k0_pay3 (F := Ideal) (iblk m c 0 t) (iblk m c 2 t) (iblk m c 1 t) (iblk m c 3 t) j = dxKernel (xs m c (row t (j 0))) (gs m c) (ds m c (row t (j 0))) (es m c (row t (j 0))) (j 1)
  idx_vars j
  refine (pay3_at (iblk m c 0 t) (iblk m c 1 t) (iblk m c 2 t) (iblk m c 3 t) j0 j1).trans ?_
  rw [show (fun k => iblk m c 0 t (ix2 j0 k)) = xs m c (row t j0) from funext fun k => xblk m c t j0 k,
    show (fun k => iblk m c 1 t (ix2 0 k)) = gs m c from funext fun k => gblk m c t k,
    show (fun k => iblk m c 2 t (ix2 j0 k)) = ds m c (row t j0) from funext fun k => dblk m c t j0 k,
    show (fun k => iblk m c 3 t (ix2 j0 k)) = es m c (row t j0) from funext fun k => eblk m c t j0 k]

theorem final4 (c : Dev nD) : (dats m 0 c).arrAt 4 cfg0.N = result m c :=
  (dats m 0 c).arrAt_eq_of_cover 4 (result m c) (flushed4_eq m c) fun i => by
    have hi0 : (i 0 : ℕ) < 4096 := (i 0).isLt
    have hi1 : (i 1 : ℕ) < 1024 := (i 1).isLt
    have ht : (i 0 : ℕ) / 512 < cfg0.N := by rw [show cfg0.N = 8 from N_0]; omega
    obtain ⟨-, -, -, -, -, -, -, -, e0, e1, -⟩ := index_eq ⟨_, ht⟩
    refine ⟨⟨_, ht⟩, flush0_4 _, ?_⟩
    show i ∈ ((View.whole main_v0_0).slice (win0_4.rect ⟨_, ht⟩)).set
    rw [View.set_slice_whole, Rect.mem_set_unit]
    intro a
    match a with
    | ⟨0, _⟩ =>
      show win0_4.index ⟨_, ht⟩ 0 * 512 ≤ (i 0 : ℕ) ∧ (i 0 : ℕ) < win0_4.index ⟨_, ht⟩ 0 * 512 + 512
      rw [e0]; dsimp only; omega
    | ⟨1, _⟩ =>
      show win0_4.index ⟨_, ht⟩ 1 * 1024 ≤ (i 1 : ℕ) ∧ (i 1 : ℕ) < win0_4.index ⟨_, ht⟩ 1 * 1024 + 1024
      rw [e1]; dsimp only; omega

/-- What row `n` adds to entry `b` of the scale's gradient (nothing past the last row). -/
def term (c : Dev nD) (b : Fin 1024) (n : ℕ) : EReal :=
  if h : n < 4096 then ds m c ⟨n, h⟩ b * (xs m c ⟨n, h⟩ b * r (xs m c ⟨n, h⟩)) else 0

/-- What a point's rows add. -/
theorem rows_at (c : Dev nD) (t : Fin cfg0.N) (b : Fin 1024) :
    (∑ a : Fin 512, (fun u v : EReal => u * v) (iblk m c 2 t (ix2 a b)) ((fun u v : EReal => u * v) (iblk m c 0 t (ix2 a b)) (r fun k => iblk m c 0 t (ix2 a k))))
      = ∑ a : Fin 512, term m c b (t.val * 512 + a.val) := by
  refine Finset.sum_congr rfl fun a _ => ?_
  unfold term
  rw [dif_pos (show t.val * 512 + a.val < 4096 from (row t a).isLt), show (fun k => iblk m c 0 t (ix2 a k)) = xs m c (row t a) from funext fun k => xblk m c t a k]
  exact congrArg₂ (fun u v : EReal => u * v) (dblk m c t a b) (congrArg (fun u : EReal => u * r (xs m c (row t a))) (xblk m c t a b))

theorem zero_at (b : Fin 1024) : k0_pay4 (F := Ideal) (ix2 0 b) = (0 : EReal) := by
  unfold k0_pay4
  pointwise

/-- The accumulator after a point: the rows so far. -/
theorem acc_eq (c : Dev nD) (b : Fin 1024) : ∀ (n : ℕ) (h : n < cfg0.N),
    (outsAt0 m c n h).2 (ix2 0 b) = ∑ u ∈ Finset.range (n % 8 + 1), ∑ a : Fin 512, term m c b (u * 512 + a.val) := by
  refine run_sum 8 (fun n h => (outsAt0 m c n h).2 (ix2 0 b)) (fun _ u => ∑ a : Fin 512, term m c b (u * 512 + a.val)) (fun n h h0 => ?_) (fun n h h0 => ?_)
  · have hN : n < 8 := lt_of_lt_of_eq h N_0
    have hn : n = 0 := by omega
    subst hn
    show (outsAt0 m c 0 h).2 (ix2 0 b) = _
    rw [outsAt0_A m c ⟨0, h⟩ h0]
    dsimp only
    rw [out5_A, pay5_at, rows_at, zero_at, zero_add]
  · have hN : n + 1 < 8 := lt_of_lt_of_eq h N_0
    show (outsAt0 m c (n + 1) h).2 (ix2 0 b) = _
    rw [outsAt0_B m c ⟨n + 1, h⟩ h0]
    dsimp only
    rw [out5_B, pay5_at, rows_at, Nat.mod_eq_of_lt hN]
    rfl

/-- The second result: the rows' sum. -/
def resultG (c : Dev nD) : Vec Ideal S1x1024 .f32 := fun i => (∑ a : Fin 4096, ds m c a (i 1) * (xs m c a (i 1) * r (xs m c a)) : EReal)

theorem flushed5_eq (c : Dev nD) (t : Fin cfg0.N) (hf : (cfg0.win 5).flush t = true) :
    (dats m 0 c).flushed 5 t = ((cfg0.win 5).blk t).view.read (Elt Ideal) (resultG m c) := by
  obtain ⟨-, -, -, -, -, -, -, -, -, -, e0, e1⟩ := index_eq t
  have h7 : t.val % 8 = 7 := (flush0_5 t).mp hf
  rw [flushed5]
  funext j
  have h0 : (((cfg0.win 5).blk t).view.emb j : S1x1024.Idx) = j := by
    funext x
    match x with
    | ⟨0, _⟩ => exact Fin.ext (by show win0_5.index t 0 * 1 + 1 * (j 0).val = _; rw [e0, one_mul, Nat.zero_mul, Nat.zero_add]; rfl)
    | ⟨1, _⟩ => exact Fin.ext (by show win0_5.index t 1 * 1024 + 1 * (j 1).val = _; rw [e1, one_mul, Nat.zero_mul, Nat.zero_add]; rfl)
  rw [View.read_apply, h0]
  show (outsAt0 m c t.val t.isLt).2 j = (∑ a : Fin 4096, ds m c a (j 1) * (xs m c a (j 1) * r (xs m c a)) : EReal)
  have hj : j = ix2 0 (j 1) := funext fun x => match x with
    | ⟨0, _⟩ => Subsingleton.elim (α := Fin 1) _ _
    | ⟨1, _⟩ => rfl
  rw [hj]
  refine (acc_eq m c (j 1) t.val t.isLt).trans ?_
  rw [h7, sum_blocks_fin (term m c (j 1)) 8 512 4096 rfl]
  refine Finset.sum_congr rfl fun a _ => ?_
  unfold term
  rw [dif_pos a.isLt]
  rfl

theorem final5 (c : Dev nD) : (dats m 0 c).arrAt 5 cfg0.N = resultG m c :=
  (dats m 0 c).arrAt_eq_of_cover 5 (resultG m c) (flushed5_eq m c) fun i => by
    have hi0 : (i 0 : ℕ) < 1 := (i 0).isLt
    have hi1 : (i 1 : ℕ) < 1024 := (i 1).isLt
    have ht : 7 < cfg0.N := by rw [show cfg0.N = 8 from N_0]; omega
    obtain ⟨-, -, -, -, -, -, -, -, -, -, e0, e1⟩ := index_eq ⟨_, ht⟩
    refine ⟨⟨_, ht⟩, (flush0_5 _).mpr rfl, ?_⟩
    show i ∈ ((View.whole main_v0_1).slice (win0_5.rect ⟨_, ht⟩)).set
    rw [View.set_slice_whole, Rect.mem_set_unit]
    intro a
    match a with
    | ⟨0, _⟩ =>
      show win0_5.index ⟨_, ht⟩ 0 * 1 ≤ (i 0 : ℕ) ∧ (i 0 : ℕ) < win0_5.index ⟨_, ht⟩ 0 * 1 + 1
      rw [e0]; omega
    | ⟨1, _⟩ =>
      show win0_5.index ⟨_, ht⟩ 1 * 1024 ≤ (i 1 : ℕ) ∧ (i 1 : ℕ) < win0_5.index ⟨_, ht⟩ 1 * 1024 + 1024
      rw [e1]; omega

/-- Over the extended reals the program's results are the reference's. -/
theorem equal : Cert.algebraic_Kernel14Ideal_Reference14Ideal (hKernel14Ideal := Cert.Kernel14Ideal.Gen.facts)
    (hReference14Ideal := Cert.Reference14Ideal.Gen.facts) := by
  intro m ρ m' ρ' _ hagree
  refine ⟨fun c => result m c, fun c => resultG m c, (θ_run defs _ _).mono (fun _ h c => ⟨(h c).1.trans (final4 m c), (h c).2.1.trans (final5 m c), (h c).2.2⟩) (run_blocks (F := Ideal) m ρ), ?_⟩
  refine (θ_run Cert.Reference14Ideal.defs _ _).mono (fun _ h c => ⟨?_, ?_, (h c).2.2⟩) (Cert.Reference14Ideal.Value.run (F := Ideal) m' ρ')
  · rw [(h c).1]
    unfold Cert.Reference14Ideal.Value.res_main_v38
    rw [(hagree c).1, (hagree c).2.1, (hagree c).2.2.1, (hagree c).2.2.2]
    funext (i : S4096x1024.Idx)
    refine Eq.trans ?_ (dx_eq (xs m c (i 0)) (gs m c) (ds m c (i 0)) (es m c (i 0)) (i 1)).symm
    idx_vars i
    unfold dxRule scale r ms
    pointwise
    simp only [Finset.univ_unique, Finset.sum_singleton]
  · rw [(h c).2.1, (hagree c).1, (hagree c).2.2.1]
    funext (i : S1x1024.Idx)
    show _ = (∑ a : Fin 4096, ds m c a (i 1) * (xs m c a (i 1) * r (xs m c a)) : EReal)
    idx_vars i
    unfold r ms
    pointwise
    refine (Fin.sum_univ_one _).trans (Finset.sum_congr rfl fun a _ => ?_)
    exact mul_comm (G := EReal) _ _

end Cert.Proof.RmsBwd

end
-- ==== Proof.RmsFwd.lean ====
/-
  The root-mean-square norm: what the grid leaves, entry by entry.
-/
module

public import proofs.«01_k».proof.Defs
public import proofs.«01_k».proof.Proof.Gen.Kernel15Ideal.Value
public import proofs.«01_k».proof.Proof.Gen.Reference15Ideal.Run
public import proofs.«01_k».proof.Proof.MatSum
public import proofs.«01_k».proof.Proof.RmsRow
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.RmsFwd

open Cert.Kernel15Ideal Cert.Kernel15Ideal.Gen Cert.Kernel15Ideal.Value Cert.Proof.MatSum Cert.Proof.RmsRow

variable (m : (ℓ : Loc nD τ sig) → Buf (Elt Ideal) ℓ)

/-- The arguments as arrays of extended reals: the norm's input and its scale. -/
abbrev xs (c : Dev nD) : Fin 4096 → Fin 1024 → EReal := fun a b => m ((c : Thread nD τ).loc main_arg0) (ix2 a b)
abbrev gs (c : Dev nD) : Fin 1024 → EReal := fun b => m ((c : Thread nD τ).loc main_arg1) (ix2 0 b)

/-- The windows' block indices at every point. -/
theorem index_eq : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are eight points. -/
theorem point_lt (t : Fin cfg0.N) : t.val < 8 := lt_of_lt_of_eq t.isLt N_0

/-- The blocks at a point, entry by entry: 512 rows of the input, and the whole scale. -/
theorem xblk (c : Dev nD) (t : Fin cfg0.N) (a : Fin 512) (b : Fin 1024) : iblk m c 0 t (ix2 a b) = xs m c (row512 t.val (point_lt t) a) b := by
  obtain ⟨e0, e1, -⟩ := index_eq t
  exact entry_at (m ((c : Thread nD τ).loc main_arg0)) (((cfg0.win 0).blk t).view.emb (ix2 a b))
    (by show win0_0.index t 0 * 512 + 1 * a.val = _; rw [e0, Nat.one_mul]; rfl)
    (by show win0_0.index t 1 * 1024 + 1 * b.val = _; rw [e1, Nat.one_mul, Nat.zero_mul, Nat.zero_add])

theorem gblk (c : Dev nD) (t : Fin cfg0.N) (b : Fin 1024) : iblk m c 1 t (ix2 0 b) = gs m c b := by
  obtain ⟨-, -, e0, e1, -⟩ := index_eq t
  exact entry_at (m ((c : Thread nD τ).loc main_arg1)) (((cfg0.win 1).blk t).view.emb (ix2 0 b))
    (by show win0_1.index t 0 * 1 + 1 * 0 = _; rw [e0]; rfl)
    (by show win0_1.index t 1 * 1024 + 1 * b.val = _; rw [e1, Nat.one_mul, Nat.zero_mul, Nat.zero_add])

/-- A row's entry, normalised and scaled. -/
def norm (x g : Fin 1024 → EReal) (j : Fin 1024) : EReal := x j * r x * g j

/-- The body's store, entry by entry. -/
theorem pay_at (x0 : Vec Ideal S512x1024 .f32) (x1 : Vec Ideal S1x1024 .f32) (a : Fin 512) (b : Fin 1024) :
    k0_pay1 (F := Ideal) x0 x1 (ix2 a b) = norm (fun k => x0 (ix2 a k)) (fun k => x1 (ix2 0 k)) b := by
  unfold k0_pay1 norm r ms
  pointwise

/-- The result: every row normalised. -/
def result (c : Dev nD) : Buf (Elt Ideal) ((c : Thread nD τ).loc main_v0) := fun i : S4096x1024.Idx =>
  (norm (xs m c (i 0)) (gs m c) (i 1) : EReal)

/-- What the body leaves in the result's staging buffer. -/
theorem out_eq (x0 : Vec Ideal S512x1024 .f32) (x1 : Vec Ideal S1x1024 .f32) :
    out0_2 (F := Ideal) x0 x1 = k0_pay1 (F := Ideal) x0 x1 := by
  unfold out0_2
  rw [View.canon_unit_zero hz]
  simp only [View.ld_unit_zero (S := S512x1024) hz, View.ld_unit_zero (S := S1x1024) hz]

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2, out_eq]
  funext (j : S512x1024.Idx)
  refine Eq.trans ?_ (entry_at (result m c) (((cfg0.win 2).blk t).view.emb j) (i := row512 t.val (point_lt t) (j 0)) (j := j 1)
    (by show win0_2.index t 0 * 512 + 1 * (j 0).val = _; rw [e0, Nat.one_mul]; rfl)
    (by show win0_2.index t 1 * 1024 + 1 * (j 1).val = _; rw [e1, Nat.one_mul, Nat.zero_mul, Nat.zero_add])).symm
  idx_vars j
  refine (pay_at (iblk m c 0 t) (iblk m c 1 t) j0 j1).trans ?_
  rw [show (fun k => iblk m c 0 t (ix2 j0 k)) = xs m c (row512 t.val (point_lt t) j0) from funext fun k => xblk m c t j0 k,
    show (fun k => iblk m c 1 t (ix2 0 k)) = gs m c from funext fun k => gblk m c t k]
  rfl

/-- The points' blocks cover the result. -/
theorem final (c : Dev nD) : (dats m 0 c).arrAt 2 cfg0.N = result m c :=
  (dats m 0 c).arrAt_eq_of_cover 2 (result m c) (flushed_eq m c) fun (i : S4096x1024.Idx) => by
    have ht : (i 0).val / 512 < cfg0.N := lt_of_lt_of_eq (Nat.div_lt_of_lt_mul (i 0).isLt : _ < 8) N_0.symm
    obtain ⟨-, -, -, -, e0, e1⟩ := index_eq ⟨_, ht⟩
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => exact block_mem (by decide : 0 < 512) e0
    | ⟨1, _⟩ => exact block_mem (by decide : 0 < 1024) (e1.trans (Nat.div_eq_of_lt (i 1).isLt).symm)

/-- Over the extended reals the program's result is the reference's. -/
theorem equal : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference15Ideal.defs _ _).mono (fun _ h c => ⟨?_, (h c).2⟩) (Cert.Reference15Ideal.Value.run (F := Ideal) m' ρ')
  rw [(h c).1, (hagree c).1, (hagree c).2]
  funext (i : S4096x1024.Idx)
  show _ = (norm (xs m c (i 0)) (gs m c) (i 1) : EReal)
  idx_vars i
  unfold norm r ms
  pointwise

end Cert.Proof.RmsFwd

end
-- ==== Proof.GluFwd.lean ====
/-
  The gated linear unit with the residual added: what the grid leaves, entry by entry.
-/
module

public import proofs.«01_k».proof.Defs
public import proofs.«01_k».proof.Proof.Gen.Kernel16Ideal.Value
public import proofs.«01_k».proof.Proof.Gen.Reference16Ideal.Run
public import proofs.«01_k».proof.Proof.MatSum
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.GluFwd

open Cert.Kernel16Ideal Cert.Kernel16Ideal.Gen Cert.Kernel16Ideal.Value Cert.Proof.MatSum

variable (m : (ℓ : Loc nD τ sig) → Buf (Elt Ideal) ℓ)

/-- The arguments as arrays of extended reals: value and gate side by side, and the residual. -/
abbrev zs (c : Dev nD) : Fin 4096 → Fin 2048 → EReal := fun a b => m ((c : Thread nD τ).loc main_arg0) (ix2 a b)
abbrev xs (c : Dev nD) : Fin 4096 → Fin 1024 → EReal := fun a b => m ((c : Thread nD τ).loc main_arg1) (ix2 a b)

/-- The windows' block indices at every point. -/
theorem index_eq : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- There are eight points. -/
theorem point_lt (t : Fin cfg0.N) : t.val < 8 := lt_of_lt_of_eq t.isLt N_0

/-- The blocks at a point, entry by entry: 512 rows of either argument. -/
theorem zblk (c : Dev nD) (t : Fin cfg0.N) (a : Fin 512) (b : Fin 2048) : iblk m c 0 t (ix2 a b) = zs m c (row512 t.val (point_lt t) a) b := by
  obtain ⟨e0, e1, -⟩ := index_eq t
  exact entry_at (m ((c : Thread nD τ).loc main_arg0)) (((cfg0.win 0).blk t).view.emb (ix2 a b))
    (by show win0_0.index t 0 * 512 + 1 * a.val = _; rw [e0, Nat.one_mul]; rfl)
    (by show win0_0.index t 1 * 2048 + 1 * b.val = _; rw [e1, Nat.one_mul, Nat.zero_mul, Nat.zero_add])

theorem xblk (c : Dev nD) (t : Fin cfg0.N) (a : Fin 512) (b : Fin 1024) : iblk m c 1 t (ix2 a b) = xs m c (row512 t.val (point_lt t) a) b := by
  obtain ⟨-, -, e0, e1, -⟩ := index_eq t
  exact entry_at (m ((c : Thread nD τ).loc main_arg1)) (((cfg0.win 1).blk t).view.emb (ix2 a b))
    (by show win0_1.index t 0 * 512 + 1 * a.val = _; rw [e0, Nat.one_mul]; rfl)
    (by show win0_1.index t 1 * 1024 + 1 * b.val = _; rw [e1, Nat.one_mul, Nat.zero_mul, Nat.zero_add])

/-- A column's gate is 1024 columns further on than its value. -/
def val (b : Fin 1024) : Fin 2048 := ⟨b.val, by have hb := b.isLt; omega⟩
def gate (b : Fin 1024) : Fin 2048 := ⟨1024 + b.val, by have hb := b.isLt; omega⟩

/-- The unit at one entry, and the body's store at one entry. -/
def one : EReal := Ideal.ofBits .f32 0x3F800000#32
def glu (x v g : EReal) : EReal := x + v * Ideal.div one (one + Ideal.exp (-g))

theorem pay_at (x v g : Vec Ideal S512x1024 .f32) (a : Fin 512) (b : Fin 1024) :
    k0_pay1 (F := Ideal) x v g (ix2 a b) = glu (x (ix2 a b)) (v (ix2 a b)) (g (ix2 a b)) := by
  unfold k0_pay1 glu one
  pointwise
  rw [zero_sub]

/-- What the body leaves in the result's staging buffer, entry by entry: it reads the values and the gates from the two
    halves of the first argument's block. -/
theorem out_at (x0 : Vec Ideal S512x2048 .f32) (x1 : Vec Ideal S512x1024 .f32) (a : Fin 512) (b : Fin 1024) :
    out0_2 (F := Ideal) x0 x1 (ix2 a b) = glu (x1 (ix2 a b)) (x0 (ix2 a (val b))) (x0 (ix2 a (gate b))) := by
  unfold out0_2
  rw [View.canon_unit_zero hz, View.ld_unit_zero (S := S512x1024) hz, pay_at]
  exact congrArg₂ (glu _)
    (entry_at x0 (r0_1.idx (ix2 a b)) (by show 0 + 1 * a.val = _; omega) (by show 0 + 1 * b.val = b.val; omega))
    (entry_at x0 (r0_2.idx (ix2 a b)) (by show 0 + 1 * a.val = _; omega) (by show 1024 + 1 * b.val = 1024 + b.val; omega))

/-- The result, entry by entry. -/
def result (c : Dev nD) : Buf (Elt Ideal) ((c : Thread nD τ).loc main_v0) := fun i : S4096x1024.Idx =>
  (glu (xs m c (i 0) (i 1)) (zs m c (i 0) (val (i 1))) (zs m c (i 0) (gate (i 1))) : EReal)

/-- Every point writes back its block of the result. -/
theorem flushed_eq (c : Dev nD) (t : Fin cfg0.N) (hf : (cfg0.win 2).flush t = true) :
    (dats m 0 c).flushed 2 t = ((cfg0.win 2).blk t).view.read (Elt Ideal) (result m c) := by
  obtain ⟨-, -, -, -, e0, e1⟩ := index_eq t
  rw [flushed2]
  funext (j : S512x1024.Idx)
  refine Eq.trans ?_ (entry_at (result m c) (((cfg0.win 2).blk t).view.emb j) (i := row512 t.val (point_lt t) (j 0)) (j := j 1)
    (by show win0_2.index t 0 * 512 + 1 * (j 0).val = _; rw [e0, Nat.one_mul]; rfl)
    (by show win0_2.index t 1 * 1024 + 1 * (j 1).val = _; rw [e1, Nat.one_mul, Nat.zero_mul, Nat.zero_add])).symm
  idx_vars j
  refine (out_at (iblk m c 0 t) (iblk m c 1 t) j0 j1).trans ?_
  rw [zblk, zblk, xblk]
  rfl

/-- The points' blocks cover the result. -/
theorem final (c : Dev nD) : (dats m 0 c).arrAt 2 cfg0.N = result m c :=
  (dats m 0 c).arrAt_eq_of_cover 2 (result m c) (flushed_eq m c) fun (i : S4096x1024.Idx) => by
    have ht : (i 0).val / 512 < cfg0.N := lt_of_lt_of_eq (Nat.div_lt_of_lt_mul (i 0).isLt : _ < 8) N_0.symm
    obtain ⟨-, -, -, -, e0, e1⟩ := index_eq ⟨_, ht⟩
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ => exact block_mem (by decide : 0 < 512) e0
    | ⟨1, _⟩ => exact block_mem (by decide : 0 < 1024) (e1.trans (Nat.div_eq_of_lt (i 1).isLt).symm)

/-- Over the extended reals the program's result is the reference's. -/
theorem equal : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => result m c, (θ_run defs _ _).mono (fun _ h c => ⟨(h c).1.trans (final m c), (h c).2⟩) (run_blocks (F := Ideal) m ρ), ?_⟩
  refine (θ_run Cert.Reference16Ideal.defs _ _).mono (fun _ h c => ⟨?_, (h c).2⟩) (Cert.Reference16Ideal.Value.run (F := Ideal) m' ρ')
  rw [(h c).1, (hagree c).1, (hagree c).2]
  funext (i : S4096x1024.Idx)
  show _ = (glu (xs m c (i 0) (i 1)) (zs m c (i 0) (val (i 1))) (zs m c (i 0) (gate (i 1))) : EReal)
  idx_vars i
  unfold glu one
  pointwise
  rfl

end Cert.Proof.GluFwd

end
-- ==== Proof.LossHead.lean ====
/-
  The loss and its gradient: what the grid leaves in both results, the line after it, and the reference's, entry by entry.
-/
module

public import proofs.«01_k».proof.Defs
public import proofs.«01_k».proof.Proof.Gen.Kernel17Ideal.Frame
public import proofs.«01_k».proof.Proof.Gen.Reference17Ideal.Run
public import proofs.«01_k».proof.Proof.MatSum
public import proofs.«01_k».proof.Proof.RmsRow
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.LossHead

open Cert.Kernel17Ideal Cert.Kernel17Ideal.Gen Cert.Proof.MatSum Cert.Proof.RmsRow

variable (m : (ℓ : Loc nD τ sig) → Buf (Elt Ideal) ℓ)

/-- The error: the output less the target, as an array of extended reals. -/
abbrev ys (c : Dev nD) : Fin 4096 → Fin 1024 → EReal := fun a b => m ((c : Thread nD τ).loc main_arg0) (ix2 a b)
abbrev ts (c : Dev nD) : Fin 4096 → Fin 1024 → EReal := fun a b => m ((c : Thread nD τ).loc main_arg1) (ix2 a b)
def err (c : Dev nD) (a : Fin 4096) (b : Fin 1024) : EReal := ys m c a b - ts m c a b

/-- The windows' block indices at every point. -/
theorem index_eq : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- There are eight points. -/
theorem point_lt (t : Fin cfg0.N) : t.val < 8 := lt_of_lt_of_eq t.isLt N_0

/-- The blocks at a point, entry by entry: 512 rows of either argument. -/
theorem yblk (c : Dev nD) (t : Fin cfg0.N) (a : Fin 512) (b : Fin 1024) : iblk m c 0 t (ix2 a b) = ys m c (row512 t.val (point_lt t) a) b := by
  obtain ⟨e0, e1, -⟩ := index_eq t
  exact entry_at (m ((c : Thread nD τ).loc main_arg0)) (((cfg0.win 0).blk t).view.emb (ix2 a b))
    (by show win0_0.index t 0 * 512 + 1 * a.val = _; rw [e0, Nat.one_mul]; rfl)
    (by show win0_0.index t 1 * 1024 + 1 * b.val = _; rw [e1, Nat.one_mul, Nat.zero_mul, Nat.zero_add])

theorem tblk (c : Dev nD) (t : Fin cfg0.N) (a : Fin 512) (b : Fin 1024) : iblk m c 1 t (ix2 a b) = ts m c (row512 t.val (point_lt t) a) b := by
  obtain ⟨-, -, e0, e1, -⟩ := index_eq t
  exact entry_at (m ((c : Thread nD τ).loc main_arg1)) (((cfg0.win 1).blk t).view.emb (ix2 a b))
    (by show win0_1.index t 0 * 512 + 1 * a.val = _; rw [e0, Nat.one_mul]; rfl)
    (by show win0_1.index t 1 * 1024 + 1 * b.val = _; rw [e1, Nat.one_mul, Nat.zero_mul, Nat.zero_add])

/-- The two factors, the reciprocal of the row's length and half of it, as their words denote them. -/
abbrev inv : EReal := Ideal.ofBits .f32 0x3A800000#32
abbrev hinv : EReal := Ideal.ofBits .f32 0x3A000000#32

theorem inv_eq : inv = (((1024 : ℝ)⁻¹ : ℝ) : EReal) := by
  simp [inv, Ideal.ofBits, Ideal.ieee]
  rw [← EReal.coe_mul]
  norm_num

theorem hinv_eq : hinv = (((2048 : ℝ)⁻¹ : ℝ) : EReal) := by
  simp [hinv, Ideal.ofBits, Ideal.ieee]
  rw [← EReal.coe_mul]
  norm_num

/-- The reference's constants, a half and two. -/
abbrev half : EReal := Ideal.ofBits .f32 0x3F000000#32
abbrev two : EReal := Ideal.ofBits .f32 0x40000000#32

theorem half_eq : half = ((1 / 2 : ℝ) : EReal) := by
  simp [half, Ideal.ofBits, Ideal.ieee]
  rw [← EReal.coe_mul]
  norm_num

theorem two_eq : two = ((2 : ℝ) : EReal) := by
  simp [two, Ideal.ofBits, Ideal.ieee]
  rw [← EReal.coe_mul]
  norm_num

/-- Half the mean's derivative, twice the error: the error over the row's length. -/
theorem dy_eq (e : EReal) : Ideal.div half len * (two * e) = e * inv := by
  rw [div_len, half_eq, two_eq, inv_eq, ← mul_assoc, ← EReal.coe_mul, ← EReal.coe_mul, mul_comm]
  norm_num

/-- Half the sum of the rows' means is the sum of the columns' parts. -/
theorem loss_eq (f : Fin 4096 → Fin 1024 → EReal) :
    half * ∑ a, Ideal.div (∑ b, f a b) len = ∑ b, (∑ a, f a b) * hinv := by
  simp only [div_len]
  rw [hinv_eq, sum_mul_real _ _ _ (by positivity), sum_mul_real _ _ _ (by positivity), Finset.sum_comm, half_eq, mul_left_comm, ← EReal.coe_mul]
  norm_num

/-- The body's first store, entry by entry; -/
theorem pay2_at (x0 x1 : Vec Ideal S512x1024 .f32) (a : Fin 512) (b : Fin 1024) :
    k0_pay2 (F := Ideal) x0 x1 (ix2 a b) = ((x0 (ix2 a b) - x1 (ix2 a b) : EReal) * inv : EReal) := by
  unfold k0_pay2 k0_pay1
  pointwise

/-- The square of a difference. -/
def dsq (u v : EReal) : EReal := (u - v) * (u - v)

/-- its second: what the block's rows add to the loss. -/
theorem pay4_at (x0 x1 : Vec Ideal S512x1024 .f32) (acc : Vec Ideal S1x1024 .f32) (b : Fin 1024) :
    k0_pay4 (F := Ideal) x0 x1 acc (ix2 0 b)
      = (acc (ix2 0 b) + (∑ a : Fin 512, dsq (x0 (ix2 a b)) (x1 (ix2 a b))) * hinv : EReal) := by
  unfold k0_pay4 k0_pay1 dsq
  pointwise

theorem zero_at (b : Fin 1024) : k0_pay3 (F := Ideal) (ix2 0 b) = (0 : EReal) := by
  unfold k0_pay3
  pointwise

section Stores
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (x0 x1 : Vec Ideal S512x1024 .f32) (x3 : Vec Ideal S1x1024 .f32)

/-- Both cases store the rows' gradient in the first result's block; -/
theorem out2_A (hc0 : cond0_0 i) :
    out0_A_2 (F := Ideal) c i a1 h1 a2 h2 a3 h3 a4 h4 hc0 x0 x1 = k0_pay2 (F := Ideal) x0 x1 := by
  unfold out0_A_2
  rw [View.read_writes_eq_canon _ _ _ (cover0_A_2 c i a1 h1 a2 h2 a3 h3 a4 h4 hc0 x0 x1)]
  unfold kernelRun0_A
  dsimp only
  sl_unfold_words
  rw [View.canon_unit_zero hz, ld_whole a1 h1, ld_whole a2 h2]

theorem out2_B (hc0 : ¬cond0_0 i) :
    out0_B_2 (F := Ideal) c i a1 h1 a2 h2 a3 h3 a4 h4 hc0 x0 x1 x3 = k0_pay2 (F := Ideal) x0 x1 := by
  unfold out0_B_2
  rw [View.read_writes_eq_canon _ _ _ (cover0_B_2 c i a1 h1 a2 h2 a3 h3 a4 h4 hc0 x0 x1 x3)]
  unfold kernelRun0_B
  dsimp only
  sl_unfold_words
  rw [View.canon_unit_zero hz, ld_whole a1 h1, ld_whole a2 h2]

/-- the first point adds its rows to a zero, -/
theorem out3_A (hc0 : cond0_0 i) :
    out0_A_3 (F := Ideal) c i a1 h1 a2 h2 a3 h3 a4 h4 hc0 x0 x1 = k0_pay4 (F := Ideal) x0 x1 (k0_pay3 (F := Ideal)) := by
  unfold out0_A_3
  rw [View.read_writes_eq_canon _ _ _ (cover0_A_3 c i a1 h1 a2 h2 a3 h3 a4 h4 hc0 x0 x1)]
  unfold kernelRun0_A
  dsimp only
  sl_unfold_words
  rw [View.canon_cons_unit_zero (S := S1x1024) hz, View.readCov_unit_zero (S := S1x1024) _ hz, ld_whole a1 h1, ld_whole a2 h2]

/-- and the others to what the point before left. -/
theorem out3_B (hc0 : ¬cond0_0 i) :
    out0_B_3 (F := Ideal) c i a1 h1 a2 h2 a3 h3 a4 h4 hc0 x0 x1 x3 = k0_pay4 (F := Ideal) x0 x1 x3 := by
  unfold out0_B_3
  rw [View.read_writes_eq_canon _ _ _ (cover0_B_3 c i a1 h1 a2 h2 a3 h3 a4 h4 hc0 x0 x1 x3)]
  unfold kernelRun0_B
  dsimp only
  sl_unfold_words
  rw [View.canon_unit_zero hz, ld_whole a1 h1, ld_whole a2 h2, ld_whole a4 h4]

end Stores

/-- The first result: the error over the row's length. -/
def result (c : Dev nD) : Vec Ideal S4096x1024 .f32 := fun i => (err m c (i 0) (i 1) * inv : EReal)

/-- At every point the first result's block is the payload. -/
theorem out2_eq (c : Dev nD) (t : Fin cfg0.N) :
    (outsAt0 m c t.val t.isLt).1 = k0_pay2 (F := Ideal) (iblk m c 0 t) (iblk m c 1 t) := by
  by_cases h0 : t.val % 8 = 0
  · rw [outsAt0_A m c t h0]; dsimp only; rw [out2_A]
  · rw [outsAt0_B m c t h0]; dsimp only; rw [out2_B]

theorem flushed2_eq (c : Dev nD) (t : Fin cfg0.N) (hf : (cfg0.win 2).flush t = true) :
    (dats m 0 c).flushed 2 t = ((cfg0.win 2).blk t).view.read (Elt Ideal) (result m c) := by
  obtain ⟨-, -, -, -, e0, e1, -⟩ := index_eq t
  refine ((congrArg _ (after0_2 m c t)).trans ?_)
  funext (j : S512x1024.Idx)
  refine Eq.trans ?_ (entry_at (result m c) (((cfg0.win 2).blk t).view.emb j) (i := row512 t.val (point_lt t) (j 0)) (j := j 1)
    (by show win0_2.index t 0 * 512 + 1 * (j 0).val = _; rw [e0, Nat.one_mul]; rfl)
    (by show win0_2.index t 1 * 1024 + 1 * (j 1).val = _; rw [e1, Nat.one_mul, Nat.zero_mul, Nat.zero_add])).symm
  rw [out2_eq]
  idx_vars j
  refine (pay2_at (iblk m c 0 t) (iblk m c 1 t) j0 j1).trans ?_
  rw [yblk, tblk]
  rfl

/-- The points' blocks cover the first result. -/
theorem final2 (c : Dev nD) : (dats m 0 c).arrAt 2 cfg0.N = result m c :=
  (dats m 0 c).arrAt_eq_of_cover 2 (result m c) (flushed2_eq m c) fun (i : S4096x1024.Idx) => by
    have ht : (i 0).val / 512 < cfg0.N := lt_of_lt_of_eq (Nat.div_lt_of_lt_mul (i 0).isLt : _ < 8) N_0.symm
    obtain ⟨-, -, -, -, e0, e1, -⟩ := index_eq ⟨_, ht⟩
    refine ⟨⟨_, ht⟩, flush0_2 _, ?_⟩
    show i ∈ ((View.whole main_v0_0).slice (win0_2.rect ⟨_, ht⟩)).set
    rw [View.set_slice_whole, Rect.mem_set_unit]
    intro a
    match a with
    | ⟨0, _⟩ => exact block_mem (by decide : 0 < 512) e0
    | ⟨1, _⟩ => exact block_mem (by decide : 0 < 1024) (e1.trans (Nat.div_eq_of_lt (i 1).isLt).symm)

/-- The square of the error at row `n` (nothing past the last row). -/
def sq (c : Dev nD) (b : Fin 1024) (n : ℕ) : EReal := if h : n < 4096 then err m c ⟨n, h⟩ b * err m c ⟨n, h⟩ b else 0

/-- What a point's rows add. -/
theorem rows_at (c : Dev nD) (t : Fin cfg0.N) (b : Fin 1024) :
    (∑ a : Fin 512, dsq (iblk m c 0 t (ix2 a b)) (iblk m c 1 t (ix2 a b)))
      = ∑ a : Fin 512, sq m c b (t.val * 512 + a.val) := by
  refine Finset.sum_congr rfl fun a _ => ?_
  unfold sq
  rw [dif_pos (show t.val * 512 + a.val < 4096 from (row512 t.val (point_lt t) a).isLt), yblk, tblk]
  rfl

/-- The accumulator after a point: the rows so far, times half the reciprocal length. -/
theorem acc_eq (c : Dev nD) (b : Fin 1024) : ∀ (n : ℕ) (h : n < cfg0.N),
    (outsAt0 m c n h).2 (ix2 0 b) = ∑ u ∈ Finset.range (n % 8 + 1), (∑ a : Fin 512, sq m c b (u * 512 + a.val)) * hinv := by
  refine run_sum 8 (fun n h => (outsAt0 m c n h).2 (ix2 0 b)) (fun _ u => (∑ a : Fin 512, sq m c b (u * 512 + a.val)) * hinv) (fun n h h0 => ?_) (fun n h h0 => ?_)
  · have hN : n < 8 := lt_of_lt_of_eq h N_0
    show (outsAt0 m c n h).2 (ix2 0 b) = _
    rw [outsAt0_A m c ⟨n, h⟩ h0]
    dsimp only
    rw [out3_A, pay4_at, rows_at, zero_at, zero_add, Nat.mod_eq_of_lt hN]
  · have hN : n + 1 < 8 := lt_of_lt_of_eq h N_0
    show (outsAt0 m c (n + 1) h).2 (ix2 0 b) = _
    rw [outsAt0_B m c ⟨n + 1, h⟩ h0]
    dsimp only
    rw [out3_B, pay4_at, rows_at, Nat.mod_eq_of_lt hN]
    rfl

/-- The second array: each column's part of the loss. -/
def parts (c : Dev nD) : Vec Ideal S1x1024 .f32 := fun i => ((∑ a : Fin 4096, err m c a (i 1) * err m c a (i 1)) * hinv : EReal)

theorem flushed3_eq (c : Dev nD) (t : Fin cfg0.N) (hf : (cfg0.win 3).flush t = true) :
    (dats m 0 c).flushed 3 t = ((cfg0.win 3).blk t).view.read (Elt Ideal) (parts m c) := by
  obtain ⟨-, -, -, -, -, -, e0, e1⟩ := index_eq t
  have h7 : t.val % 8 = 7 := (flush0_3 t).mp hf
  refine ((congrArg _ (after0_3 m c t)).trans ?_)
  funext (j : S1x1024.Idx)
  refine Eq.trans ?_ (entry_at (parts m c) (((cfg0.win 3).blk t).view.emb j) (i := 0) (j := j 1)
    (by show win0_3.index t 0 * 1 + 1 * (j 0).val = 0; rw [e0]; have := (j 0).isLt; change _ < 1 at this; omega)
    (by show win0_3.index t 1 * 1024 + 1 * (j 1).val = _; rw [e1, Nat.one_mul, Nat.zero_mul, Nat.zero_add])).symm
  refine (entry_at (outsAt0 m c t.val t.isLt).2 j (i := 0) (j := j 1) (by have := (j 0).isLt; change _ < 1 at this; show (j 0).val = 0; omega) rfl).trans ?_
  refine (acc_eq m c (j 1) t.val t.isLt).trans ?_
  rw [h7, hinv_eq, sum_mul_real _ _ _ (by positivity), sum_blocks_fin (sq m c (j 1)) 8 512 4096 rfl, ← hinv_eq]
  refine congrArg (fun u : EReal => u * hinv) (Finset.sum_congr rfl fun a _ => ?_)
  unfold sq
  rw [dif_pos a.isLt]
  rfl

theorem final3 (c : Dev nD) : (dats m 0 c).arrAt 3 cfg0.N = parts m c :=
  (dats m 0 c).arrAt_eq_of_cover 3 (parts m c) (flushed3_eq m c) fun (i : S1x1024.Idx) => by
    have ht : 7 < cfg0.N := by rw [show cfg0.N = 8 from N_0]; omega
    obtain ⟨-, -, -, -, -, -, e0, e1⟩ := index_eq ⟨_, ht⟩
    refine ⟨⟨_, ht⟩, (flush0_3 _).mpr rfl, ?_⟩
    show i ∈ ((View.whole main_v0_1).slice (win0_3.rect ⟨_, ht⟩)).set
    rw [View.set_slice_whole, Rect.mem_set_unit]
    intro a
    match a with
    | ⟨0, _⟩ => exact block_mem (by decide : 0 < 1) (e0.trans (Nat.div_eq_of_lt (i 0).isLt).symm)
    | ⟨1, _⟩ => exact block_mem (by decide : 0 < 1024) (e1.trans (Nat.div_eq_of_lt (i 1).isLt).symm)

/-- The line after the grid: the loss is the sum of the columns' parts. -/
def loss (c : Dev nD) : Vec Ideal S_ .f32 :=
  Host.reduceAdd (F := Ideal) (parts m c) (constant (F := Ideal) S_ .f32 0x00000000#32) reducesTo_S1x1024_S_d0_1 h_S_

theorem tail_eq (c : Dev nD) : Pipeline.afterTail₀ cfgs (dats m) 0 (V0 m) [hostOps1] c main_v1 = loss m c := by
  unfold Pipeline.afterTail₀ loss
  rw [← final3 m c, ← Pipeline.withArrays_arr (cfgs 0).spec winFacts0.arr_inj c (V0 m c) (fun w => (dats m 0 c).arrAt w (cfgs 0).N) 3]
  generalize Pipeline.withArrays (cfgs 0).spec c (V0 m c) (fun w => (dats m 0 c).arrAt w (cfgs 0).N) = v
  show StableHlo.after hostOps1 v (Proc.tc.devRef main_v1) = _
  after_results

/-- The run, with both results named. -/
theorem run (ρ : Dev nD → PrngReg) : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v1) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-- Over the extended reals the program's results are the reference's. -/
theorem equal : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => result m c, fun c => loss m c, run m ρ, ?_⟩
  refine (θ_run Cert.Reference17Ideal.defs _ _).mono (fun _ h c => ⟨?_, ?_, (h c).2.2⟩) (Cert.Reference17Ideal.Value.run (F := Ideal) m' ρ')
  · rw [(h c).1, (hagree c).1, (hagree c).2]
    funext (i : S4096x1024.Idx)
    show _ = (err m c (i 0) (i 1) * inv : EReal)
    idx_vars i
    unfold err
    pointwise
    exact dy_eq _
  · rw [(h c).2.1, (hagree c).1, (hagree c).2]
    unfold loss parts
    funext (i : S_.Idx)
    pointwise
    refine (loss_eq fun a b => err m c a b * err m c a b).trans ?_
    simp only [Finset.univ_unique, Finset.sum_singleton]

end Cert.Proof.LossHead

end
-- ==== Proof.AdamRow.lean ====
/-
  The optimizer's step at one weight, and reading the parts of the gradient.
-/
module

public import Idealize.ShloMosaic.Init
public import Idealize.ShloMosaic.Lib.ValueIdx
public import Idealize.ShloMosaic.Lib.Pointwise

@[expose] public section

noncomputable section

open Idealize.ShloMosaic Idealize.ShloMosaic.Tactic

namespace Cert.Proof.AdamRow

/-- The two moments and the step at one weight, from the gradient there. -/
def moment1 (mo g : EReal) : EReal := Ideal.ofBits .f32 0x3F666666#32 * mo + Ideal.ofBits .f32 0x3DCCCCCD#32 * g
def moment2 (v g : EReal) : EReal := Ideal.ofBits .f32 0x3F7FBE77#32 * v + Ideal.ofBits .f32 0x3A83126F#32 * (g * g)
def step (w mo v g : EReal) : EReal :=
  Ideal.ofBits .f32 0xBA83126F#32 * (Ideal.div (Ideal.div (moment1 mo g) (Ideal.ofBits .f32 0x3F26BD02#32))
    (Ideal.sqrt (Ideal.div (moment2 v g) (Ideal.ofBits .f32 0x3C231ACC#32)) + Ideal.ofBits .f32 0x322BCC77#32)
    + Ideal.ofBits .f32 0x3C23D70A#32 * w)

/-- The step, from any two numbers that are the moments. -/
theorem step_moments {w mo v g n1 n2 : EReal} (h1 : n1 = moment1 mo g) (h2 : n2 = moment2 v g) :
    Ideal.ofBits .f32 0xBA83126F#32 * (Ideal.div (Ideal.div n1 (Ideal.ofBits .f32 0x3F26BD02#32))
      (Ideal.sqrt (Ideal.div n2 (Ideal.ofBits .f32 0x3C231ACC#32)) + Ideal.ofBits .f32 0x322BCC77#32)
      + Ideal.ofBits .f32 0x3C23D70A#32 * w) = step w mo v g := by
  rw [h1, h2]
  rfl

section Reference

/- The reference's lines of the optimizer, at an entry of an array of any shape. -/

variable {S : Shape} (h : (⟨0, ![]⟩ : Shape).BroadcastsInDim S ![]) (w mo v g : FVec Ideal S .f32) (i : S.Idx)

/-- An array filled with one number. -/
abbrev filled (x : BitVec 32) : FVec Ideal S .f32 := broadcastInDim S ![] h (constant (F := Ideal) (⟨0, ![]⟩ : Shape) .f32 x)

theorem reference1 : addf (mulf (filled h 0x3F666666#32) mo) (mulf (filled h 0x3DCCCCCD#32) g) i = moment1 (mo i) (g i) := rfl

theorem reference2 : addf (mulf (filled h 0x3F7FBE77#32) v) (mulf (filled h 0x3A83126F#32) (mulf g g)) i = moment2 (v i) (g i) := rfl

theorem reference_step : mulf (filled h 0xBA83126F#32)
    (addf (Host.divf (Host.divf (addf (mulf (filled h 0x3F666666#32) mo) (mulf (filled h 0x3DCCCCCD#32) g)) (filled h 0x3F26BD02#32))
      (addf (Host.sqrt (Host.divf (addf (mulf (filled h 0x3F7FBE77#32) v) (mulf (filled h 0x3A83126F#32) (mulf g g))) (filled h 0x3C231ACC#32)))
        (filled h 0x322BCC77#32))) (mulf (filled h 0x3C23D70A#32) w)) i = step (w i) (mo i) (v i) (g i) := rfl

end Reference

/-- A part of the gradient is four shares; their sum at one weight. -/
def total {R C : ℕ} (p : (⟨3, ![4, R, C]⟩ : Shape).Idx → EReal) (a : Fin R) (b : Fin C) : EReal := ∑ k : Fin 4, p (ix3 k a b)

/-- An entry of a part, at the share, row and column that its index names. -/
theorem slot {α : Type} {R C : ℕ} (p : (⟨3, ![4, R, C]⟩ : Shape).Idx → α) (e : (⟨3, ![4, R, C]⟩ : Shape).Idx) {k : Fin 4} {a : Fin R} {b : Fin C}
    (h0 : (e 0).val = k.val) (h1 : (e 1).val = a.val) (h2 : (e 2).val = b.val) : p e = p (ix3 k a b) :=
  congrArg p (funext fun x => Fin.ext (match x with
    | ⟨0, _⟩ => h0
    | ⟨1, _⟩ => h1
    | ⟨2, _⟩ => h2))

/-- The four shares added one after another are their sum. -/
theorem total_eq {R C : ℕ} (p : (⟨3, ![4, R, C]⟩ : Shape).Idx → EReal) (a : Fin R) (b : Fin C) :
    p (ix3 0 a b) + p (ix3 1 a b) + p (ix3 2 a b) + p (ix3 3 a b) = total p a b := (Fin.sum_univ_four fun k => p (ix3 k a b)).symm

end Cert.Proof.AdamRow

end
-- ==== Proof.AdamTile.lean ====
/-
  The optimizer's step at rows of weights, for any number of rows and columns: what the body makes of a block of rows, and the
  place of a block in the whole array.
-/
module

public import proofs.«01_k».proof.Proof.AdamRow
public import proofs.«01_k».proof.Proof.MatSum
public import Idealize.ShloMosaic.Init
public import Idealize.ShloMosaic.Lib.ValueIdx
public import Idealize.ShloMosaic.Lib.Pointwise
public import Idealize.ShloMosaic.Lib.Pipeline.Value

@[expose] public section

noncomputable section

open Idealize.ShloMosaic Idealize.ShloMosaic.Tactic

namespace Cert.Proof.AdamTile

open Cert.Proof.AdamRow Cert.Proof.MatSum

/-- Rows of weights, the four shares of their gradient, and one share as it is loaded. -/
abbrev Rows (R C : ℕ) : Shape := ⟨2, ![R, C]⟩
abbrev Part (R C : ℕ) : Shape := ⟨3, ![4, R, C]⟩
abbrev Slab (R C : ℕ) : Shape := ⟨3, ![1, R, C]⟩

section Of

variable {R C : ℕ} (w mo v g : FVec Ideal (Rows R C) .f32)

/-- The two moments and the step, from the gradient. -/
def firstOf : FVec Ideal (Rows R C) .f32 := fun i => moment1 (mo i) (g i)
def secondOf : FVec Ideal (Rows R C) .f32 := fun i => moment2 (v i) (g i)
def deltaOf : FVec Ideal (Rows R C) .f32 := fun i => step (w i) (mo i) (v i) (g i)

/-- The reference's lines. -/
theorem reference1_of (h : (⟨0, ![]⟩ : Shape).BroadcastsInDim (Rows R C) ![]) :
    addf (mulf (filled h 0x3F666666#32) mo) (mulf (filled h 0x3DCCCCCD#32) g) = firstOf mo g := rfl

theorem reference2_of (h : (⟨0, ![]⟩ : Shape).BroadcastsInDim (Rows R C) ![]) :
    addf (mulf (filled h 0x3F7FBE77#32) v) (mulf (filled h 0x3A83126F#32) (mulf g g)) = secondOf v g := rfl

theorem reference_step_of (h : (⟨0, ![]⟩ : Shape).BroadcastsInDim (Rows R C) ![]) : mulf (filled h 0xBA83126F#32)
    (addf (Host.divf (Host.divf (addf (mulf (filled h 0x3F666666#32) mo) (mulf (filled h 0x3DCCCCCD#32) g)) (filled h 0x3F26BD02#32))
      (addf (Host.sqrt (Host.divf (addf (mulf (filled h 0x3F7FBE77#32) v) (mulf (filled h 0x3A83126F#32) (mulf g g))) (filled h 0x3C231ACC#32)))
        (filled h 0x322BCC77#32))) (mulf (filled h 0x3C23D70A#32) w)) = deltaOf w mo v g := funext fun i => reference_step h w mo v g i

end Of

section Results

variable {R C : ℕ} (w mo v : FVec Ideal (Rows R C) .f32) (p : FVec Ideal (Part R C) .bf16)

/-- The four results, entry by entry. -/
def grad : FVec Ideal (Rows R C) .f32 := fun i => total p (i 0) (i 1)
def first : FVec Ideal (Rows R C) .f32 := firstOf mo (grad p)
def second : FVec Ideal (Rows R C) .f32 := secondOf v (grad p)
def delta : FVec Ideal (Rows R C) .f32 := deltaOf w mo v (grad p)

/-- The reference's sum of the shares. -/
theorem reference_sum (hb : FTy.bits .bf16 < FTy.bits .f32) (hd : (Part R C).ReducesTo [0] (Rows R C)) (hS : 0 < (⟨0, ![]⟩ : Shape).numel) :
    Host.reduceAdd (F := Ideal) (extf .f32 p hb) (constant (⟨0, ![]⟩ : Shape) .f32 0x00000000#32) hd hS = grad p := by
  funext i
  obtain ⟨a, b, rfl⟩ : ∃ a b, i = ix2 a b := ⟨i 0, i 1, funext fun x => match x with | ⟨0, _⟩ => rfl | ⟨1, _⟩ => rfl⟩
  unfold grad total
  pointwise

/-- The reference's other lines. -/
theorem reference1_eq (h : (⟨0, ![]⟩ : Shape).BroadcastsInDim (Rows R C) ![]) :
    addf (mulf (filled h 0x3F666666#32) mo) (mulf (filled h 0x3DCCCCCD#32) (grad p)) = first mo p := reference1_of mo (grad p) h

theorem reference2_eq (h : (⟨0, ![]⟩ : Shape).BroadcastsInDim (Rows R C) ![]) :
    addf (mulf (filled h 0x3F7FBE77#32) v) (mulf (filled h 0x3A83126F#32) (mulf (grad p) (grad p))) = second v p := reference2_of v (grad p) h

theorem reference_step_eq (h : (⟨0, ![]⟩ : Shape).BroadcastsInDim (Rows R C) ![]) : mulf (filled h 0xBA83126F#32)
    (addf (Host.divf (Host.divf (addf (mulf (filled h 0x3F666666#32) mo) (mulf (filled h 0x3DCCCCCD#32) (grad p))) (filled h 0x3F26BD02#32))
      (addf (Host.sqrt (Host.divf (addf (mulf (filled h 0x3F7FBE77#32) v) (mulf (filled h 0x3A83126F#32) (mulf (grad p) (grad p)))) (filled h 0x3C231ACC#32)))
        (filled h 0x322BCC77#32))) (mulf (filled h 0x3C23D70A#32) w)) = delta w mo v p := reference_step_of w mo v (grad p) h

end Results

section Body

variable {R C : ℕ} (hs : (Slab R C).ShapeCasts (Rows R C)) (hr : (Rows R C).ShapeCasts (Rows R C)) (hb : FTy.bits .bf16 < FTy.bits .f32)
  (w mo v g : FVec Ideal (Rows R C) .f32) (p : FVec Ideal (Part R C) .bf16)

/-- One share, loaded and read as rows. -/
def share (p : FVec Ideal (Slab R C) .bf16) : FVec Ideal (Rows R C) .f32 := extf .f32 (shapeCast (Rows R C) p hs) hb

/-- It is loaded from the part by its number. -/
theorem share_eq (k : Fin 4) (inb : ∀ a, (![k.val, 0, 0] : Fin 3 → ℕ) a + (Slab R C).size a ≤ (Part R C).size a) (i : (Rows R C).Idx) :
    (share hs hb (View.ld (Val := Elt Ideal) (e' := .bf16) p (Rect.unit (s := Part R C) ![k.val, 0, 0] (Slab R C).size inb)) i : EReal)
      = p (ix3 k (i 0) (i 1)) := by
  refine (shapeCast_dropUnit_apply (α := EReal) ![R, C] (View.ld (Val := Elt Ideal) (e' := .bf16) p
    (Rect.unit (s := Part R C) ![k.val, 0, 0] (Slab R C).size inb)) hs i).trans ?_
  exact slot p _ (by show k.val + 1 * 0 = _; omega) (by show 0 + 1 * (i 0).val = _; omega) (by show 0 + 1 * (i 1).val = _; omega)

/-- The body's lines: the sum of the shares, the two moments and the step. -/
def bodySum (p0 p1 p2 p3 : FVec Ideal (Slab R C) .bf16) : FVec Ideal (Rows R C) .f32 :=
  addf (addf (addf (share hs hb p0) (share hs hb p1)) (share hs hb p2)) (share hs hb p3)
def bodyFirst : FVec Ideal (Rows R C) .f32 :=
  addf (mulf (broadcast _ (Scalar.ofBits .f32 0x3F666666#32)) (shapeCast _ mo hr)) (mulf (broadcast _ (Scalar.ofBits .f32 0x3DCCCCCD#32)) g)
def bodySecond : FVec Ideal (Rows R C) .f32 :=
  addf (mulf (broadcast _ (Scalar.ofBits .f32 0x3F7FBE77#32)) (shapeCast _ v hr))
    (mulf (broadcast _ (Scalar.ofBits .f32 0x3A83126F#32)) (mulf g g))

theorem bodySum_eq (b0 : ∀ a, (![0, 0, 0] : Fin 3 → ℕ) a + (Slab R C).size a ≤ (Part R C).size a)
    (b1 : ∀ a, (![1, 0, 0] : Fin 3 → ℕ) a + (Slab R C).size a ≤ (Part R C).size a)
    (b2 : ∀ a, (![2, 0, 0] : Fin 3 → ℕ) a + (Slab R C).size a ≤ (Part R C).size a)
    (b3 : ∀ a, (![3, 0, 0] : Fin 3 → ℕ) a + (Slab R C).size a ≤ (Part R C).size a) :
    bodySum hs hb (View.ld (Val := Elt Ideal) (e' := .bf16) p (Rect.unit (s := Part R C) ![0, 0, 0] (Slab R C).size b0))
      (View.ld (Val := Elt Ideal) (e' := .bf16) p (Rect.unit (s := Part R C) ![1, 0, 0] (Slab R C).size b1))
      (View.ld (Val := Elt Ideal) (e' := .bf16) p (Rect.unit (s := Part R C) ![2, 0, 0] (Slab R C).size b2))
      (View.ld (Val := Elt Ideal) (e' := .bf16) p (Rect.unit (s := Part R C) ![3, 0, 0] (Slab R C).size b3)) = grad p := by
  funext i
  refine Eq.trans ?_ (total_eq p (i 0) (i 1))
  exact congrArg₂ (fun x y : EReal => x + y) (congrArg₂ (fun x y : EReal => x + y) (congrArg₂ (fun x y : EReal => x + y)
    (share_eq hs hb p 0 b0 i) (share_eq hs hb p 1 b1 i)) (share_eq hs hb p 2 b2 i)) (share_eq hs hb p 3 b3 i)

theorem bodyFirst_eq : bodyFirst hr mo g = firstOf mo g := by
  unfold bodyFirst
  rw [shapeCast_self]
  rfl

theorem bodySecond_eq : bodySecond hr v g = secondOf v g := by
  unfold bodySecond
  rw [shapeCast_self]
  rfl

/-- The step, from the two moments. -/
def bodyStep (n1 n2 : FVec Ideal (Rows R C) .f32) : FVec Ideal (Rows R C) .f32 :=
  mulf (broadcast _ (Scalar.ofBits .f32 0xBA83126F#32))
    (addf (divf (divf n1 (broadcast _ (Scalar.ofBits .f32 0x3F26BD02#32)))
      (addf (sqrt (divf n2 (broadcast _ (Scalar.ofBits .f32 0x3C231ACC#32)))) (broadcast _ (Scalar.ofBits .f32 0x322BCC77#32))))
      (mulf (broadcast _ (Scalar.ofBits .f32 0x3C23D70A#32)) (shapeCast _ w hr)))

theorem bodyStep_eq : bodyStep hr w (firstOf mo g) (secondOf v g) = deltaOf w mo v g := by
  unfold bodyStep
  rw [shapeCast_self]
  rfl

/-- The stores of a whole block of rows, and what they leave: the body loads its blocks, computes, and stores each result once. -/
theorem stores_of (b : ∀ a, (![0, 0] : Fin 2 → ℕ) a + (Rows R C).size a ≤ (Rows R C).size a) {s : FVec Ideal (Rows R C) .f32} (hsum : s = g) :
    View.canon (Val := Elt Ideal) (e := .f32) [⟨Rect.unit ![0, 0] (Rows R C).size b, s⟩] = g
    ∧ View.canon (Val := Elt Ideal) (e := .f32) [⟨Rect.unit ![0, 0] (Rows R C).size b, bodyStep hr
        (View.ld (Val := Elt Ideal) (e' := .f32) w (Rect.unit (s := Rows R C) ![0, 0] (Rows R C).size b))
        (bodyFirst hr (View.ld (Val := Elt Ideal) (e' := .f32) mo (Rect.unit (s := Rows R C) ![0, 0] (Rows R C).size b)) s)
        (bodySecond hr (View.ld (Val := Elt Ideal) (e' := .f32) v (Rect.unit (s := Rows R C) ![0, 0] (Rows R C).size b)) s)⟩] = deltaOf w mo v g
    ∧ View.canon (Val := Elt Ideal) (e := .f32) [⟨Rect.unit ![0, 0] (Rows R C).size b,
        bodyFirst hr (View.ld (Val := Elt Ideal) (e' := .f32) mo (Rect.unit (s := Rows R C) ![0, 0] (Rows R C).size b)) s⟩] = firstOf mo g
    ∧ View.canon (Val := Elt Ideal) (e := .f32) [⟨Rect.unit ![0, 0] (Rows R C).size b,
        bodySecond hr (View.ld (Val := Elt Ideal) (e' := .f32) v (Rect.unit (s := Rows R C) ![0, 0] (Rows R C).size b)) s⟩] = secondOf v g := by
  subst hsum
  simp only [View.canon_unit_zero (S := Rows R C) hz, View.ld_unit_zero (S := Rows R C) hz, bodyFirst_eq, bodySecond_eq, bodyStep_eq, and_self]

/-- The same where the gradient is the sum of the shares. -/
theorem stores (b : ∀ a, (![0, 0] : Fin 2 → ℕ) a + (Rows R C).size a ≤ (Rows R C).size a) {s : FVec Ideal (Rows R C) .f32} (hsum : s = grad p) :
    View.canon (Val := Elt Ideal) (e := .f32) [⟨Rect.unit ![0, 0] (Rows R C).size b, s⟩] = grad p
    ∧ View.canon (Val := Elt Ideal) (e := .f32) [⟨Rect.unit ![0, 0] (Rows R C).size b, bodyStep hr
        (View.ld (Val := Elt Ideal) (e' := .f32) w (Rect.unit (s := Rows R C) ![0, 0] (Rows R C).size b))
        (bodyFirst hr (View.ld (Val := Elt Ideal) (e' := .f32) mo (Rect.unit (s := Rows R C) ![0, 0] (Rows R C).size b)) s)
        (bodySecond hr (View.ld (Val := Elt Ideal) (e' := .f32) v (Rect.unit (s := Rows R C) ![0, 0] (Rows R C).size b)) s)⟩] = delta w mo v p
    ∧ View.canon (Val := Elt Ideal) (e := .f32) [⟨Rect.unit ![0, 0] (Rows R C).size b,
        bodyFirst hr (View.ld (Val := Elt Ideal) (e' := .f32) mo (Rect.unit (s := Rows R C) ![0, 0] (Rows R C).size b)) s⟩] = first mo p
    ∧ View.canon (Val := Elt Ideal) (e := .f32) [⟨Rect.unit ![0, 0] (Rows R C).size b,
        bodySecond hr (View.ld (Val := Elt Ideal) (e' := .f32) v (Rect.unit (s := Rows R C) ![0, 0] (Rows R C).size b)) s⟩] = second v p :=
  stores_of hr w mo v (grad p) b hsum

end Body

section Place

variable {R C tr : ℕ}

/-- Row `a` of block `t`, where the blocks have `tr` rows. -/
def rowAt (t : ℕ) (h : t * tr + tr ≤ R) (a : Fin tr) : Fin R := ⟨t * tr + a.val, by have ha := a.isLt; omega⟩

/-- The place in the array of an entry of block `t`; the same in the part. -/
def place (t : ℕ) (h : t * tr + tr ≤ R) (j : (Rows tr C).Idx) : (Rows R C).Idx := ix2 (rowAt t h (j 0)) (j 1)
def place3 (t : ℕ) (h : t * tr + tr ≤ R) (j : (Part tr C).Idx) : (Part R C).Idx := ix3 (j 0) (rowAt t h (j 1)) (j 2)

theorem place_eq {t : ℕ} (h : t * tr + tr ≤ R) {e : (Rows R C).Idx} {j : (Rows tr C).Idx} {q r : ℕ} (hq : q = t ∧ r = 0)
    (h0 : (e 0).val = q * tr + 1 * (j 0).val) (h1 : (e 1).val = r * C + 1 * (j 1).val) : e = place t h j := by
  obtain ⟨rfl, rfl⟩ := hq
  exact funext fun x => Fin.ext (match x with
    | ⟨0, _⟩ => h0.trans (by rw [Nat.one_mul]; rfl)
    | ⟨1, _⟩ => h1.trans (by rw [Nat.one_mul, Nat.zero_mul, Nat.zero_add]; rfl))

theorem place3_eq {t : ℕ} (h : t * tr + tr ≤ R) {e : (Part R C).Idx} {j : (Part tr C).Idx} {s q r : ℕ} (hq : s = 0 ∧ q = t ∧ r = 0)
    (h0 : (e 0).val = s * 4 + 1 * (j 0).val) (h1 : (e 1).val = q * tr + 1 * (j 1).val) (h2 : (e 2).val = r * C + 1 * (j 2).val) :
    e = place3 t h j := by
  obtain ⟨rfl, rfl, rfl⟩ := hq
  exact funext fun x => Fin.ext (match x with
    | ⟨0, _⟩ => h0.trans (by rw [Nat.one_mul, Nat.zero_mul, Nat.zero_add]; rfl)
    | ⟨1, _⟩ => h1.trans (by rw [Nat.one_mul]; rfl)
    | ⟨2, _⟩ => h2.trans (by rw [Nat.one_mul, Nat.zero_mul, Nat.zero_add]; rfl))

/-- The `n` blocks of a window, each at its place, cover the array: an entry is in the block that its row names, at the
    remainder's row. -/
theorem cover {n : ℕ} (hp : 0 < tr) (hR : R = n * tr) {N : ℕ} (hN : N = n) {flush : Fin N → Bool} (hf : ∀ t, flush t = true)
    (h : ∀ t : Fin N, t.val * tr + tr ≤ R) {emb : Fin N → (Rows tr C).Idx → (Rows R C).Idx} {set : Fin N → Finset (Rows R C).Idx}
    (hm : ∀ t j, emb t j ∈ set t) (he : ∀ t j, emb t j = place t.val (h t) j) (i : (Rows R C).Idx) : ∃ t, flush t = true ∧ i ∈ set t := by
  have hi : (i 0).val < R := (i 0).isLt
  have ht : (i 0).val / tr < N := by
    rw [hN]
    exact Nat.div_lt_of_lt_mul (by rw [Nat.mul_comm, ← hR]; exact hi)
  refine ⟨⟨_, ht⟩, hf _, ?_⟩
  have hx := hm ⟨_, ht⟩ (ix2 ⟨(i 0).val % tr, Nat.mod_lt _ hp⟩ (i 1))
  rw [he] at hx
  have back : place ((i 0).val / tr) (h ⟨_, ht⟩) (ix2 ⟨(i 0).val % tr, Nat.mod_lt _ hp⟩ (i 1)) = i := funext fun x => Fin.ext (match x with
    | ⟨0, _⟩ => Nat.div_add_mod' _ _
    | ⟨1, _⟩ => rfl)
  exact (congrArg (fun y => y ∈ set ⟨_, ht⟩) back).mp hx

variable (w mo v : FVec Ideal (Rows R C) .f32) (p : FVec Ideal (Part R C) .bf16) (t : ℕ) (h : t * tr + tr ≤ R) (j : (Rows tr C).Idx)

/-- A result of a block is the block of the result. -/
theorem grad_place : grad (fun j => p (place3 t h j)) j = grad p (place t h j) := rfl
theorem first_place : first (fun j => mo (place t h j)) (fun j => p (place3 t h j)) j = first mo p (place t h j) := rfl
theorem second_place : second (fun j => v (place t h j)) (fun j => p (place3 t h j)) j = second v p (place t h j) := rfl
theorem delta_place : delta (fun j => w (place t h j)) (fun j => mo (place t h j)) (fun j => v (place t h j)) (fun j => p (place3 t h j)) j
    = delta w mo v p (place t h j) := rfl

end Place

end Cert.Proof.AdamTile

end
-- ==== Proof.AdamTwo.lean ====
/-
  The optimizer's step at rows of weights, for any number of rows and columns, where the gradient comes in two parts of four
  shares.
-/
module

public import proofs.«01_k».proof.Proof.AdamTile
public import Idealize.ShloMosaic.Init
public import Idealize.ShloMosaic.Lib.ValueIdx
public import Idealize.ShloMosaic.Lib.Pointwise
public import Idealize.ShloMosaic.Lib.Pipeline.Value

@[expose] public section

noncomputable section

open Idealize.ShloMosaic Idealize.ShloMosaic.Tactic

namespace Cert.Proof.AdamTwo

open Cert.Proof.AdamRow Cert.Proof.AdamTile

variable {R C : ℕ} (mine theirs : FVec Ideal (Part R C) .f32)

/-- The gradient: the shares of both parts, summed. -/
def grad : FVec Ideal (Rows R C) .f32 := fun i => (total mine (i 0) (i 1) + total theirs (i 0) (i 1) : EReal)

/-- The reference's sum of the shares. -/
theorem reference_sum (hd : (Part R C).ReducesTo [0] (Rows R C)) (hS : 0 < (⟨0, ![]⟩ : Shape).numel) :
    addf (Host.reduceAdd (F := Ideal) mine (constant (⟨0, ![]⟩ : Shape) .f32 0x00000000#32) hd hS)
      (Host.reduceAdd (F := Ideal) theirs (constant (⟨0, ![]⟩ : Shape) .f32 0x00000000#32) hd hS) = grad mine theirs := by
  funext i
  obtain ⟨a, b, rfl⟩ : ∃ a b, i = ix2 a b := ⟨i 0, i 1, funext fun x => match x with | ⟨0, _⟩ => rfl | ⟨1, _⟩ => rfl⟩
  unfold grad total
  pointwise

section Body

variable (hs : (Slab R C).ShapeCasts (Rows R C))

/-- One share, loaded from its part by its number. -/
theorem share_eq (p : FVec Ideal (Part R C) .f32) (k : Fin 4) (inb : ∀ a, (![k.val, 0, 0] : Fin 3 → ℕ) a + (Slab R C).size a ≤ (Part R C).size a)
    (i : (Rows R C).Idx) : (shapeCast (α := EReal) (Rows R C) (View.ld (Val := Elt Ideal) (e' := .f32) p
      (Rect.unit (s := Part R C) ![k.val, 0, 0] (Slab R C).size inb)) hs i : EReal) = p (ix3 k (i 0) (i 1)) := by
  refine (shapeCast_dropUnit_apply (α := EReal) ![R, C] (View.ld (Val := Elt Ideal) (e' := .f32) p
    (Rect.unit (s := Part R C) ![k.val, 0, 0] (Slab R C).size inb)) hs i).trans ?_
  exact slot p _ (by show k.val + 1 * 0 = _; omega) (by show 0 + 1 * (i 0).val = _; omega) (by show 0 + 1 * (i 1).val = _; omega)

/-- The same share of both parts, added. -/
def pair (a b : FVec Ideal (Slab R C) .f32) : FVec Ideal (Rows R C) .f32 := addf (shapeCast (Rows R C) a hs) (shapeCast (Rows R C) b hs)

/-- The body adds the parts share by share; the sum is the same. -/
theorem bodySum_eq (b0 : ∀ a, (![0, 0, 0] : Fin 3 → ℕ) a + (Slab R C).size a ≤ (Part R C).size a)
    (b1 : ∀ a, (![1, 0, 0] : Fin 3 → ℕ) a + (Slab R C).size a ≤ (Part R C).size a)
    (b2 : ∀ a, (![2, 0, 0] : Fin 3 → ℕ) a + (Slab R C).size a ≤ (Part R C).size a)
    (b3 : ∀ a, (![3, 0, 0] : Fin 3 → ℕ) a + (Slab R C).size a ≤ (Part R C).size a) :
    addf (addf (addf
      (pair hs (View.ld (Val := Elt Ideal) (e' := .f32) mine (Rect.unit (s := Part R C) ![0, 0, 0] (Slab R C).size b0))
        (View.ld (Val := Elt Ideal) (e' := .f32) theirs (Rect.unit (s := Part R C) ![0, 0, 0] (Slab R C).size b0)))
      (pair hs (View.ld (Val := Elt Ideal) (e' := .f32) mine (Rect.unit (s := Part R C) ![1, 0, 0] (Slab R C).size b1))
        (View.ld (Val := Elt Ideal) (e' := .f32) theirs (Rect.unit (s := Part R C) ![1, 0, 0] (Slab R C).size b1))))
      (pair hs (View.ld (Val := Elt Ideal) (e' := .f32) mine (Rect.unit (s := Part R C) ![2, 0, 0] (Slab R C).size b2))
        (View.ld (Val := Elt Ideal) (e' := .f32) theirs (Rect.unit (s := Part R C) ![2, 0, 0] (Slab R C).size b2))))
      (pair hs (View.ld (Val := Elt Ideal) (e' := .f32) mine (Rect.unit (s := Part R C) ![3, 0, 0] (Slab R C).size b3))
        (View.ld (Val := Elt Ideal) (e' := .f32) theirs (Rect.unit (s := Part R C) ![3, 0, 0] (Slab R C).size b3))) = grad mine theirs := by
  funext i
  refine (congrArg₂ (fun x y : EReal => x + y) (congrArg₂ (fun x y : EReal => x + y) (congrArg₂ (fun x y : EReal => x + y)
    (congrArg₂ (fun x y : EReal => x + y) (share_eq hs mine 0 b0 i) (share_eq hs theirs 0 b0 i))
    (congrArg₂ (fun x y : EReal => x + y) (share_eq hs mine 1 b1 i) (share_eq hs theirs 1 b1 i)))
    (congrArg₂ (fun x y : EReal => x + y) (share_eq hs mine 2 b2 i) (share_eq hs theirs 2 b2 i)))
    (congrArg₂ (fun x y : EReal => x + y) (share_eq hs mine 3 b3 i) (share_eq hs theirs 3 b3 i))).trans ?_
  refine Eq.trans ?_ (congrArg₂ (fun x y : EReal => x + y) (total_eq mine (i 0) (i 1)) (total_eq theirs (i 0) (i 1)))
  ac_rfl

end Body

section Place

variable {tr : ℕ} (w mo v : FVec Ideal (Rows R C) .f32) (t : ℕ) (h : t * tr + tr ≤ R) (j : (Rows tr C).Idx)

/-- A result of a block is the block of the result. -/
theorem grad_place : grad (fun j => mine (place3 t h j)) (fun j => theirs (place3 t h j)) j = grad mine theirs (place t h j) := rfl
theorem first_place : firstOf (fun j => mo (place t h j)) (grad (fun j => mine (place3 t h j)) (fun j => theirs (place3 t h j))) j
    = firstOf mo (grad mine theirs) (place t h j) := rfl
theorem second_place : secondOf (fun j => v (place t h j)) (grad (fun j => mine (place3 t h j)) (fun j => theirs (place3 t h j))) j
    = secondOf v (grad mine theirs) (place t h j) := rfl
theorem delta_place : deltaOf (fun j => w (place t h j)) (fun j => mo (place t h j)) (fun j => v (place t h j))
    (grad (fun j => mine (place3 t h j)) (fun j => theirs (place3 t h j))) j = deltaOf w mo v (grad mine theirs) (place t h j) := rfl

end Place

end Cert.Proof.AdamTwo

end
-- ==== Proof.AdamVec.lean ====
/-
  The optimizer's step at a row of 256 weights, with two parts of the gradient.
-/
module

public import proofs.«01_k».proof.Defs
public import proofs.«01_k».proof.Proof.Gen.Kernel18Ideal.Value
public import proofs.«01_k».proof.Proof.Gen.Reference18Ideal.Run
public import proofs.«01_k».proof.Proof.AdamTwo
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic

namespace Cert.Proof.AdamVec

open Cert.Kernel18Ideal Cert.Kernel18Ideal.Gen Cert.Kernel18Ideal.Value
open Cert.Proof.AdamTile (firstOf secondOf deltaOf reference1_of reference2_of reference_step_of)
open Cert.Proof.AdamRow (step_moments)
open Cert.Proof.AdamTwo

section Stores

variable (w mo v : Vec Ideal S1x256 .f32) (p q : Vec Ideal S4x1x256 .f32)

/-- The body's four stores. -/
theorem grad_eq : k0_pay7 (F := Ideal) w mo v p q = grad p q := bodySum_eq p q shapeCasts_S1x1x256_S1x256 _ _ _ _

theorem first_eq : G7 (F := Ideal) w mo v p q = firstOf mo (grad p q) := by
  rw [← grad_eq w mo v p q]
  unfold G7 k0_pay1 k0_pay8 k0_pay9 k0_pay5 k0_pay6
  rw [View.ld_unit_zero (S := S1x256) hz5]
  rfl

theorem second_eq : G8 (F := Ideal) w mo v p q = secondOf v (grad p q) := by
  rw [← grad_eq w mo v p q]
  rfl

theorem delta_eq : G6 (F := Ideal) w mo v p q = deltaOf w mo v (grad p q) :=
  funext fun i => step_moments (congrFun (first_eq w mo v p q) i) (congrFun (second_eq w mo v p q) i)

end Stores

/-- Over the extended reals the program's results are the reference's. -/
theorem equal : Cert.algebraic_Kernel18Ideal_Reference18Ideal (hKernel18Ideal := Cert.Kernel18Ideal.Gen.facts)
    (hReference18Ideal := Cert.Reference18Ideal.Gen.facts) := by
  intro m ρ m' ρ' _ hagree
  refine ⟨_, _, _, _, run (F := Ideal) m ρ, ?_⟩
  refine (θ_run Cert.Reference18Ideal.defs _ _).mono (fun _ h c => ?_) (Cert.Reference18Ideal.Value.run (F := Ideal) m' ρ')
  obtain ⟨e0, e1, e2, e3, e4⟩ := hagree c
  obtain ⟨h1, h2, h3, h4, kept⟩ := h c
  clear hagree h
  rw [e3, e4, reference_sum] at h1
  rw [e0, e1, e2, e3, e4, reference_sum] at h2
  rw [e1, e3, e4, reference_sum] at h3
  rw [e2, e3, e4, reference_sum] at h4
  exact ⟨h1.trans (grad_eq _ _ _ _ _).symm, (h2.trans (reference_step_of _ _ _ _ _)).trans (delta_eq _ _ _ _ _).symm,
    (h3.trans (reference1_of _ _ _)).trans (first_eq _ _ _ _ _).symm, (h4.trans (reference2_of _ _ _)).trans (second_eq _ _ _ _ _).symm, kept⟩

end Cert.Proof.AdamVec

end
-- ==== Proof.AdamMat.lean ====
/-
  The optimizer's step at 256 rows of 256 weights, in one block of rows.
-/
module

public import proofs.«01_k».proof.Defs
public import proofs.«01_k».proof.Proof.Gen.Kernel19Ideal.Value
public import proofs.«01_k».proof.Proof.Gen.Reference19Ideal.Run
public import proofs.«01_k».proof.Proof.AdamTile
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamMat

open Cert.Kernel19Ideal Cert.Kernel19Ideal.Gen Cert.Kernel19Ideal.Value Cert.Proof.AdamTile

/-- What the body leaves in the results' staging buffers, from the blocks. -/
theorem outs (w mo v : Vec Ideal S256x256 .f32) (p : Vec Ideal S4x256x256 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S256x256_S256x256 w mo v p _ (bodySum_eq shapeCasts_S1x256x256_S256x256 bitsLt_bf16_f32 p _ _ _ _)

variable (m : (ℓ : Loc nD τ sig) → Buf (Elt Ideal) ℓ) (c : Dev nD)

/-- The weights and the two moments as rows, and the shares of the gradient. -/
abbrev ws : FVec Ideal S256x256 .f32 := shapeCast S256x256 (m ((c : Thread nD τ).loc main_arg0)) shapeCasts_S1x4x64x256_S256x256
abbrev ms : FVec Ideal S256x256 .f32 := shapeCast S256x256 (m ((c : Thread nD τ).loc main_arg1)) shapeCasts_S1x4x64x256_S256x256
abbrev vs : FVec Ideal S256x256 .f32 := shapeCast S256x256 (m ((c : Thread nD τ).loc main_arg2)) shapeCasts_S1x4x64x256_S256x256
abbrev gs : FVec Ideal S4x256x256 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 256 + 256 ≤ 256 := by
  have h : t.val < 1 := lt_of_lt_of_eq t.isLt N_0
  omega

/-- The blocks at a point. -/
theorem wblk (t : Fin cfg0.N) : iblk m c 0 t = fun j => ws m c (place t.val (block_le t) j) :=
  funext fun (j : S256x256.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S256x256.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S256x256.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x256x256.Idx) => congrArg (gs m c) (place3_eq (e := ((cfg0.win 3).blk t).view.emb j) (block_le t) (index_eq t).2.2.2.1 rfl rfl rfl)

/-- The results' blocks at a point are at the point's place. -/
theorem at4 (t : Fin cfg0.N) (j : S256x256.Idx) : ((cfg0.win 4).blk t).view.emb j = place t.val (block_le t) j :=
  place_eq (block_le t) (index_eq t).2.2.2.2.1 rfl rfl
theorem at5 (t : Fin cfg0.N) (j : S256x256.Idx) : ((cfg0.win 5).blk t).view.emb j = place t.val (block_le t) j :=
  place_eq (block_le t) (index_eq t).2.2.2.2.2.1 rfl rfl
theorem at6 (t : Fin cfg0.N) (j : S256x256.Idx) : ((cfg0.win 6).blk t).view.emb j = place t.val (block_le t) j :=
  place_eq (block_le t) (index_eq t).2.2.2.2.2.2.1 rfl rfl
theorem at7 (t : Fin cfg0.N) (j : S256x256.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S256x256.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S256x256.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S256x256.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S256x256.Idx) => (second_place (vs m c) (gs m c) t.val (block_le t) j).trans
    (congrArg (second (vs m c) (gs m c)) (at7 t j).symm)

/-- Over the extended reals the program's results are the reference's. -/
theorem equal : Cert.algebraic_Kernel19Ideal_Reference19Ideal (hKernel19Ideal := Cert.Kernel19Ideal.Gen.facts)
    (hReference19Ideal := Cert.Reference19Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference19Ideal.defs _ _).mono (fun _ h c => ?_) (Cert.Reference19Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamMat

end
-- ==== Proof.AdamS5.lean ====
/-
  The optimizer's step at 1024 rows of 512 weights, in four blocks of rows.
-/
module

public import proofs.«01_k».proof.Defs
public import proofs.«01_k».proof.Proof.Gen.Kernel20Ideal.Value
public import proofs.«01_k».proof.Proof.Gen.Reference20Ideal.Run
public import proofs.«01_k».proof.Proof.MatSum
public import proofs.«01_k».proof.Proof.AdamTile
public import Idealize.ShloMosaic.Init
public import Idealize.ShloMosaic.Lib.Tactic
public import Idealize.ShloMosaic.Lib.Pointwise
public import Idealize.ShloMosaic.Lib.ValueIdx
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamS5

open Cert.Kernel20Ideal Cert.Kernel20Ideal.Gen Cert.Kernel20Ideal.Value Cert.Proof.MatSum Cert.Proof.AdamRow Cert.Proof.AdamTile

/-- What the body leaves in the results' staging buffers, from the blocks. -/
theorem outs (w mo v : Vec Ideal S256x512 .f32) (p : Vec Ideal S4x256x512 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S256x512_S256x512 w mo v p _ (bodySum_eq shapeCasts_S1x256x512_S256x512 bitsLt_bf16_f32 p _ _ _ _)

variable (m : (ℓ : Loc nD τ sig) → Buf (Elt Ideal) ℓ) (c : Dev nD)

/-- The weights and the two moments as rows, and the shares of the gradient. -/
abbrev ws : FVec Ideal S1024x512 .f32 := shapeCast S1024x512 (m ((c : Thread nD τ).loc main_arg0)) shapeCasts_S1x1024x512_S1024x512
abbrev ms : FVec Ideal S1024x512 .f32 := shapeCast S1024x512 (m ((c : Thread nD τ).loc main_arg1)) shapeCasts_S1x1024x512_S1024x512
abbrev vs : FVec Ideal S1024x512 .f32 := shapeCast S1024x512 (m ((c : Thread nD τ).loc main_arg2)) shapeCasts_S1x1024x512_S1024x512
abbrev gs : FVec Ideal S4x1024x512 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 256 + 256 ≤ 1024 := by
  have h : t.val < 4 := lt_of_lt_of_eq t.isLt N_0
  omega

/-- The blocks at a point. -/
theorem wblk (t : Fin cfg0.N) : iblk m c 0 t = fun j => ws m c (place t.val (block_le t) j) :=
  funext fun (j : S256x512.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S256x512.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S256x512.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x256x512.Idx) => congrArg (gs m c) (place3_eq (e := ((cfg0.win 3).blk t).view.emb j) (block_le t) (index_eq t).2.2.2.1 rfl rfl rfl)

/-- The results' blocks at a point are at the point's place. -/
theorem at4 (t : Fin cfg0.N) (j : S256x512.Idx) : ((cfg0.win 4).blk t).view.emb j = place t.val (block_le t) j :=
  place_eq (block_le t) (index_eq t).2.2.2.2.1 rfl rfl
theorem at5 (t : Fin cfg0.N) (j : S256x512.Idx) : ((cfg0.win 5).blk t).view.emb j = place t.val (block_le t) j :=
  place_eq (block_le t) (index_eq t).2.2.2.2.2.1 rfl rfl
theorem at6 (t : Fin cfg0.N) (j : S256x512.Idx) : ((cfg0.win 6).blk t).view.emb j = place t.val (block_le t) j :=
  place_eq (block_le t) (index_eq t).2.2.2.2.2.2.1 rfl rfl
theorem at7 (t : Fin cfg0.N) (j : S256x512.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S256x512.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S256x512.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S256x512.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S256x512.Idx) => (second_place (vs m c) (gs m c) t.val (block_le t) j).trans
    (congrArg (second (vs m c) (gs m c)) (at7 t j).symm)

/-- Over the extended reals the program's results are the reference's. -/
theorem equal : Cert.algebraic_Kernel20Ideal_Reference20Ideal (hKernel20Ideal := Cert.Kernel20Ideal.Gen.facts)
    (hReference20Ideal := Cert.Reference20Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference20Ideal.defs _ _).mono (fun _ h c => ?_) (Cert.Reference20Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamS5

end
-- ==== Proof.AdamLru.lean ====
/-
  The optimizer's step at 256 rows of 1024 weights, in two blocks of rows.
-/
module

public import proofs.«01_k».proof.Defs
public import proofs.«01_k».proof.Proof.Gen.Kernel21Ideal.Value
public import proofs.«01_k».proof.Proof.Gen.Reference21Ideal.Run
public import proofs.«01_k».proof.Proof.AdamTile
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamLru

open Cert.Kernel21Ideal Cert.Kernel21Ideal.Gen Cert.Kernel21Ideal.Value Cert.Proof.AdamTile

/-- What the body leaves in the results' staging buffers, from the blocks. -/
theorem outs (w mo v : Vec Ideal S128x1024 .f32) (p : Vec Ideal S4x128x1024 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S128x1024_S128x1024 w mo v p _ (bodySum_eq shapeCasts_S1x128x1024_S128x1024 bitsLt_bf16_f32 p _ _ _ _)

variable (m : (ℓ : Loc nD τ sig) → Buf (Elt Ideal) ℓ) (c : Dev nD)

/-- The weights and the two moments as rows, and the shares of the gradient. -/
abbrev ws : FVec Ideal S256x1024 .f32 := shapeCast S256x1024 (m ((c : Thread nD τ).loc main_arg0)) shapeCasts_S1x256x1024_S256x1024
abbrev ms : FVec Ideal S256x1024 .f32 := shapeCast S256x1024 (m ((c : Thread nD τ).loc main_arg1)) shapeCasts_S1x256x1024_S256x1024
abbrev vs : FVec Ideal S256x1024 .f32 := shapeCast S256x1024 (m ((c : Thread nD τ).loc main_arg2)) shapeCasts_S1x256x1024_S256x1024
abbrev gs : FVec Ideal S4x256x1024 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 128 + 128 ≤ 256 := by
  have h : t.val < 2 := lt_of_lt_of_eq t.isLt N_0
  omega

/-- The blocks at a point. -/
theorem wblk (t : Fin cfg0.N) : iblk m c 0 t = fun j => ws m c (place t.val (block_le t) j) :=
  funext fun (j : S128x1024.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S128x1024.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S128x1024.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x128x1024.Idx) => congrArg (gs m c) (place3_eq (e := ((cfg0.win 3).blk t).view.emb j) (block_le t) (index_eq t).2.2.2.1 rfl rfl rfl)

/-- The results' blocks at a point are at the point's place. -/
theorem at4 (t : Fin cfg0.N) (j : S128x1024.Idx) : ((cfg0.win 4).blk t).view.emb j = place t.val (block_le t) j :=
  place_eq (block_le t) (index_eq t).2.2.2.2.1 rfl rfl
theorem at5 (t : Fin cfg0.N) (j : S128x1024.Idx) : ((cfg0.win 5).blk t).view.emb j = place t.val (block_le t) j :=
  place_eq (block_le t) (index_eq t).2.2.2.2.2.1 rfl rfl
theorem at6 (t : Fin cfg0.N) (j : S128x1024.Idx) : ((cfg0.win 6).blk t).view.emb j = place t.val (block_le t) j :=
  place_eq (block_le t) (index_eq t).2.2.2.2.2.2.1 rfl rfl
theorem at7 (t : Fin cfg0.N) (j : S128x1024.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S128x1024.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S128x1024.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S128x1024.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S128x1024.Idx) => (second_place (vs m c) (gs m c) t.val (block_le t) j).trans
    (congrArg (second (vs m c) (gs m c)) (at7 t j).symm)

/-- Over the extended reals the program's results are the reference's. -/
theorem equal : Cert.algebraic_Kernel21Ideal_Reference21Ideal (hKernel21Ideal := Cert.Kernel21Ideal.Gen.facts)
    (hReference21Ideal := Cert.Reference21Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference21Ideal.defs _ _).mono (fun _ h c => ?_) (Cert.Reference21Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamLru

end
-- ==== Proof.AdamQkv.lean ====
/-
  The optimizer's step at 1024 rows of 768 weights, in eight blocks of rows.
-/
module

public import proofs.«01_k».proof.Defs
public import proofs.«01_k».proof.Proof.Gen.Kernel22Ideal.Value
public import proofs.«01_k».proof.Proof.Gen.Reference22Ideal.Run
public import proofs.«01_k».proof.Proof.AdamTile
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamQkv

open Cert.Kernel22Ideal Cert.Kernel22Ideal.Gen Cert.Kernel22Ideal.Value Cert.Proof.AdamTile

/-- What the body leaves in the results' staging buffers, from the blocks. -/
theorem outs (w mo v : Vec Ideal S128x768 .f32) (p : Vec Ideal S4x128x768 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S128x768_S128x768 w mo v p _ (bodySum_eq shapeCasts_S1x128x768_S128x768 bitsLt_bf16_f32 p _ _ _ _)

variable (m : (ℓ : Loc nD τ sig) → Buf (Elt Ideal) ℓ) (c : Dev nD)

/-- The weights and the two moments as rows, and the shares of the gradient. -/
abbrev ws : FVec Ideal S1024x768 .f32 := shapeCast S1024x768 (m ((c : Thread nD τ).loc main_arg0)) shapeCasts_S1x1024x768_S1024x768
abbrev ms : FVec Ideal S1024x768 .f32 := shapeCast S1024x768 (m ((c : Thread nD τ).loc main_arg1)) shapeCasts_S1x1024x768_S1024x768
abbrev vs : FVec Ideal S1024x768 .f32 := shapeCast S1024x768 (m ((c : Thread nD τ).loc main_arg2)) shapeCasts_S1x1024x768_S1024x768
abbrev gs : FVec Ideal S4x1024x768 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 128 + 128 ≤ 1024 := by
  have h : t.val < 8 := lt_of_lt_of_eq t.isLt N_0
  omega

/-- The blocks at a point. -/
theorem wblk (t : Fin cfg0.N) : iblk m c 0 t = fun j => ws m c (place t.val (block_le t) j) :=
  funext fun (j : S128x768.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S128x768.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S128x768.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x128x768.Idx) => congrArg (gs m c) (place3_eq (e := ((cfg0.win 3).blk t).view.emb j) (block_le t) (index_eq t).2.2.2.1 rfl rfl rfl)

/-- The results' blocks at a point are at the point's place. -/
theorem at4 (t : Fin cfg0.N) (j : S128x768.Idx) : ((cfg0.win 4).blk t).view.emb j = place t.val (block_le t) j :=
  place_eq (block_le t) (index_eq t).2.2.2.2.1 rfl rfl
theorem at5 (t : Fin cfg0.N) (j : S128x768.Idx) : ((cfg0.win 5).blk t).view.emb j = place t.val (block_le t) j :=
  place_eq (block_le t) (index_eq t).2.2.2.2.2.1 rfl rfl
theorem at6 (t : Fin cfg0.N) (j : S128x768.Idx) : ((cfg0.win 6).blk t).view.emb j = place t.val (block_le t) j :=
  place_eq (block_le t) (index_eq t).2.2.2.2.2.2.1 rfl rfl
theorem at7 (t : Fin cfg0.N) (j : S128x768.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S128x768.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S128x768.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S128x768.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S128x768.Idx) => (second_place (vs m c) (gs m c) t.val (block_le t) j).trans
    (congrArg (second (vs m c) (gs m c)) (at7 t j).symm)

/-- Over the extended reals the program's results are the reference's. -/
theorem equal : Cert.algebraic_Kernel22Ideal_Reference22Ideal (hKernel22Ideal := Cert.Kernel22Ideal.Gen.facts)
    (hReference22Ideal := Cert.Reference22Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference22Ideal.defs _ _).mono (fun _ h c => ?_) (Cert.Reference22Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamQkv

end
-- ==== Proof.AdamFfnIn.lean ====
/-
  The optimizer's step at 4096 rows of 1408 weights, in 64 blocks of rows.
-/
module

public import proofs.«01_k».proof.Defs
public import proofs.«01_k».proof.Proof.Gen.Kernel23Ideal.Value
public import proofs.«01_k».proof.Proof.Gen.Reference23Ideal.Run
public import proofs.«01_k».proof.Proof.AdamTile
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamFfnIn

open Cert.Kernel23Ideal Cert.Kernel23Ideal.Gen Cert.Kernel23Ideal.Value Cert.Proof.AdamTile

/-- What the body leaves in the results' staging buffers, from the blocks. -/
theorem outs (w mo v : Vec Ideal S64x1408 .f32) (p : Vec Ideal S4x64x1408 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S64x1408_S64x1408 w mo v p _ (bodySum_eq shapeCasts_S1x64x1408_S64x1408 bitsLt_bf16_f32 p _ _ _ _)

variable (m : (ℓ : Loc nD τ sig) → Buf (Elt Ideal) ℓ) (c : Dev nD)

/-- The weights and the two moments as rows, and the shares of the gradient. -/
abbrev ws : FVec Ideal S4096x1408 .f32 := shapeCast S4096x1408 (m ((c : Thread nD τ).loc main_arg0)) shapeCasts_S4x1024x1408_S4096x1408
abbrev ms : FVec Ideal S4096x1408 .f32 := shapeCast S4096x1408 (m ((c : Thread nD τ).loc main_arg1)) shapeCasts_S4x1024x1408_S4096x1408
abbrev vs : FVec Ideal S4096x1408 .f32 := shapeCast S4096x1408 (m ((c : Thread nD τ).loc main_arg2)) shapeCasts_S4x1024x1408_S4096x1408
abbrev gs : FVec Ideal S4x4096x1408 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 64 + 64 ≤ 4096 := by
  have h : t.val < 64 := lt_of_lt_of_eq t.isLt N_0
  omega

/-- The blocks at a point. -/
theorem wblk (t : Fin cfg0.N) : iblk m c 0 t = fun j => ws m c (place t.val (block_le t) j) :=
  funext fun (j : S64x1408.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S64x1408.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S64x1408.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x64x1408.Idx) => congrArg (gs m c) (place3_eq (e := ((cfg0.win 3).blk t).view.emb j) (block_le t) (index_eq t).2.2.2.1 rfl rfl rfl)

/-- The results' blocks at a point are at the point's place. -/
theorem at4 (t : Fin cfg0.N) (j : S64x1408.Idx) : ((cfg0.win 4).blk t).view.emb j = place t.val (block_le t) j :=
  place_eq (block_le t) (index_eq t).2.2.2.2.1 rfl rfl
theorem at5 (t : Fin cfg0.N) (j : S64x1408.Idx) : ((cfg0.win 5).blk t).view.emb j = place t.val (block_le t) j :=
  place_eq (block_le t) (index_eq t).2.2.2.2.2.1 rfl rfl
theorem at6 (t : Fin cfg0.N) (j : S64x1408.Idx) : ((cfg0.win 6).blk t).view.emb j = place t.val (block_le t) j :=
  place_eq (block_le t) (index_eq t).2.2.2.2.2.2.1 rfl rfl
theorem at7 (t : Fin cfg0.N) (j : S64x1408.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S64x1408.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S64x1408.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S64x1408.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S64x1408.Idx) => (second_place (vs m c) (gs m c) t.val (block_le t) j).trans
    (congrArg (second (vs m c) (gs m c)) (at7 t j).symm)

/-- Over the extended reals the program's results are the reference's. -/
theorem equal : Cert.algebraic_Kernel23Ideal_Reference23Ideal (hKernel23Ideal := Cert.Kernel23Ideal.Gen.facts)
    (hReference23Ideal := Cert.Reference23Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference23Ideal.defs _ _).mono (fun _ h c => ?_) (Cert.Reference23Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamFfnIn

end
-- ==== Proof.AdamFfnOut.lean ====
/-
  The optimizer's step at 2816 rows of 1024 weights, in 22 blocks of rows.
-/
module

public import proofs.«01_k».proof.Defs
public import proofs.«01_k».proof.Proof.Gen.Kernel24Ideal.Value
public import proofs.«01_k».proof.Proof.Gen.Reference24Ideal.Run
public import proofs.«01_k».proof.Proof.AdamTile
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamFfnOut

open Cert.Kernel24Ideal Cert.Kernel24Ideal.Gen Cert.Kernel24Ideal.Value Cert.Proof.AdamTile

/-- What the body leaves in the results' staging buffers, from the blocks. -/
theorem outs (w mo v : Vec Ideal S128x1024 .f32) (p : Vec Ideal S4x128x1024 .bf16) : out0_4 (F := Ideal) w mo v p = grad p
    ∧ out0_5 (F := Ideal) w mo v p = delta w mo v p ∧ out0_6 (F := Ideal) w mo v p = first mo p ∧ out0_7 (F := Ideal) w mo v p = second v p :=
  stores shapeCasts_S128x1024_S128x1024 w mo v p _ (bodySum_eq shapeCasts_S1x128x1024_S128x1024 bitsLt_bf16_f32 p _ _ _ _)

variable (m : (ℓ : Loc nD τ sig) → Buf (Elt Ideal) ℓ) (c : Dev nD)

/-- The weights and the two moments as rows, and the shares of the gradient. -/
abbrev ws : FVec Ideal S2816x1024 .f32 := shapeCast S2816x1024 (m ((c : Thread nD τ).loc main_arg0)) shapeCasts_S4x704x1024_S2816x1024
abbrev ms : FVec Ideal S2816x1024 .f32 := shapeCast S2816x1024 (m ((c : Thread nD τ).loc main_arg1)) shapeCasts_S4x704x1024_S2816x1024
abbrev vs : FVec Ideal S2816x1024 .f32 := shapeCast S2816x1024 (m ((c : Thread nD τ).loc main_arg2)) shapeCasts_S4x704x1024_S2816x1024
abbrev gs : FVec Ideal S4x2816x1024 .bf16 := m ((c : Thread nD τ).loc main_arg3)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem block_le (t : Fin cfg0.N) : t.val * 128 + 128 ≤ 2816 := by
  have h : t.val < 22 := lt_of_lt_of_eq t.isLt N_0
  omega

/-- The blocks at a point. -/
theorem wblk (t : Fin cfg0.N) : iblk m c 0 t = fun j => ws m c (place t.val (block_le t) j) :=
  funext fun (j : S128x1024.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S128x1024.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S128x1024.Idx) => congrArg (vs m c) (place_eq (e := ((cfg0.win 2).blk t).view.emb j) (block_le t) (index_eq t).2.2.1 rfl rfl)
theorem gblk (t : Fin cfg0.N) : iblk m c 3 t = fun j => gs m c (place3 t.val (block_le t) j) :=
  funext fun (j : S4x128x1024.Idx) => congrArg (gs m c) (place3_eq (e := ((cfg0.win 3).blk t).view.emb j) (block_le t) (index_eq t).2.2.2.1 rfl rfl rfl)

/-- The results' blocks at a point are at the point's place. -/
theorem at4 (t : Fin cfg0.N) (j : S128x1024.Idx) : ((cfg0.win 4).blk t).view.emb j = place t.val (block_le t) j :=
  place_eq (block_le t) (index_eq t).2.2.2.2.1 rfl rfl
theorem at5 (t : Fin cfg0.N) (j : S128x1024.Idx) : ((cfg0.win 5).blk t).view.emb j = place t.val (block_le t) j :=
  place_eq (block_le t) (index_eq t).2.2.2.2.2.1 rfl rfl
theorem at6 (t : Fin cfg0.N) (j : S128x1024.Idx) : ((cfg0.win 6).blk t).view.emb j = place t.val (block_le t) j :=
  place_eq (block_le t) (index_eq t).2.2.2.2.2.2.1 rfl rfl
theorem at7 (t : Fin cfg0.N) (j : S128x1024.Idx) : ((cfg0.win 7).blk t).view.emb j = place t.val (block_le t) j :=
  place_eq (block_le t) (index_eq t).2.2.2.2.2.2.2 rfl rfl

/-- The results after the run. -/
theorem final4 : (dats m 0 c).arrAt 4 cfg0.N = grad (gs m c) := by
  refine (dats m 0 c).arrAt_eq_of_cover 4 (grad (gs m c)) (fun t _ => ?_)
    (cover (by decide) (by decide) N_0 flush0_4 block_le (fun t => ((cfg0.win 4).blk t).view.emb_mem_set) at4)
  rw [flushed4, (outs _ _ _ _).1, gblk]
  exact funext fun (j : S128x1024.Idx) => (grad_place (gs m c) t.val (block_le t) j).trans (congrArg (grad (gs m c)) (at4 t j).symm)

theorem final5 : (dats m 0 c).arrAt 5 cfg0.N = delta (ws m c) (ms m c) (vs m c) (gs m c) := by
  refine (dats m 0 c).arrAt_eq_of_cover 5 (delta (ws m c) (ms m c) (vs m c) (gs m c)) (fun t _ => ?_)
    (cover (by decide) (by decide) N_0 flush0_5 block_le (fun t => ((cfg0.win 5).blk t).view.emb_mem_set) at5)
  rw [flushed5, (outs _ _ _ _).2.1, wblk, mblk, vblk, gblk]
  exact funext fun (j : S128x1024.Idx) => (delta_place (ws m c) (ms m c) (vs m c) (gs m c) t.val (block_le t) j).trans
    (congrArg (delta (ws m c) (ms m c) (vs m c) (gs m c)) (at5 t j).symm)

theorem final6 : (dats m 0 c).arrAt 6 cfg0.N = first (ms m c) (gs m c) := by
  refine (dats m 0 c).arrAt_eq_of_cover 6 (first (ms m c) (gs m c)) (fun t _ => ?_)
    (cover (by decide) (by decide) N_0 flush0_6 block_le (fun t => ((cfg0.win 6).blk t).view.emb_mem_set) at6)
  rw [flushed6, (outs _ _ _ _).2.2.1, mblk, gblk]
  exact funext fun (j : S128x1024.Idx) => (first_place (ms m c) (gs m c) t.val (block_le t) j).trans
    (congrArg (first (ms m c) (gs m c)) (at6 t j).symm)

theorem final7 : (dats m 0 c).arrAt 7 cfg0.N = second (vs m c) (gs m c) := by
  refine (dats m 0 c).arrAt_eq_of_cover 7 (second (vs m c) (gs m c)) (fun t _ => ?_)
    (cover (by decide) (by decide) N_0 flush0_7 block_le (fun t => ((cfg0.win 7).blk t).view.emb_mem_set) at7)
  rw [flushed7, (outs _ _ _ _).2.2.2, vblk, gblk]
  exact funext fun (j : S128x1024.Idx) => (second_place (vs m c) (gs m c) t.val (block_le t) j).trans
    (congrArg (second (vs m c) (gs m c)) (at7 t j).symm)

/-- Over the extended reals the program's results are the reference's. -/
theorem equal : Cert.algebraic_Kernel24Ideal_Reference24Ideal (hKernel24Ideal := Cert.Kernel24Ideal.Gen.facts)
    (hReference24Ideal := Cert.Reference24Ideal.Gen.facts) := by
  intro m ρ m' ρ' _ hagree
  refine ⟨fun c => grad (gs m c), fun c => delta (ws m c) (ms m c) (vs m c) (gs m c), fun c => first (ms m c) (gs m c),
    fun c => second (vs m c) (gs m c), (θ_run defs _ _).mono (fun _ h c => ⟨(h c).1.trans (final4 m c), (h c).2.1.trans (final5 m c),
      (h c).2.2.1.trans (final6 m c), (h c).2.2.2.1.trans (final7 m c), (h c).2.2.2.2⟩) (run_blocks (F := Ideal) m ρ), ?_⟩
  refine (θ_run Cert.Reference24Ideal.defs _ _).mono (fun _ h c => ?_) (Cert.Reference24Ideal.Value.run (F := Ideal) m' ρ')
  obtain ⟨e0, e1, e2, e3⟩ := hagree c
  obtain ⟨h1, h2, h3, h4, kept⟩ := h c
  clear hagree h
  rw [e3, reference_sum] at h1
  rw [e0, e1, e2, e3, reference_sum] at h2
  rw [e1, e3, reference_sum] at h3
  rw [e2, e3, reference_sum] at h4
  exact ⟨h1, h2.trans (reference_step_eq (ws m c) (ms m c) (vs m c) (gs m c) _), h3.trans (reference1_eq (ms m c) (gs m c) _),
    h4.trans (reference2_eq (vs m c) (gs m c) _), kept⟩

end Cert.Proof.AdamFfnOut

end
-- ==== Proof.AdamBias.lean ====
/-
  The optimizer's step at a row of 512 weights, with two parts of the gradient.
-/
module

public import proofs.«01_k».proof.Defs
public import proofs.«01_k».proof.Proof.Gen.Kernel25Ideal.Value
public import proofs.«01_k».proof.Proof.Gen.Reference25Ideal.Run
public import proofs.«01_k».proof.Proof.AdamTwo
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic

namespace Cert.Proof.AdamBias

open Cert.Kernel25Ideal Cert.Kernel25Ideal.Gen Cert.Kernel25Ideal.Value
open Cert.Proof.AdamTile (firstOf secondOf deltaOf reference1_of reference2_of reference_step_of)
open Cert.Proof.AdamRow (step_moments)
open Cert.Proof.AdamTwo

section Stores

variable (w mo v : Vec Ideal S1x512 .f32) (p q : Vec Ideal S4x1x512 .f32)

/-- The body's four stores. -/
theorem grad_eq : k0_pay7 (F := Ideal) w mo v p q = grad p q := bodySum_eq p q shapeCasts_S1x1x512_S1x512 _ _ _ _

theorem first_eq : G7 (F := Ideal) w mo v p q = firstOf mo (grad p q) := by
  rw [← grad_eq w mo v p q]
  unfold G7 k0_pay1 k0_pay8 k0_pay9 k0_pay5 k0_pay6
  rw [View.ld_unit_zero (S := S1x512) hz5]
  rfl

theorem second_eq : G8 (F := Ideal) w mo v p q = secondOf v (grad p q) := by
  rw [← grad_eq w mo v p q]
  rfl

theorem delta_eq : G6 (F := Ideal) w mo v p q = deltaOf w mo v (grad p q) :=
  funext fun i => step_moments (congrFun (first_eq w mo v p q) i) (congrFun (second_eq w mo v p q) i)

end Stores

/-- Over the extended reals the program's results are the reference's. -/
theorem equal : Cert.algebraic_Kernel25Ideal_Reference25Ideal (hKernel25Ideal := Cert.Kernel25Ideal.Gen.facts)
    (hReference25Ideal := Cert.Reference25Ideal.Gen.facts) := by
  intro m ρ m' ρ' _ hagree
  refine ⟨_, _, _, _, run (F := Ideal) m ρ, ?_⟩
  refine (θ_run Cert.Reference25Ideal.defs _ _).mono (fun _ h c => ?_) (Cert.Reference25Ideal.Value.run (F := Ideal) m' ρ')
  obtain ⟨e0, e1, e2, e3, e4⟩ := hagree c
  obtain ⟨h1, h2, h3, h4, kept⟩ := h c
  clear hagree h
  rw [e3, e4, reference_sum] at h1
  rw [e0, e1, e2, e3, e4, reference_sum] at h2
  rw [e1, e3, e4, reference_sum] at h3
  rw [e2, e3, e4, reference_sum] at h4
  exact ⟨h1.trans (grad_eq _ _ _ _ _).symm, (h2.trans (reference_step_of _ _ _ _ _)).trans (delta_eq _ _ _ _ _).symm,
    (h3.trans (reference1_of _ _ _)).trans (first_eq _ _ _ _ _).symm, (h4.trans (reference2_of _ _ _)).trans (second_eq _ _ _ _ _).symm, kept⟩

end Cert.Proof.AdamBias

end
-- ==== Proof.AdamConv.lean ====
/-
  The optimizer's step at 4 rows of 256 weights, with two parts of the gradient.
-/
module

public import proofs.«01_k».proof.Defs
public import proofs.«01_k».proof.Proof.Gen.Kernel26Ideal.Value
public import proofs.«01_k».proof.Proof.Gen.Reference26Ideal.Run
public import proofs.«01_k».proof.Proof.AdamTwo
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamConv

open Cert.Kernel26Ideal Cert.Kernel26Ideal.Gen Cert.Kernel26Ideal.Value
open Cert.Proof.AdamTile (place place3 place_eq place3_eq cover firstOf secondOf deltaOf stores_of reference1_of reference2_of reference_step_of)
open Cert.Proof.AdamTwo

/-- What the body leaves in the results' staging buffers, from the blocks. -/
theorem outs (w mo v : Vec Ideal S4x256 .f32) (p q : Vec Ideal S4x4x256 .f32) : out0_5 (F := Ideal) w mo v p q = grad p q
    ∧ out0_6 (F := Ideal) w mo v p q = deltaOf w mo v (grad p q) ∧ out0_7 (F := Ideal) w mo v p q = firstOf mo (grad p q)
    ∧ out0_8 (F := Ideal) w mo v p q = secondOf v (grad p q) :=
  stores_of shapeCasts_S4x256_S4x256 w mo v (grad p q) _ (bodySum_eq p q shapeCasts_S1x4x256_S4x256 _ _ _ _)

variable (m : (ℓ : Loc nD τ sig) → Buf (Elt Ideal) ℓ) (c : Dev nD)

/-- The weights and the two moments as rows, and the two parts of the gradient. -/
abbrev ws : FVec Ideal S4x256 .f32 := shapeCast S4x256 (m ((c : Thread nD τ).loc main_arg0)) shapeCasts_S1x4x256_S4x256
abbrev ms : FVec Ideal S4x256 .f32 := shapeCast S4x256 (m ((c : Thread nD τ).loc main_arg1)) shapeCasts_S1x4x256_S4x256
abbrev vs : FVec Ideal S4x256 .f32 := shapeCast S4x256 (m ((c : Thread nD τ).loc main_arg2)) shapeCasts_S1x4x256_S4x256
abbrev ps : FVec Ideal S4x4x256 .f32 := m ((c : Thread nD τ).loc main_arg3)
abbrev qs : FVec Ideal S4x4x256 .f32 := m ((c : Thread nD τ).loc main_arg4)
abbrev gs : FVec Ideal S4x256 .f32 := grad (ps m c) (qs m c)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

theorem block_le (t : Fin cfg0.N) : t.val * 4 + 4 ≤ 4 := by
  have h : t.val < 1 := lt_of_lt_of_eq t.isLt N_0
  omega

/-- The blocks at a point. -/
theorem wblk (t : Fin cfg0.N) : iblk m c 0 t = fun j => ws m c (place t.val (block_le t) j) :=
  funext fun (j : S4x256.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S4x256.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S4x256.Idx) => congrArg (vs m c) (place_eq (e := ((cfg0.win 2).blk t).view.emb j) (block_le t) (index_eq t).2.2.1 rfl rfl)
theorem pblk (t : Fin cfg0.N) : iblk m c 3 t = fun j => ps m c (place3 t.val (block_le t) j) :=
  funext fun (j : S4x4x256.Idx) => congrArg (ps m c) (place3_eq (e := ((cfg0.win 3).blk t).view.emb j) (block_le t) (index_eq t).2.2.2.1 rfl rfl rfl)
theorem qblk (t : Fin cfg0.N) : iblk m c 4 t = fun j => qs m c (place3 t.val (block_le t) j) :=
  funext fun (j : S4x4x256.Idx) => congrArg (qs m c) (place3_eq (e := ((cfg0.win 4).blk t).view.emb j) (block_le t) (index_eq t).2.2.2.2.1 rfl rfl rfl)

/-- The results' blocks at a point are at the point's place. -/
theorem at5 (t : Fin cfg0.N) (j : S4x256.Idx) : ((cfg0.win 5).blk t).view.emb j = place t.val (block_le t) j :=
  place_eq (block_le t) (index_eq t).2.2.2.2.2.1 rfl rfl
theorem at6 (t : Fin cfg0.N) (j : S4x256.Idx) : ((cfg0.win 6).blk t).view.emb j = place t.val (block_le t) j :=
  place_eq (block_le t) (index_eq t).2.2.2.2.2.2.1 rfl rfl
theorem at7 (t : Fin cfg0.N) (j : S4x256.Idx) : ((cfg0.win 7).blk t).view.emb j = place t.val (block_le t) j :=
  place_eq (block_le t) (index_eq t).2.2.2.2.2.2.2.1 rfl rfl
theorem at8 (t : Fin cfg0.N) (j : S4x256.Idx) : ((cfg0.win 8).blk t).view.emb j = place t.val (block_le t) j :=
  place_eq (block_le t) (index_eq t).2.2.2.2.2.2.2.2 rfl rfl

/-- The results after the run. -/
theorem final5 : (dats m 0 c).arrAt 5 cfg0.N = gs m c := by
  refine (dats m 0 c).arrAt_eq_of_cover 5 (gs m c) (fun t _ => ?_)
    (cover (by decide) (by decide) N_0 flush0_5 block_le (fun t => ((cfg0.win 5).blk t).view.emb_mem_set) at5)
  rw [flushed5, (outs _ _ _ _ _).1, pblk, qblk]
  exact funext fun (j : S4x256.Idx) => (grad_place (ps m c) (qs m c) t.val (block_le t) j).trans (congrArg (gs m c) (at5 t j).symm)

theorem final6 : (dats m 0 c).arrAt 6 cfg0.N = deltaOf (ws m c) (ms m c) (vs m c) (gs m c) := by
  refine (dats m 0 c).arrAt_eq_of_cover 6 (deltaOf (ws m c) (ms m c) (vs m c) (gs m c)) (fun t _ => ?_)
    (cover (by decide) (by decide) N_0 flush0_6 block_le (fun t => ((cfg0.win 6).blk t).view.emb_mem_set) at6)
  rw [flushed6, (outs _ _ _ _ _).2.1, wblk, mblk, vblk, pblk, qblk]
  exact funext fun (j : S4x256.Idx) => (delta_place (ps m c) (qs m c) (ws m c) (ms m c) (vs m c) t.val (block_le t) j).trans
    (congrArg (deltaOf (ws m c) (ms m c) (vs m c) (gs m c)) (at6 t j).symm)

theorem final7 : (dats m 0 c).arrAt 7 cfg0.N = firstOf (ms m c) (gs m c) := by
  refine (dats m 0 c).arrAt_eq_of_cover 7 (firstOf (ms m c) (gs m c)) (fun t _ => ?_)
    (cover (by decide) (by decide) N_0 flush0_7 block_le (fun t => ((cfg0.win 7).blk t).view.emb_mem_set) at7)
  rw [flushed7, (outs _ _ _ _ _).2.2.1, mblk, pblk, qblk]
  exact funext fun (j : S4x256.Idx) => (first_place (ps m c) (qs m c) (ms m c) t.val (block_le t) j).trans
    (congrArg (firstOf (ms m c) (gs m c)) (at7 t j).symm)

theorem final8 : (dats m 0 c).arrAt 8 cfg0.N = secondOf (vs m c) (gs m c) := by
  refine (dats m 0 c).arrAt_eq_of_cover 8 (secondOf (vs m c) (gs m c)) (fun t _ => ?_)
    (cover (by decide) (by decide) N_0 flush0_8 block_le (fun t => ((cfg0.win 8).blk t).view.emb_mem_set) at8)
  rw [flushed8, (outs _ _ _ _ _).2.2.2, vblk, pblk, qblk]
  exact funext fun (j : S4x256.Idx) => (second_place (ps m c) (qs m c) (vs m c) t.val (block_le t) j).trans
    (congrArg (secondOf (vs m c) (gs m c)) (at8 t j).symm)

/-- Over the extended reals the program's results are the reference's. -/
theorem equal : Cert.algebraic_Kernel26Ideal_Reference26Ideal (hKernel26Ideal := Cert.Kernel26Ideal.Gen.facts)
    (hReference26Ideal := Cert.Reference26Ideal.Gen.facts) := by
  intro m ρ m' ρ' _ hagree
  refine ⟨fun c => gs m c, fun c => deltaOf (ws m c) (ms m c) (vs m c) (gs m c), fun c => firstOf (ms m c) (gs m c),
    fun c => secondOf (vs m c) (gs m c), (θ_run defs _ _).mono (fun _ h c => ⟨(h c).1.trans (final5 m c), (h c).2.1.trans (final6 m c),
      (h c).2.2.1.trans (final7 m c), (h c).2.2.2.1.trans (final8 m c), (h c).2.2.2.2⟩) (run_blocks (F := Ideal) m ρ), ?_⟩
  refine (θ_run Cert.Reference26Ideal.defs _ _).mono (fun _ h c => ?_) (Cert.Reference26Ideal.Value.run (F := Ideal) m' ρ')
  obtain ⟨e0, e1, e2, e3, e4⟩ := hagree c
  obtain ⟨h1, h2, h3, h4, kept⟩ := h c
  clear hagree h
  rw [e3, e4, reference_sum] at h1
  rw [e0, e1, e2, e3, e4, reference_sum] at h2
  rw [e1, e3, e4, reference_sum] at h3
  rw [e2, e3, e4, reference_sum] at h4
  exact ⟨h1, h2.trans (reference_step_of (ws m c) (ms m c) (vs m c) (gs m c) _), h3.trans (reference1_of (ms m c) (gs m c) _),
    h4.trans (reference2_of (vs m c) (gs m c) _), kept⟩

end Cert.Proof.AdamConv

end
-- ==== Proof.AdamFfnConv.lean ====
/-
  The optimizer's step at 12 rows of 1408 weights, with two parts of the gradient.
-/
module

public import proofs.«01_k».proof.Defs
public import proofs.«01_k».proof.Proof.Gen.Kernel27Ideal.Value
public import proofs.«01_k».proof.Proof.Gen.Reference27Ideal.Run
public import proofs.«01_k».proof.Proof.AdamTwo
public import Idealize.ShloMosaic.Init
public import Idealize.ShloMosaic.Lib.Tactic
public import Idealize.ShloMosaic.Lib.Pipeline.Value

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.AdamFfnConv

open Cert.Kernel27Ideal Cert.Kernel27Ideal.Gen Cert.Kernel27Ideal.Value
open Cert.Proof.AdamTile (place place3 place_eq place3_eq cover firstOf secondOf deltaOf stores_of reference1_of reference2_of reference_step_of)
open Cert.Proof.AdamTwo

/-- What the body leaves in the results' staging buffers, from the blocks. -/
theorem outs (w mo v : Vec Ideal S12x1408 .f32) (p q : Vec Ideal S4x12x1408 .f32) : out0_5 (F := Ideal) w mo v p q = grad p q
    ∧ out0_6 (F := Ideal) w mo v p q = deltaOf w mo v (grad p q) ∧ out0_7 (F := Ideal) w mo v p q = firstOf mo (grad p q)
    ∧ out0_8 (F := Ideal) w mo v p q = secondOf v (grad p q) :=
  stores_of shapeCasts_S12x1408_S12x1408 w mo v (grad p q) _ (bodySum_eq p q shapeCasts_S1x12x1408_S12x1408 _ _ _ _)

variable (m : (ℓ : Loc nD τ sig) → Buf (Elt Ideal) ℓ) (c : Dev nD)

/-- The weights and the two moments as rows, and the two parts of the gradient. -/
abbrev ws : FVec Ideal S12x1408 .f32 := shapeCast S12x1408 (m ((c : Thread nD τ).loc main_arg0)) shapeCasts_S4x3x1408_S12x1408
abbrev ms : FVec Ideal S12x1408 .f32 := shapeCast S12x1408 (m ((c : Thread nD τ).loc main_arg1)) shapeCasts_S4x3x1408_S12x1408
abbrev vs : FVec Ideal S12x1408 .f32 := shapeCast S12x1408 (m ((c : Thread nD τ).loc main_arg2)) shapeCasts_S4x3x1408_S12x1408
abbrev ps : FVec Ideal S4x12x1408 .f32 := m ((c : Thread nD τ).loc main_arg3)
abbrev qs : FVec Ideal S4x12x1408 .f32 := m ((c : Thread nD τ).loc main_arg4)
abbrev gs : FVec Ideal S12x1408 .f32 := grad (ps m c) (qs m c)

/-- Block `t` of every window is the `t`-th block of rows. -/
theorem index_eq : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

theorem block_le (t : Fin cfg0.N) : t.val * 12 + 12 ≤ 12 := by
  have h : t.val < 1 := lt_of_lt_of_eq t.isLt N_0
  omega

/-- The blocks at a point. -/
theorem wblk (t : Fin cfg0.N) : iblk m c 0 t = fun j => ws m c (place t.val (block_le t) j) :=
  funext fun (j : S12x1408.Idx) => congrArg (ws m c) (place_eq (e := ((cfg0.win 0).blk t).view.emb j) (block_le t) (index_eq t).1 rfl rfl)
theorem mblk (t : Fin cfg0.N) : iblk m c 1 t = fun j => ms m c (place t.val (block_le t) j) :=
  funext fun (j : S12x1408.Idx) => congrArg (ms m c) (place_eq (e := ((cfg0.win 1).blk t).view.emb j) (block_le t) (index_eq t).2.1 rfl rfl)
theorem vblk (t : Fin cfg0.N) : iblk m c 2 t = fun j => vs m c (place t.val (block_le t) j) :=
  funext fun (j : S12x1408.Idx) => congrArg (vs m c) (place_eq (e := ((cfg0.win 2).blk t).view.emb j) (block_le t) (index_eq t).2.2.1 rfl rfl)
theorem pblk (t : Fin cfg0.N) : iblk m c 3 t = fun j => ps m c (place3 t.val (block_le t) j) :=
  funext fun (j : S4x12x1408.Idx) => congrArg (ps m c) (place3_eq (e := ((cfg0.win 3).blk t).view.emb j) (block_le t) (index_eq t).2.2.2.1 rfl rfl rfl)
theorem qblk (t : Fin cfg0.N) : iblk m c 4 t = fun j => qs m c (place3 t.val (block_le t) j) :=
  funext fun (j : S4x12x1408.Idx) => congrArg (qs m c) (place3_eq (e := ((cfg0.win 4).blk t).view.emb j) (block_le t) (index_eq t).2.2.2.2.1 rfl rfl rfl)

/-- The results' blocks at a point are at the point's place. -/
theorem at5 (t : Fin cfg0.N) (j : S12x1408.Idx) : ((cfg0.win 5).blk t).view.emb j = place t.val (block_le t) j :=
  place_eq (block_le t) (index_eq t).2.2.2.2.2.1 rfl rfl
theorem at6 (t : Fin cfg0.N) (j : S12x1408.Idx) : ((cfg0.win 6).blk t).view.emb j = place t.val (block_le t) j :=
  place_eq (block_le t) (index_eq t).2.2.2.2.2.2.1 rfl rfl
theorem at7 (t : Fin cfg0.N) (j : S12x1408.Idx) : ((cfg0.win 7).blk t).view.emb j = place t.val (block_le t) j :=
  place_eq (block_le t) (index_eq t).2.2.2.2.2.2.2.1 rfl rfl
theorem at8 (t : Fin cfg0.N) (j : S12x1408.Idx) : ((cfg0.win 8).blk t).view.emb j = place t.val (block_le t) j :=
  place_eq (block_le t) (index_eq t).2.2.2.2.2.2.2.2 rfl rfl

/-- The results after the run. -/
theorem final5 : (dats m 0 c).arrAt 5 cfg0.N = gs m c := by
  refine (dats m 0 c).arrAt_eq_of_cover 5 (gs m c) (fun t _ => ?_)
    (cover (by decide) (by decide) N_0 flush0_5 block_le (fun t => ((cfg0.win 5).blk t).view.emb_mem_set) at5)
  rw [flushed5, (outs _ _ _ _ _).1, pblk, qblk]
  exact funext fun (j : S12x1408.Idx) => (grad_place (ps m c) (qs m c) t.val (block_le t) j).trans (congrArg (gs m c) (at5 t j).symm)

theorem final6 : (dats m 0 c).arrAt 6 cfg0.N = deltaOf (ws m c) (ms m c) (vs m c) (gs m c) := by
  refine (dats m 0 c).arrAt_eq_of_cover 6 (deltaOf (ws m c) (ms m c) (vs m c) (gs m c)) (fun t _ => ?_)
    (cover (by decide) (by decide) N_0 flush0_6 block_le (fun t => ((cfg0.win 6).blk t).view.emb_mem_set) at6)
  rw [flushed6, (outs _ _ _ _ _).2.1, wblk, mblk, vblk, pblk, qblk]
  exact funext fun (j : S12x1408.Idx) => (delta_place (ps m c) (qs m c) (ws m c) (ms m c) (vs m c) t.val (block_le t) j).trans
    (congrArg (deltaOf (ws m c) (ms m c) (vs m c) (gs m c)) (at6 t j).symm)

theorem final7 : (dats m 0 c).arrAt 7 cfg0.N = firstOf (ms m c) (gs m c) := by
  refine (dats m 0 c).arrAt_eq_of_cover 7 (firstOf (ms m c) (gs m c)) (fun t _ => ?_)
    (cover (by decide) (by decide) N_0 flush0_7 block_le (fun t => ((cfg0.win 7).blk t).view.emb_mem_set) at7)
  rw [flushed7, (outs _ _ _ _ _).2.2.1, mblk, pblk, qblk]
  exact funext fun (j : S12x1408.Idx) => (first_place (ps m c) (qs m c) (ms m c) t.val (block_le t) j).trans
    (congrArg (firstOf (ms m c) (gs m c)) (at7 t j).symm)

theorem final8 : (dats m 0 c).arrAt 8 cfg0.N = secondOf (vs m c) (gs m c) := by
  refine (dats m 0 c).arrAt_eq_of_cover 8 (secondOf (vs m c) (gs m c)) (fun t _ => ?_)
    (cover (by decide) (by decide) N_0 flush0_8 block_le (fun t => ((cfg0.win 8).blk t).view.emb_mem_set) at8)
  rw [flushed8, (outs _ _ _ _ _).2.2.2, vblk, pblk, qblk]
  exact funext fun (j : S12x1408.Idx) => (second_place (ps m c) (qs m c) (vs m c) t.val (block_le t) j).trans
    (congrArg (secondOf (vs m c) (gs m c)) (at8 t j).symm)

/-- Over the extended reals the program's results are the reference's. -/
theorem equal : Cert.algebraic_Kernel27Ideal_Reference27Ideal (hKernel27Ideal := Cert.Kernel27Ideal.Gen.facts)
    (hReference27Ideal := Cert.Reference27Ideal.Gen.facts) := by
  intro m ρ m' ρ' _ hagree
  refine ⟨fun c => gs m c, fun c => deltaOf (ws m c) (ms m c) (vs m c) (gs m c), fun c => firstOf (ms m c) (gs m c),
    fun c => secondOf (vs m c) (gs m c), (θ_run defs _ _).mono (fun _ h c => ⟨(h c).1.trans (final5 m c), (h c).2.1.trans (final6 m c),
      (h c).2.2.1.trans (final7 m c), (h c).2.2.2.1.trans (final8 m c), (h c).2.2.2.2⟩) (run_blocks (F := Ideal) m ρ), ?_⟩
  refine (θ_run Cert.Reference27Ideal.defs _ _).mono (fun _ h c => ?_) (Cert.Reference27Ideal.Value.run (F := Ideal) m' ρ')
  obtain ⟨e0, e1, e2, e3, e4⟩ := hagree c
  obtain ⟨h1, h2, h3, h4, kept⟩ := h c
  clear hagree h
  rw [e3, e4, reference_sum] at h1
  rw [e0, e1, e2, e3, e4, reference_sum] at h2
  rw [e1, e3, e4, reference_sum] at h3
  rw [e2, e3, e4, reference_sum] at h4
  exact ⟨h1, h2.trans (reference_step_of (ws m c) (ms m c) (vs m c) (gs m c) _), h3.trans (reference1_of (ms m c) (gs m c) _),
    h4.trans (reference2_of (vs m c) (gs m c) _), kept⟩

end Cert.Proof.AdamFfnConv

end
-- ==== Proof.Outer.lean ====
/-
  The outer loop of the attention gradient: one trip per block of 512 query rows. A trip runs the two inner loops by
  their invariants, then the diagonal block, and stores one block of rows of each of the three scratch gradients. What
  a trip writes is found by running it once at a symbolic trip; the invariant holds the writes of the trips before.
-/
module

public import proofs.«01_k».proof.Proof.Gen.KernelIdeal.Loops
public import proofs.«01_k».proof.Proof.Gen.KernelIdeal.Frame

@[expose] public section

set_option maxRecDepth 16384

noncomputable section

namespace Cert.Proof.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

/-- A list of writes to a scratch buffer of 2048 rows, the last one first. -/
abbrev Pieces (F : FTy → Type) [FloatOps F] := List (View.Piece (Elt F) S2048x64 .f32)

variable (c : Dev nD) (i : grid0.Coords) (arg2 : Memref sig .tc .vmem S1x1x2048x64 .f32) (harg2 : arg2.IsWhole)
  (arg3 : Memref sig .tc .vmem S1x1x2048x64 .f32) (harg3 : arg3.IsWhole) (arg4 : Memref sig .tc .vmem S1x1x2048x64
  .f32) (harg4 : arg4.IsWhole) (arg5 : Memref sig .tc .vmem S1x1x2048x1 .f32) (harg5 : arg5.IsWhole) (arg6 : Memref
  sig .tc .vmem S1x1x2048x64 .f32) (harg6 : arg6.IsWhole) (arg7 : Memref sig .tc .vmem S1x64 .f32) (harg7 :
  arg7.IsWhole) (arg8 : Memref sig .tc .vmem S1x64 .f32) (harg8 : arg8.IsWhole) (arg9 : Memref sig .tc .vmem
  S1x1x2048x64 .f32) (harg9 : arg9.IsWhole) (arg10 : Memref sig .tc .vmem S1x1x2048x64 .f32) (harg10 :
  arg10.IsWhole) (arg11 : Memref sig .tc .vmem S1x1x2048x64 .f32) (harg11 : arg11.IsWhole) (arg12 : Memref sig .tc
  .vmem S1x64 .f32) (harg12 : arg12.IsWhole) (arg13 : Memref sig .tc .vmem S1x64 .f32) (harg13 : arg13.IsWhole)
  (arg14 : Memref sig .tc .vmem S2048x64 .f32) (harg14 : arg14.IsWhole) (arg15 : Memref sig .tc .vmem S2048x64
  .f32) (harg15 : arg15.IsWhole) (arg16 : Memref sig .tc .vmem S2048x64 .f32) (harg16 : arg16.IsWhole) (arg17 :
  Memref sig .tc .vmem S2048x64 .f32) (harg17 : arg17.IsWhole) (arg18 : Memref sig .tc .vmem S2048x64 .f32) (harg18
  : arg18.IsWhole) (arg0 arg1 : BitVec 32) (v11 v29 : FVec F S2048x64 .f32)

/-- What one trip holds: the values, the row sums, the gradient of the output and the two normalized inputs, which it
    reads; and the three scratch gradients, which it writes. -/
abbrev Held (X4 : BufTy.Contents (Elt F) arg4.view.ty) (X5 : BufTy.Contents (Elt F) arg5.view.ty) (X6 : BufTy.Contents (Elt F) arg6.view.ty) (X14 : BufTy.Contents (Elt F) arg14.view.ty) (X15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

variable (X4 : BufTy.Contents (Elt F) arg4.view.ty) (X5 : BufTy.Contents (Elt F) arg5.view.ty) (X6 :
  BufTy.Contents (Elt F) arg6.view.ty) (X14 : BufTy.Contents (Elt F) arg14.view.ty) (X15 : BufTy.Contents (Elt F)
  arg15.view.ty)

set_option maxHeartbeats 4000000 in
/-- One trip at a symbolic block of query rows: the writes it makes to the three scratch gradients, as functions of
    what it finds in them, and the proof that the trip makes them. -/
@[irreducible] def trip (k : Fin k0_t1_loop.trips) :
    Σ' (L16 : BufTy.Contents (Elt F) arg16.view.ty → BufTy.Contents (Elt F) arg17.view.ty →
        BufTy.Contents (Elt F) arg18.view.ty → Pieces F)
      (L17 : BufTy.Contents (Elt F) arg16.view.ty → BufTy.Contents (Elt F) arg17.view.ty →
        BufTy.Contents (Elt F) arg18.view.ty → Pieces F),
      { L18 : BufTy.Contents (Elt F) arg16.view.ty → BufTy.Contents (Elt F) arg17.view.ty →
          BufTy.Contents (Elt F) arg18.view.ty → Pieces F //
        ∀ (u : Unit) (f16 : BufTy.Contents (Elt F) arg16.view.ty) (f17 : BufTy.Contents (Elt F) arg17.view.ty)
          (f18 : BufTy.Contents (Elt F) arg18.view.ty),
          Held c arg4 arg5 arg6 arg14 arg15 arg16 arg17 arg18 X4 X5 X6 X14 X15 f16 f17 f18
            ⊢ wp frame (wpE (defs₀ (F := F)) Variants.none (c : Thread nD τ) none) Set.univ
                (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 k u)
                (fun _ => Held c arg4 arg5 arg6 arg14 arg15 arg16 arg17 arg18 X4 X5 X6 X14 X15
                  (arg16.view.writes (Elt F) f16 (L16 f16 f17 f18)) (arg17.view.writes (Elt F) f17 (L17 f16 f17 f18))
                  (arg18.view.writes (Elt F) f18 (L18 f16 f17 f18))) } := by
  refine ⟨?_, ?_, ?_, fun u f16 f17 f18 => ?run⟩
  case run =>
    unfold k0_t1_body
    iintro ⟨H4, H5, H6, H14, H15, W16, W17, W18⟩
    sl_exec
    sl_step
    sl_close

/-- The writes of the first `k` trips to the three scratch gradients, the last first, each trip's taken at what the trips
    before it left. -/
def pb (G16 : BufTy.Contents (Elt F) arg16.view.ty) (G17 : BufTy.Contents (Elt F) arg17.view.ty)
    (G18 : BufTy.Contents (Elt F) arg18.view.ty) : ℕ → Pieces F × Pieces F × Pieces F
  | 0 => ([], [], [])
  | k + 1 =>
    let p := pb G16 G17 G18 k
    if h : k < k0_t1_loop.trips then
      let t := trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 ⟨k, h⟩
      let f16 := arg16.view.writes (Elt F) G16 p.1
      let f17 := arg17.view.writes (Elt F) G17 p.2.1
      let f18 := arg18.view.writes (Elt F) G18 p.2.2
      (t.1 f16 f17 f18 ++ p.1, t.2.1 f16 f17 f18 ++ p.2.1, t.2.2.1 f16 f17 f18 ++ p.2.2)
    else p

/-- The writes after trip `k` are that trip's in front of the ones before. -/
theorem pb_succ (G16 : BufTy.Contents (Elt F) arg16.view.ty) (G17 : BufTy.Contents (Elt F) arg17.view.ty)
    (G18 : BufTy.Contents (Elt F) arg18.view.ty) (k : Fin k0_t1_loop.trips) :
    pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 G16 G17 G18 (k.val + 1)
      = (let p := pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 G16 G17 G18 k.val
         let t := trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 k
         let f16 := arg16.view.writes (Elt F) G16 p.1
         let f17 := arg17.view.writes (Elt F) G17 p.2.1
         let f18 := arg18.view.writes (Elt F) G18 p.2.2
         (t.1 f16 f17 f18 ++ p.1, t.2.1 f16 f17 f18 ++ p.2.1, t.2.2.1 f16 f17 f18 ++ p.2.2)) := by
  rw [pb.eq_2]; exact dif_pos k.isLt

set_option warn.classDefReducibility false in
/-- The outer loop by its invariant: before trip `k` the buffers the trips read are unchanged, and each scratch gradient
    holds the writes of the trips before `k` over what it held at the start. -/
@[sl_loop] def loopInv (G16 : BufTy.Contents (Elt F) arg16.view.ty) (G17 : BufTy.Contents (Elt F) arg17.view.ty)
    (G18 : BufTy.Contents (Elt F) arg18.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 where
  inv := fun k _ =>
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg14.view.loc (c : Thread nD τ) ↦[arg14.view.set]{fullShare} X14) ∗ (arg15.view.loc (c : Thread nD τ) ↦[arg15.view.set]{fullShare} X15) ∗
      (∃ f, (arg16.view.loc (c : Thread nD τ) ↦[arg16.view.set]{fullShare} f) ∗
        ⌜f = arg16.view.writes (Elt F) G16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 G16 G17 G18 k).1⌝) ∗
      (∃ f, (arg17.view.loc (c : Thread nD τ) ↦[arg17.view.set]{fullShare} f) ∗
        ⌜f = arg17.view.writes (Elt F) G17 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 G16 G17 G18 k).2.1⌝) ∗
      (∃ f, (arg18.view.loc (c : Thread nD τ) ↦[arg18.view.set]{fullShare} f) ∗
        ⌜f = arg18.view.writes (Elt F) G18 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 G16 G17 G18 k).2.2⌝))
  step k u := by
    iintro ⟨H4, H5, H6, H14, H15, ⟨%f16, W16, %h16⟩, ⟨%f17, W17, %h17⟩, ⟨%f18, W18, %h18⟩⟩
    iapply (wp_wand_r Idealize.ShloMosaic.frame (wpE (defs₀ (F := F)) Variants.none (c : Thread nD τ) none) Set.univ)
    isplitl [H4 H5 H6 H14 H15 W16 W17 W18]
    · iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 k).2.2.2 u f16 f17 f18)
      isplitl [H4]; · iexact H4
      isplitl [H5]; · iexact H5
      isplitl [H6]; · iexact H6
      isplitl [H14]; · iexact H14
      isplitl [H15]; · iexact H15
      isplitl [W16]; · iexact W16
      isplitl [W17]; · iexact W17
      iexact W18
    · iintro %yld ⟨H4, H5, H6, H14, H15, W16, W17, W18⟩
      isplitl [H4]; · iexact H4
      isplitl [H5]; · iexact H5
      isplitl [H6]; · iexact H6
      isplitl [H14]; · iexact H14
      isplitl [H15]; · iexact H15
      simp only [pb_succ]
      isplitl [W16]
      · iexists _; isplitl [W16]; · iexact W16
        ipureintro; rw [h16, h17, h18, ← View.writes_append]
      isplitl [W17]
      · iexists _; isplitl [W17]; · iexact W17
        ipureintro; rw [h16, h17, h18, ← View.writes_append]
      iexists _; isplitl [W18]; · iexact W18
      ipureintro; rw [h16, h17, h18, ← View.writes_append]

end Cert.Proof.Outer

end
-- ==== Proof.Body.lean ====
/-
  The whole body of the attention gradient run at one grid point, in the two cases of its one branch: at the first point
  the two gain gradients are cleared, at the others they are added to. What the body stores in each output is found by
  the run.
-/
module

public import proofs.«01_k».proof.Proof.Outer

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

/-- The branch condition of the body, over the grid coordinates. -/
abbrev cond (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

set_option maxHeartbeats 1000000 in
/-- What the body stores in each output at the first point: the pieces of each output, as functions
    of what the scratch buffers held before, and the proof that the body stores them. -/
@[irreducible] def runA (c : Dev nD) (i : grid0.Coords) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x1 .f32) (harg5 : arg5.IsWhole) (arg6 : Memref sig .tc .vmem S1x1x2048x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1x2048x64 .f32) (harg9 : arg9.IsWhole) (arg10 : Memref sig .tc .vmem S1x1x2048x64 .f32) (harg10 : arg10.IsWhole) (arg11 : Memref sig .tc .vmem S1x1x2048x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2048x64 .f32) (harg14 : arg14.IsWhole) (arg15 : Memref sig .tc .vmem S2048x64 .f32) (harg15 : arg15.IsWhole) (arg16 : Memref sig .tc .vmem S2048x64 .f32) (harg16 : arg16.IsWhole) (arg17 : Memref sig .tc .vmem S2048x64 .f32) (harg17 : arg17.IsWhole) (arg18 : Memref sig .tc .vmem S2048x64 .f32) (harg18 : arg18.IsWhole) (hc0 : cond i)
    (x0 : Vec F S1x1x2048x64 .f32) (x1 : Vec F S1x1x2048x64 .f32) (x2 : Vec F S1x1x2048x64 .f32) (x3 : Vec F S1x1x2048x1 .f32) (x4 : Vec F S1x1x2048x64 .f32) (x5 : Vec F S1x64 .f32) (x6 : Vec F S1x64 .f32) :
    Σ' (L9 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L10 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L11 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L12 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x64 .f32)),
      { L13 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x64 .f32) //
        ∀ (E : Set ℕ) (K : PUnit → sProp 𝕄) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
          iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (L9 f14 f15 f16 f17 f18)) ∗ (∃ f, arg10.view.loc (c : Thread nD τ) ↦[arg10.view.set]{fullShare} arg10.view.writes (Elt F) f (L10 f14 f15 f16 f17 f18)) ∗ (∃ f, arg11.view.loc (c : Thread nD τ) ↦[arg11.view.set]{fullShare} arg11.view.writes (Elt F) f (L11 f14 f15 f16 f17 f18)) ∗ (∃ f, arg12.view.loc (c : Thread nD τ) ↦[arg12.view.set]{fullShare} arg12.view.writes (Elt F) f (L12 f14 f15 f16 f17 f18)) ∗ (∃ f, arg13.view.loc (c : Thread nD τ) ↦[arg13.view.set]{fullShare} arg13.view.writes (Elt F) f (L13 f14 f15 f16 f17 f18)) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f)) -∗ K ⟨⟩))
          ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K f14 f15 f16 f17 f18 => ?run⟩
  case run =>
    simp only [cc0_sb_bwd_eq_skeleton]; unfold cc0_sb_bwd_skel
    simp only [k0_part11_eq_skeleton, k0_part12_eq_skeleton, k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, ⟨%d12, %g12, -, H12⟩, ⟨%d13, %g13, -, H13⟩, H14, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

set_option maxHeartbeats 1000000 in
/-- What the body stores in each output at a later point, adding to what the two gain gradients hold: the pieces of each output, as functions
    of what the scratch buffers held before, and the proof that the body stores them. -/
@[irreducible] def runB (c : Dev nD) (i : grid0.Coords) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x1 .f32) (harg5 : arg5.IsWhole) (arg6 : Memref sig .tc .vmem S1x1x2048x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x1x2048x64 .f32) (harg9 : arg9.IsWhole) (arg10 : Memref sig .tc .vmem S1x1x2048x64 .f32) (harg10 : arg10.IsWhole) (arg11 : Memref sig .tc .vmem S1x1x2048x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2048x64 .f32) (harg14 : arg14.IsWhole) (arg15 : Memref sig .tc .vmem S2048x64 .f32) (harg15 : arg15.IsWhole) (arg16 : Memref sig .tc .vmem S2048x64 .f32) (harg16 : arg16.IsWhole) (arg17 : Memref sig .tc .vmem S2048x64 .f32) (harg17 : arg17.IsWhole) (arg18 : Memref sig .tc .vmem S2048x64 .f32) (harg18 : arg18.IsWhole) (hc0 : ¬cond i)
    (x0 : Vec F S1x1x2048x64 .f32) (x1 : Vec F S1x1x2048x64 .f32) (x2 : Vec F S1x1x2048x64 .f32) (x3 : Vec F S1x1x2048x1 .f32) (x4 : Vec F S1x1x2048x64 .f32) (x5 : Vec F S1x64 .f32) (x6 : Vec F S1x64 .f32) (y12 y13 : Vec F S1x64 .f32) :
    Σ' (L9 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L10 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L11 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x1x2048x64 .f32)),
    Σ' (L12 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x64 .f32)),
      { L13 : BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1x64 .f32) //
        ∀ (E : Set ℕ) (K : PUnit → sProp 𝕄) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
          iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare y12 ∗ owns (c : Thread nD τ) arg13 fullShare y13 ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗
            (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (L9 f14 f15 f16 f17 f18)) ∗ (∃ f, arg10.view.loc (c : Thread nD τ) ↦[arg10.view.set]{fullShare} arg10.view.writes (Elt F) f (L10 f14 f15 f16 f17 f18)) ∗ (∃ f, arg11.view.loc (c : Thread nD τ) ↦[arg11.view.set]{fullShare} arg11.view.writes (Elt F) f (L11 f14 f15 f16 f17 f18)) ∗ (∃ f, arg12.view.loc (c : Thread nD τ) ↦[arg12.view.set]{fullShare} arg12.view.writes (Elt F) f (L12 f14 f15 f16 f17 f18)) ∗ (∃ f, arg13.view.loc (c : Thread nD τ) ↦[arg13.view.set]{fullShare} arg13.view.writes (Elt F) f (L13 f14 f15 f16 f17 f18)) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f)) -∗ K ⟨⟩))
          ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K f14 f15 f16 f17 f18 => ?run⟩
  case run =>
    simp only [cc0_sb_bwd_eq_skeleton]; unfold cc0_sb_bwd_skel
    simp only [k0_part11_eq_skeleton, k0_part12_eq_skeleton, k0_part13_eq_skeleton]
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, ⟨%g12, %hg12, H12⟩, ⟨%g13, %hg13, H13⟩, H14, H15, H16, H17, H18, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg12.eq_unread hg12; obtain rfl := harg13.eq_unread hg13
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.Proof.Body

end
-- ==== Proof.Model.lean ====
/-
  What one run of the attention gradient's body computes, on arrays: the two inner loops and the diagonal block as
  recursions over the three scratch gradients, with no mention of memory. The kernel's own payloads are kept as they
    are.
-/
module

public import proofs.«01_k».proof.Proof.Gen.KernelIdeal.Skeleton
public import Idealize.ShloMosaic.Lib.Pointwise.Index

@[expose] public section

set_option maxRecDepth 16384

noncomputable section

namespace Cert.Proof.Model

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Block `k` of 512 rows of an array of 2048 rows. -/
def rows {α : Type} (k : ℕ) (A : S2048x64.Idx → α) : S512x64.Idx → α :=
  fun j => A (ix2 ⟨(512 * k + (j 0).val) % 2048, Nat.mod_lt _ (by decide)⟩ ⟨(j 1).val, (j 1).isLt⟩)

/-- Block `k` of 512 rows of one head's array. -/
def rows4 {α : Type} (k : ℕ) (A : S1x1x2048x64.Idx → α) : S1x1x512x64.Idx → α :=
  fun j => A (ix4 0 0 ⟨(512 * k + (j 2).val) % 2048, Nat.mod_lt _ (by decide)⟩ ⟨(j 3).val, (j 3).isLt⟩)

/-- Block `k` of 512 rows of one head's column. -/
def rows1 {α : Type} (k : ℕ) (A : S1x1x2048x1.Idx → α) : S1x1x512x1.Idx → α :=
  fun j => A (ix4 0 0 ⟨(512 * k + (j 2).val) % 2048, Nat.mod_lt _ (by decide)⟩ ⟨(j 3).val, (j 3).isLt⟩)

/-- An array of 2048 rows with block `k` of 512 rows replaced. -/
def put {α : Type} (k : ℕ) (w : S512x64.Idx → α) (A : S2048x64.Idx → α) : S2048x64.Idx → α :=
  fun y => if (y 0).val / 512 = k then
    w (ix2 ⟨(y 0).val % 512, Nat.mod_lt _ (by decide)⟩ ⟨(y 1).val, (y 1).isLt⟩) else A y

/-- What the loop over the key blocks carries: the sum passed on the left, the sum of the gradients seen, and the
    gradient of the query rows. -/
abbrev Carry (F : FTy → Type) [FloatOps F] := FVec F S512x1 .f32 × FVec F S512x1 .f32 × FVec F S512x64 .f32

/-- A value of the block, as the kernel computes it. -/
def i2 (q : Vec F S512x64 .f32) (n : Vec F S512x64 .f32) := k0_pay5 q n
/-- A value of the block, as the kernel computes it. -/
def i3 (q : Vec F S512x64 .f32) (n : Vec F S512x64 .f32) := k0_pay6 q n
/-- A value of the block, as the kernel computes it. -/
def i4 (q : Vec F S512x64 .f32) (n : Vec F S512x64 .f32) := k0_pay9 (k0_pay123 (F := F)) q n
/-- A value of the block, as the kernel computes it. -/
def i5 (q : Vec F S512x64 .f32) (n : Vec F S512x64 .f32) := k0_pay10 q n
/-- A value of the block, as the kernel computes it. -/
def i6 (q : Vec F S512x64 .f32) (n : Vec F S512x64 .f32) := k0_pay11 q n
/-- A value of the block, as the kernel computes it. -/
def i7 (q : Vec F S512x64 .f32) (n : Vec F S512x64 .f32) := k0_pay13 q n
/-- A value of the block, as the kernel computes it. -/
def i8 (q : Vec F S512x64 .f32) (n : Vec F S512x64 .f32) := k0_pay14 (k0_pay123 (F := F)) q n
/-- A value of the block, as the kernel computes it. -/
def i9 (q : Vec F S512x64 .f32) (n : Vec F S512x64 .f32) := k0_pay19 (i3 q n) (i5 q n) (i6 q n)
/-- A value of the block, as the kernel computes it. -/
def i17 (q : Vec F S512x64 .f32) (n : Vec F S512x64 .f32) := k0_pay35 (i2 q n)
/-- A value of the block, as the kernel computes it. -/
def i10 (q : Vec F S512x64 .f32) (r : Vec F S1x1x512x1 .f32) (n : Vec F S512x64 .f32) (a : Carry F) := k0_pay20
    (k0_pay123 (F := F)) (k0_pay70 r) a.1 (i2 q n) (i3 q n) (i4 q n) (i5 q n) (i6 q n) (i7 q n) (i8 q n) (constant
    S512x128 FTy.f32 0#32)
/-- A value of the block, as the kernel computes it. -/
def i11 (q : Vec F S512x64 .f32) (d : Vec F S1x1x512x64 .f32) (r : Vec F S1x1x512x1 .f32) (n : Vec F S512x64 .f32) (v
    : Vec F S1x1x512x64 .f32) (a : Carry F) := k0_pay21 (k0_pay123 (F := F)) (k0_pay69 d) (k0_pay70 r) a.1 (k0_pay3
    v) (i2 q n) (i3 q n) (i4 q n) (i5 q n) (i6 q n) (i7 q n) (i8 q n) (constant S512x128 FTy.f32 0#32)
/-- A value of the block, as the kernel computes it. -/
def i12 (q : Vec F S512x64 .f32) (d : Vec F S1x1x512x64 .f32) (r : Vec F S1x1x512x1 .f32) (n : Vec F S512x64 .f32) (v
    : Vec F S1x1x512x64 .f32) (a : Carry F) := k0_pay23 (k0_pay123 (F := F)) (k0_pay69 d) (k0_pay70 r) a.1 (k0_pay3
    v) (i2 q n) (i3 q n) (i4 q n) (i5 q n) (i6 q n) (i7 q n) (i8 q n) (constant S512x128 FTy.f32 0#32)
/-- A value of the block, as the kernel computes it. -/
def i13 (q : Vec F S512x64 .f32) (d : Vec F S1x1x512x64 .f32) (r : Vec F S1x1x512x1 .f32) (n : Vec F S512x64 .f32) (v
    : Vec F S1x1x512x64 .f32) (a : Carry F) := k0_pay25 (k0_pay123 (F := F)) (k0_pay69 d) (k0_pay70 r) a.1 (k0_pay3
    v) (i2 q n) (i3 q n) (i4 q n) (i5 q n) (i6 q n) (i7 q n) (i8 q n) (constant S512x128 FTy.f32 0#32)
/-- A value of the block, as the kernel computes it. -/
def i14 (q : Vec F S512x64 .f32) (d : Vec F S1x1x512x64 .f32) (r : Vec F S1x1x512x1 .f32) (n : Vec F S512x64 .f32) (v
    : Vec F S1x1x512x64 .f32) (a : Carry F) := k0_pay26 (k0_pay123 (F := F)) (k0_pay124 (F := F)) (k0_pay69 d)
    (k0_pay70 r) a.1 (k0_pay3 v) (i2 q n) (i3 q n) (i4 q n) (i5 q n) (i6 q n) (i7 q n) (i8 q n) (constant S512x128
    FTy.f32 0#32)
/-- A value of the block, as the kernel computes it. -/
def i15 (q : Vec F S512x64 .f32) (d : Vec F S1x1x512x64 .f32) (r : Vec F S1x1x512x1 .f32) (n : Vec F S512x64 .f32) (v
    : Vec F S1x1x512x64 .f32) (a : Carry F) := k0_pay33 (i11 q d r n v a) k0_pay22 (i12 q d r n v a)
/-- A value of the block, as the kernel computes it. -/
def i16 (q : Vec F S512x64 .f32) (d : Vec F S1x1x512x64 .f32) (r : Vec F S1x1x512x1 .f32) (n : Vec F S512x64 .f32) (v
    : Vec F S1x1x512x64 .f32) (a : Carry F) := k0_pay34 (k0_pay124 (F := F)) (i11 q d r n v a) k0_pay22 (i12 q d r n
    v a) (i13 q d r n v a) (i14 q d r n v a)
/-- What the block below the diagonal carries on. -/
def belowCarry (q : Vec F S512x64 .f32) (d : Vec F S1x1x512x64 .f32) (r : Vec F S1x1x512x1 .f32) (n : Vec F S512x64
    .f32) (v : Vec F S1x1x512x64 .f32) (a : Carry F) : Carry F := (k0_pay76 a.1 (i9 q n), k0_pay77 a.2.1 (i15 q d r n
    v a), k0_pay78 a.2.1 a.2.2 n (i11 q d r n v a) (i16 q d r n v a) (i17 q n) (FloatOps.ofBits FTy.f32
    1065353216#32))
/-- The key rows' gradient after the block below the diagonal, `o` the rows before. -/
def belowK (q : Vec F S512x64 .f32) (d : Vec F S1x1x512x64 .f32) (r : Vec F S1x1x512x1 .f32) (n : Vec F S512x64 .f32)
    (v : Vec F S1x1x512x64 .f32) (a : Carry F) (o : Vec F S512x64 .f32) : Vec F S512x64 .f32 := k0_pay74 q a.2.1 (i11
    q d r n v a) (i16 q d r n v a) (i17 q n) (FloatOps.ofBits FTy.f32 1065353216#32) o
/-- The value rows' gradient after the block below the diagonal, `o` the rows before. -/
def belowV (q : Vec F S512x64 .f32) (d : Vec F S1x1x512x64 .f32) (r : Vec F S1x1x512x1 .f32) (n : Vec F S512x64 .f32)
    (v : Vec F S1x1x512x64 .f32) (a : Carry F) (o : Vec F S512x64 .f32) : Vec F S512x64 .f32 := k0_pay75 d (i10 q r n
    a) o

/-- The carry before any key block. -/
def start : Carry F := (k0_pay71, k0_pay71, k0_pay72)

/-- The first `j` key blocks of one query block: the carry and the two scratch gradients of the keys and values. -/
def below (q : Vec F S512x64 .f32) (d : Vec F S1x1x512x64 .f32) (r : Vec F S1x1x512x1 .f32) (kn : Vec F S2048x64 .f32)
    (v : Vec F S1x1x2048x64 .f32) (A B : Vec F S2048x64 .f32) : ℕ → Carry F × Vec F S2048x64 .f32 × Vec F S2048x64
    .f32
  | 0 => (start, A, B)
  | j + 1 =>
    let s := below q d r kn v A B j
    (belowCarry q d r (rows j kn) (rows4 j v) s.1,
      put j (belowK q d r (rows j kn) (rows4 j v) s.1 (rows j s.2.1)) s.2.1,
      put j (belowV q d r (rows j kn) (rows4 j v) s.1 (rows j s.2.2)) s.2.2)

/-- A value of the block, as the kernel computes it. -/
def d8 (q : Vec F S512x64 .f32) (n : Vec F S512x64 .f32) := k0_pay86 q n
/-- A value of the block, as the kernel computes it. -/
def d9 (q : Vec F S512x64 .f32) (n : Vec F S512x64 .f32) := k0_pay87 q n
/-- A value of the block, as the kernel computes it. -/
def d10 (q : Vec F S512x64 .f32) (n : Vec F S512x64 .f32) := k0_pay88 q n
/-- A value of the block, as the kernel computes it. -/
def d11 (q : Vec F S512x64 .f32) (n : Vec F S512x64 .f32) := k0_pay89 (d9 q n) (d10 q n)
/-- A value of the block, as the kernel computes it. -/
def d12 (q : Vec F S512x64 .f32) (n : Vec F S512x64 .f32) := k0_pay90 k0_pay125 (d8 q n) (d9 q n) (d10 q n)
/-- A value of the block, as the kernel computes it. -/
def d13 (q : Vec F S512x64 .f32) (n : Vec F S512x64 .f32) := k0_pay93 (k0_pay123 (F := F)) k0_pay125 (d8 q n) (d9 q
    n) (d10 q n)
/-- A value of the block, as the kernel computes it. -/
def d14 (q : Vec F S512x64 .f32) (n : Vec F S512x64 .f32) := k0_pay96 (k0_pay123 (F := F)) k0_pay125 (d8 q n) (d9 q
    n) (d10 q n)
/-- A value of the block, as the kernel computes it. -/
def d15 (q : Vec F S512x64 .f32) (n : Vec F S512x64 .f32) := k0_pay99 (k0_pay123 (F := F)) k0_pay125 (d8 q n) (d9 q
    n) (d10 q n)
/-- A value of the block, as the kernel computes it. -/
def d16 (q : Vec F S512x64 .f32) (n : Vec F S512x64 .f32) := k0_pay100 k0_pay125 (d8 q n) (d9 q n) (d10 q n)
/-- A value of the block, as the kernel computes it. -/
def d17 (q : Vec F S512x64 .f32) (r : Vec F S1x1x512x1 .f32) (n : Vec F S512x64 .f32) (a : Carry F) := k0_pay101
    (k0_pay123 (F := F)) k0_pay125 (k0_pay70 r) a.1 (d11 q n) (d12 q n) (d13 q n) (d14 q n) (d15 q n) (d16 q n)
/-- A value of the block, as the kernel computes it. -/
def d18 (q : Vec F S512x64 .f32) (d : Vec F S1x1x512x64 .f32) (r : Vec F S1x1x512x1 .f32) (n : Vec F S512x64 .f32) (v
    : Vec F S1x1x512x64 .f32) (a : Carry F) := k0_pay102 (k0_pay123 (F := F)) k0_pay125 (k0_pay69 d) (k0_pay70 r) a.1
    (k0_pay85 v) (d11 q n) (d12 q n) (d13 q n) (d14 q n) (d15 q n) (d16 q n)
/-- A value of the block, as the kernel computes it. -/
def d19 (q : Vec F S512x64 .f32) (d : Vec F S1x1x512x64 .f32) (r : Vec F S1x1x512x1 .f32) (n : Vec F S512x64 .f32) (v
    : Vec F S1x1x512x64 .f32) (a : Carry F) := k0_pay105 (k0_pay123 (F := F)) (k0_pay124 (F := F)) k0_pay125
    (k0_pay69 d) (k0_pay70 r) a.1 (k0_pay85 v) (d11 q n) (d12 q n) (d13 q n) (d14 q n) (d15 q n) (d16 q n)
/-- A value of the block, as the kernel computes it. -/
def d20 (q : Vec F S512x64 .f32) (d : Vec F S1x1x512x64 .f32) (r : Vec F S1x1x512x1 .f32) (n : Vec F S512x64 .f32) (v
    : Vec F S1x1x512x64 .f32) (a : Carry F) := k0_pay108 (k0_pay123 (F := F)) (k0_pay124 (F := F)) k0_pay125
    (k0_pay69 d) (k0_pay70 r) a.1 (k0_pay85 v) (d11 q n) (d12 q n) (d13 q n) (d14 q n) (d15 q n) (d16 q n)
/-- A value of the block, as the kernel computes it. -/
def d21 (q : Vec F S512x64 .f32) (d : Vec F S1x1x512x64 .f32) (r : Vec F S1x1x512x1 .f32) (n : Vec F S512x64 .f32) (v
    : Vec F S1x1x512x64 .f32) (a : Carry F) := k0_pay109 (k0_pay123 (F := F)) k0_pay125 (k0_pay69 d) (k0_pay70 r) a.1
    (k0_pay85 v) (d11 q n) (d12 q n) (d13 q n) (d14 q n) (d15 q n) (d16 q n)
/-- A value of the block, as the kernel computes it. -/
def d22 (q : Vec F S512x64 .f32) (d : Vec F S1x1x512x64 .f32) (r : Vec F S1x1x512x1 .f32) (n : Vec F S512x64 .f32) (v
    : Vec F S1x1x512x64 .f32) (a : Carry F) := k0_pay110 (k0_pay124 (F := F)) k0_pay125 a.2.1 (d11 q n) (d18 q d r n
    v a) (d19 q d r n v a) (d20 q d r n v a) (d21 q d r n v a)
/-- The query rows' gradient after the diagonal block. -/
def diagQ (q : Vec F S512x64 .f32) (d : Vec F S1x1x512x64 .f32) (r : Vec F S1x1x512x1 .f32) (n : Vec F S512x64 .f32)
    (v : Vec F S1x1x512x64 .f32) (a : Carry F) : Vec F S512x64 .f32 := k0_pay127 a.2.2 n (d22 q d r n v a)
/-- The key rows' gradient after the diagonal block, `o` the rows before. -/
def diagK (q : Vec F S512x64 .f32) (d : Vec F S1x1x512x64 .f32) (r : Vec F S1x1x512x1 .f32) (n : Vec F S512x64 .f32)
    (v : Vec F S1x1x512x64 .f32) (a : Carry F) (o : Vec F S512x64 .f32) : Vec F S512x64 .f32 := k0_pay111 (k0_pay124
    (F := F)) k0_pay125 q a.2.1 (d11 q n) (d18 q d r n v a) (d19 q d r n v a) (d20 q d r n v a) (d21 q d r n v a) o
/-- The value rows' gradient after the diagonal block, `o` the rows before. -/
def diagV (q : Vec F S512x64 .f32) (d : Vec F S1x1x512x64 .f32) (r : Vec F S1x1x512x1 .f32) (n : Vec F S512x64 .f32)
    (v : Vec F S1x1x512x64 .f32) (a : Carry F) (o : Vec F S512x64 .f32) : Vec F S512x64 .f32 := k0_pay126 (k0_pay69
    d) (d17 q r n a) o

/-- The first `k` query blocks: the three scratch gradients. -/
def blocks (qn kn : Vec F S2048x64 .f32) (v d : Vec F S1x1x2048x64 .f32) (r : Vec F S1x1x2048x1 .f32)
    (Z A B : Vec F S2048x64 .f32) : ℕ → Vec F S2048x64 .f32 × Vec F S2048x64 .f32 × Vec F S2048x64 .f32
  | 0 => (Z, A, B)
  | k + 1 =>
    let s := blocks qn kn v d r Z A B k
    let t := below (rows k qn) (rows4 k d) (rows1 k r) kn v s.2.1 s.2.2 k
    (put k (diagQ (rows k qn) (rows4 k d) (rows1 k r) (rows k kn) (rows4 k v) t.1) s.1,
      put k (diagK (rows k qn) (rows4 k d) (rows1 k r) (rows k kn) (rows4 k v) t.1 (rows k t.2.1)) t.2.1,
      put k (diagV (rows k qn) (rows4 k d) (rows1 k r) (rows k kn) (rows4 k v) t.1 (rows k t.2.2)) t.2.2)

/-- The key and value gradients do not depend on what the query gradient's buffer held, nor does the query gradient on
    the rows of the blocks done. -/
theorem blocks_indep (qn kn : Vec F S2048x64 .f32) (v d : Vec F S1x1x2048x64 .f32) (r : Vec F S1x1x2048x1 .f32)
    (Z Z' A B : Vec F S2048x64 .f32) (k : ℕ) :
    (blocks qn kn v d r Z A B k).2 = (blocks qn kn v d r Z' A B k).2 ∧
      ∀ y, (y 0).val / 512 < k → (blocks qn kn v d r Z A B k).1 y = (blocks qn kn v d r Z' A B k).1 y := by
  induction k with
  | zero => exact ⟨rfl, fun y h => absurd h (Nat.not_lt_zero _)⟩
  | succ k ih =>
    obtain ⟨h2, h1⟩ := ih
    constructor
    · simp only [blocks, h2]
    · intro y hy
      simp only [blocks, h2, put]
      by_cases hk : (y 0).val / 512 = k
      · rw [if_pos hk, if_pos hk]
      · rw [if_neg hk, if_neg hk]; exact h1 y (by omega)

/-- The three scratch gradients after all four query blocks, as functions of the arrays. -/
def final (x0 x1 x2 : Vec F S1x1x2048x64 .f32) (x3 : Vec F S1x1x2048x1 .f32) (x4 : Vec F S1x1x2048x64 .f32)
    (x5 x6 : Vec F S1x64 .f32) : Vec F S2048x64 .f32 × Vec F S2048x64 .f32 × Vec F S2048x64 .f32 :=
  blocks (k0_pay119 x0 x5) (k0_pay120 (k0_pay118 x1 x6)) x2 x4 x3 k0_pay121 k0_pay121 k0_pay122 4

/-- The same from any first contents of the query gradient's buffer. -/
theorem blocks_final (x0 x1 x2 : Vec F S1x1x2048x64 .f32) (x3 : Vec F S1x1x2048x1 .f32) (x4 : Vec F S1x1x2048x64 .f32)
    (x5 x6 : Vec F S1x64 .f32) (Z : Vec F S2048x64 .f32) :
    blocks (k0_pay119 x0 x5) (k0_pay120 (k0_pay118 x1 x6)) x2 x4 x3 Z k0_pay121 k0_pay122 4 = final x0 x1 x2 x3 x4 x5
    x6 := by
  obtain ⟨h2, h1⟩ := blocks_indep (k0_pay119 x0 x5) (k0_pay120 (k0_pay118 x1 x6)) x2 x4 x3 Z k0_pay121 k0_pay121
    k0_pay122 4
  refine Prod.ext (funext fun y => h1 y ?_) h2
  have := (y 0).isLt
  have e : S2048x64.size 0 = 2048 := rfl
  omega

/-- The gradient of one head's queries. -/
def out7 (x0 x1 x2 : Vec F S1x1x2048x64 .f32) (x3 : Vec F S1x1x2048x1 .f32) (x4 : Vec F S1x1x2048x64 .f32) (x5 x6 :
    Vec F S1x64 .f32) : Vec F S1x1x2048x64 .f32 := k0_pay131 (k0_pay113 x0) (k0_pay114 x0) (final x0 x1 x2 x3 x4 x5
    x6).1 x5
/-- The gradient of one head's keys. -/
def out8 (x0 x1 x2 : Vec F S1x1x2048x64 .f32) (x3 : Vec F S1x1x2048x1 .f32) (x4 : Vec F S1x1x2048x64 .f32) (x5 x6 :
    Vec F S1x64 .f32) : Vec F S1x1x2048x64 .f32 := k0_pay1 (k0_pay116 x1) (k0_pay133 (k0_pay117 x1) (final x0 x1 x2
    x3 x4 x5 x6).2.1 x6)
/-- The gradient of one head's values. -/
def out9 (x0 x1 x2 : Vec F S1x1x2048x64 .f32) (x3 : Vec F S1x1x2048x1 .f32) (x4 : Vec F S1x1x2048x64 .f32) (x5 x6 :
    Vec F S1x64 .f32) : Vec F S1x1x2048x64 .f32 := k0_pay2 (final x0 x1 x2 x3 x4 x5 x6).2.2
/-- The gradient of the queries' gain after one more head, `y` the one before. -/
def out10 (x0 x1 x2 : Vec F S1x1x2048x64 .f32) (x3 : Vec F S1x1x2048x1 .f32) (x4 : Vec F S1x1x2048x64 .f32) (x5 x6 :
    Vec F S1x64 .f32) (y : Vec F S1x64 .f32) : Vec F S1x64 .f32 := k0_pay130 (k0_pay114 x0) (final x0 x1 x2 x3 x4 x5
    x6).1 y
/-- The gradient of the keys' gain after one more head, `y` the one before. -/
def out11 (x0 x1 x2 : Vec F S1x1x2048x64 .f32) (x3 : Vec F S1x1x2048x1 .f32) (x4 : Vec F S1x1x2048x64 .f32) (x5 x6 :
    Vec F S1x64 .f32) (y : Vec F S1x64 .f32) : Vec F S1x64 .f32 := k0_pay132 (k0_pay117 x1) (final x0 x1 x2 x3 x4 x5
    x6).2.1 y

end Cert.Proof.Model

end
-- ==== Proof.Read.lean ====
/-
  What the outer loop leaves in the three scratch gradients, read as arrays: the recursion of the model.
-/
module

public import proofs.«01_k».proof.Proof.Outer
public import proofs.«01_k».proof.Proof.Model
public import Idealize.ShloMosaic.Lib.WritesUnit

@[expose] public section

set_option maxRecDepth 16384

noncomputable section

namespace Cert.Proof.Read

open Cert.KernelIdeal Cert.KernelIdeal.Gen Cert.Proof.Model Cert.Proof.Outer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

/-- A load of block `k` of rows reads those rows. -/
theorem readAt_rows (M : Memref sig .tc .vmem S2048x64 .f32) (f : BufTy.Contents (Elt F) M.view.ty) {off : Fin 2 → ℕ}
    (k : ℕ) (hk : k < 4) (hoff : off = ![512 * k, 0]) (inb : ∀ a, off a + S512x64.size a ≤ S2048x64.size a) :
    M.view.readAt (Elt F) (Rect.unit (s := S2048x64) off S512x64.size inb).toLoadRect f = rows k (M.view.read (Elt F) f) := by
  subst hoff
  funext j
  refine congrArg (M.view.read (Elt F) f) (funext fun a => Fin.ext ?_)
  have hj : (j 0).val < 512 := (j 0).isLt
  fin_cases a
  · show 512 * k + 1 * (j 0).val = (512 * k + (j 0).val) % 2048
    rw [Nat.mod_eq_of_lt (by omega)]; omega
  · show 0 + 1 * (j 1).val = (j 1).val
    omega

/-- A load of block `k` of rows of a head's array reads those rows. -/
theorem readAt_rows4 (M : Memref sig .tc .vmem S1x1x2048x64 .f32) (f : BufTy.Contents (Elt F) M.view.ty) {off : Fin 4 → ℕ}
    (k : ℕ) (hk : k < 4) (hoff : off = ![0, 0, 512 * k, 0]) (inb : ∀ a, off a + S1x1x512x64.size a ≤ S1x1x2048x64.size a) :
    M.view.readAt (Elt F) (Rect.unit (s := S1x1x2048x64) off S1x1x512x64.size inb).toLoadRect f
      = rows4 k (M.view.read (Elt F) f) := by
  subst hoff
  funext j
  refine congrArg (M.view.read (Elt F) f) (funext fun a => Fin.ext ?_)
  have hj : (j 2).val < 512 := (j 2).isLt
  have h0 : (j 0).val < 1 := (j 0).isLt
  have h1 : (j 1).val < 1 := (j 1).isLt
  fin_cases a
  · show 0 + 1 * (j 0).val = 0
    omega
  · show 0 + 1 * (j 1).val = 0
    omega
  · show 512 * k + 1 * (j 2).val = (512 * k + (j 2).val) % 2048
    rw [Nat.mod_eq_of_lt (by omega)]; omega
  · show 0 + 1 * (j 3).val = (j 3).val
    omega

/-- A load of block `k` of rows of a head's column reads those rows. -/
theorem readAt_rows1 (M : Memref sig .tc .vmem S1x1x2048x1 .f32) (f : BufTy.Contents (Elt F) M.view.ty) {off : Fin 4 → ℕ}
    (k : ℕ) (hk : k < 4) (hoff : off = ![0, 0, 512 * k, 0]) (inb : ∀ a, off a + S1x1x512x1.size a ≤ S1x1x2048x1.size a) :
    M.view.readAt (Elt F) (Rect.unit (s := S1x1x2048x1) off S1x1x512x1.size inb).toLoadRect f
      = rows1 k (M.view.read (Elt F) f) := by
  subst hoff
  funext j
  refine congrArg (M.view.read (Elt F) f) (funext fun a => Fin.ext ?_)
  have hj : (j 2).val < 512 := (j 2).isLt
  have h0 : (j 0).val < 1 := (j 0).isLt
  have h1 : (j 1).val < 1 := (j 1).isLt
  fin_cases a
  · show 0 + 1 * (j 0).val = 0
    omega
  · show 0 + 1 * (j 1).val = 0
    omega
  · show 512 * k + 1 * (j 2).val = (512 * k + (j 2).val) % 2048
    rw [Nat.mod_eq_of_lt (by omega)]; omega
  · show 0 + 1 * (j 3).val = (j 3).val
    omega

/-- A store of block `k` of rows replaces those rows. -/
theorem read_put (M : Memref sig .tc .vmem S2048x64 .f32) (f : BufTy.Contents (Elt F) M.view.ty) {off : Fin 2 → ℕ}
    (k : ℕ) (hoff : off = ![512 * k, 0]) (inb : ∀ a, off a + S512x64.size a ≤ S2048x64.size a)
    (w : S512x64.Idx → Elt F .f32) (L : Pieces F) :
    M.view.read (Elt F) (M.view.writes (Elt F) f ((⟨Rect.unit (s := S2048x64) off S512x64.size inb, w⟩ :
      View.Piece (Elt F) S2048x64 .f32) :: L)) = put k w (M.view.read (Elt F) (M.view.writes (Elt F) f L)) := by
  funext y
  unfold put
  by_cases h : (y 0).val / 512 = k
  · rw [if_pos h]
    refine View.read_writes_cons_rows_of_mem M.view f inb w L y _ hoff ?_ ?_
    · show (y 0).val = 512 * k + (y 0).val % 512
      omega
    · rfl
  · rw [if_neg h]
    refine View.read_writes_cons_rows_of_not_mem M.view f inb w L y hoff (W := 512) rfl ?_
    omega

/-- The offset of a query block's rows. -/
theorem off1 : ∀ t : Fin k0_t1_loop.trips, k0_off1 t = ![512 * t.val, 0] := by decide +kernel
/-- The offset of a query block's rows in a head's array. -/
theorem off2 : ∀ t : Fin k0_t1_loop.trips, k0_off2 t = ![0, 0, 512 * t.val, 0] := by decide +kernel
/-- The offset of a query block's rows in a head's column. -/
theorem off3 : ∀ t : Fin k0_t1_loop.trips, k0_off3 t = ![0, 0, 512 * t.val, 0] := by decide +kernel
/-- The offset of a key block's rows. -/
theorem off4 : ∀ (t : Fin k0_t1_loop.trips) (j : Fin (k0_t2_loop t).trips), k0_off4 t j = ![512 * j.val, 0] := by
  decide +kernel
/-- The offset of a key block's rows in a head's array. -/
theorem off5 : ∀ (t : Fin k0_t1_loop.trips) (j : Fin (k0_t2_loop t).trips), k0_off5 t j = ![0, 0, 512 * j.val, 0] := by
  decide +kernel
/-- There are four query blocks. -/
theorem trips1 : k0_t1_loop.trips = 4 := by decide +kernel
/-- A query block is met by the key blocks before it, -/
theorem trips2 : ∀ t : Fin k0_t1_loop.trips, (k0_t2_loop t).trips = t.val := by decide +kernel
/-- and by no others. -/
theorem trips3 : ∀ t : Fin k0_t1_loop.trips, Scf.trips (k0_t3_loop t).lb (k0_t3_loop t).ub (k0_t3_loop t).st = 0 := by
  decide +kernel

variable (c : Dev nD) (i : grid0.Coords) (arg2 : Memref sig .tc .vmem S1x1x2048x64 .f32) (harg2 : arg2.IsWhole)
  (arg3 : Memref sig .tc .vmem S1x1x2048x64 .f32) (harg3 : arg3.IsWhole) (arg4 : Memref sig .tc .vmem S1x1x2048x64
  .f32) (harg4 : arg4.IsWhole) (arg5 : Memref sig .tc .vmem S1x1x2048x1 .f32) (harg5 : arg5.IsWhole) (arg6 : Memref
  sig .tc .vmem S1x1x2048x64 .f32) (harg6 : arg6.IsWhole) (arg7 : Memref sig .tc .vmem S1x64 .f32) (harg7 :
  arg7.IsWhole) (arg8 : Memref sig .tc .vmem S1x64 .f32) (harg8 : arg8.IsWhole) (arg9 : Memref sig .tc .vmem
  S1x1x2048x64 .f32) (harg9 : arg9.IsWhole) (arg10 : Memref sig .tc .vmem S1x1x2048x64 .f32) (harg10 :
  arg10.IsWhole) (arg11 : Memref sig .tc .vmem S1x1x2048x64 .f32) (harg11 : arg11.IsWhole) (arg12 : Memref sig .tc
  .vmem S1x64 .f32) (harg12 : arg12.IsWhole) (arg13 : Memref sig .tc .vmem S1x64 .f32) (harg13 : arg13.IsWhole)
  (arg14 : Memref sig .tc .vmem S2048x64 .f32) (harg14 : arg14.IsWhole) (arg15 : Memref sig .tc .vmem S2048x64
  .f32) (harg15 : arg15.IsWhole) (arg16 : Memref sig .tc .vmem S2048x64 .f32) (harg16 : arg16.IsWhole) (arg17 :
  Memref sig .tc .vmem S2048x64 .f32) (harg17 : arg17.IsWhole) (arg18 : Memref sig .tc .vmem S2048x64 .f32) (harg18
  : arg18.IsWhole)

section Inner

variable (t : Fin k0_t1_loop.trips) (q : Vec F S512x64 .f32) (d : Vec F S1x1x512x64 .f32) (r : Vec F S1x1x512x1 .f32)
  (X4 : BufTy.Contents (Elt F) arg4.view.ty) (X15 : BufTy.Contents (Elt F) arg15.view.ty)

/-- One trip below the diagonal carries what the model carries. -/
theorem trip2_carry (j : Fin (k0_t2_loop t).trips) (a : Carry F) (f17 : BufTy.Contents (Elt F) arg17.view.ty)
    (f18 : BufTy.Contents (Elt F) arg18.view.ty) :
    (trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 j).1 a f17 f18
      = belowCarry q d r (rows j.val (arg15.view.read (Elt F) X15)) (rows4 j.val (arg4.view.read (Elt F) X4)) a := by
  have hj : j.val < 4 := by have := trips2 t; have := t.isLt; have := trips1; omega
  rw [← readAt_rows arg15 X15 j.val hj (off4 t j) (k0_off4_inb t j), ← readAt_rows4 arg4 X4 j.val hj (off5 t j) (k0_off5_inb t j)]
  unfold trip_k0_t2
  rfl

/-- One trip below the diagonal stores what the model stores in the key gradient. -/
theorem trip2_key (j : Fin (k0_t2_loop t).trips) (a : Carry F) (f17 : BufTy.Contents (Elt F) arg17.view.ty)
    (f18 : BufTy.Contents (Elt F) arg18.view.ty) (G : BufTy.Contents (Elt F) arg17.view.ty) (L : Pieces F) :
    arg17.view.read (Elt F) (arg17.view.writes (Elt F) G ((trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 j).2.1 a f17 f18 ++ L))
      = put j.val (belowK q d r (rows j.val (arg15.view.read (Elt F) X15)) (rows4 j.val (arg4.view.read (Elt F) X4)) a
          (rows j.val (arg17.view.read (Elt F) f17))) (arg17.view.read (Elt F) (arg17.view.writes (Elt F) G L)) := by
  have hj : j.val < 4 := by have := trips2 t; have := t.isLt; have := trips1; omega
  rw [← readAt_rows arg15 X15 j.val hj (off4 t j) (k0_off4_inb t j), ← readAt_rows4 arg4 X4 j.val hj (off5 t j) (k0_off5_inb t j),
    ← readAt_rows arg17 f17 j.val hj (off4 t j) (k0_off4_inb t j), ← read_put arg17 G j.val (off4 t j) (k0_off4_inb t j)]
  unfold trip_k0_t2
  rfl

/-- One trip below the diagonal stores what the model stores in the value gradient. -/
theorem trip2_value (j : Fin (k0_t2_loop t).trips) (a : Carry F) (f17 : BufTy.Contents (Elt F) arg17.view.ty)
    (f18 : BufTy.Contents (Elt F) arg18.view.ty) (G : BufTy.Contents (Elt F) arg18.view.ty) (L : Pieces F) :
    arg18.view.read (Elt F) (arg18.view.writes (Elt F) G ((trip_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 j).2.2.1 a f17 f18 ++ L))
      = put j.val (belowV q d r (rows j.val (arg15.view.read (Elt F) X15)) (rows4 j.val (arg4.view.read (Elt F) X4)) a
          (rows j.val (arg18.view.read (Elt F) f18))) (arg18.view.read (Elt F) (arg18.view.writes (Elt F) G L)) := by
  have hj : j.val < 4 := by have := trips2 t; have := t.isLt; have := trips1; omega
  rw [← readAt_rows arg15 X15 j.val hj (off4 t j) (k0_off4_inb t j), ← readAt_rows4 arg4 X4 j.val hj (off5 t j) (k0_off5_inb t j),
    ← readAt_rows arg18 f18 j.val hj (off4 t j) (k0_off4_inb t j), ← read_put arg18 G j.val (off4 t j) (k0_off4_inb t j)]
  unfold trip_k0_t2
  rfl

/-- The loop over the key blocks leaves what the model's recursion says. -/
theorem loop2 (f17 : BufTy.Contents (Elt F) arg17.view.ty) (f18 : BufTy.Contents (Elt F) arg18.view.ty) (j : ℕ)
    (hj : j ≤ (k0_t2_loop t).trips) :
    (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 f17 f18 start j).1
        = (below q d r (arg15.view.read (Elt F) X15) (arg4.view.read (Elt F) X4) (arg17.view.read (Elt F) f17)
            (arg18.view.read (Elt F) f18) j).1
      ∧ arg17.view.read (Elt F) (arg17.view.writes (Elt F) f17 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 f17 f18 start j).2.1)
        = (below q d r (arg15.view.read (Elt F) X15) (arg4.view.read (Elt F) X4) (arg17.view.read (Elt F) f17)
            (arg18.view.read (Elt F) f18) j).2.1
      ∧ arg18.view.read (Elt F) (arg18.view.writes (Elt F) f18 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 f17 f18 start j).2.2)
        = (below q d r (arg15.view.read (Elt F) X15) (arg4.view.read (Elt F) X4) (arg17.view.read (Elt F) f17)
            (arg18.view.read (Elt F) f18) j).2.2 := by
  induction j with
  | zero => exact ⟨rfl, rfl, rfl⟩
  | succ j ih =>
    obtain ⟨h1, h2, h3⟩ := ih (by omega)
    have e := st_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t q d r X4 X15 f17 f18 start ⟨j, by omega⟩
    rw [e]
    refine ⟨?_, ?_, ?_⟩
    · refine (trip2_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t q d r X4 X15 ⟨j, by omega⟩ _ _ _).trans ?_
      rw [h1]; rfl
    · refine (trip2_key c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t q d r X4 X15 ⟨j, by omega⟩ _ _ _ _ _).trans ?_
      rw [h1, h2]; rfl
    · refine (trip2_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 t q d r X4 X15 ⟨j, by omega⟩ _ _ _ _ _).trans ?_
      rw [h1, h3]; rfl

end Inner

variable (arg0 arg1 : BitVec 32) (v11 v29 : FVec F S2048x64 .f32)
variable (X4 : BufTy.Contents (Elt F) arg4.view.ty) (X5 : BufTy.Contents (Elt F) arg5.view.ty) (X6 :
  BufTy.Contents (Elt F) arg6.view.ty) (X14 : BufTy.Contents (Elt F) arg14.view.ty) (X15 : BufTy.Contents (Elt F)
  arg15.view.ty)

/-- The loop over the key blocks of query block `t`, all its trips. -/
abbrev inner (t : Fin k0_t1_loop.trips) (f17 : BufTy.Contents (Elt F) arg17.view.ty)
    (f18 : BufTy.Contents (Elt F) arg18.view.ty) (n : ℕ) : Carry F × Pieces F × Pieces F :=
  st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t
    (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) X4 X15 f17 f18 start n

/-- The loop over the key blocks the mask cuts besides the diagonal one, of which there are none. -/
abbrev inner' (t : Fin k0_t1_loop.trips) (b : BitVec 32) (f17 : BufTy.Contents (Elt F) arg17.view.ty)
    (f18 : BufTy.Contents (Elt F) arg18.view.ty) (n m : ℕ) : Carry F × Pieces F × Pieces F :=
  st_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F)) (k0_pay124 (F := F)) 0#32 1#32 t
    (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) b X4 X15 (arg17.view.writes (Elt F) f17 (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 n).2.1)
    (arg18.view.writes (Elt F) f18 (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 n).2.2) (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 n).1 m

/-- What one query block writes to the query gradient. -/
theorem trip_q (t : Fin k0_t1_loop.trips) (f16 : BufTy.Contents (Elt F) arg16.view.ty) (f17 : BufTy.Contents (Elt F) arg17.view.ty) (f18 : BufTy.Contents (Elt F) arg18.view.ty) :
    (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 t).1 f16 f17 f18 = [⟨Rect.unit (s := S2048x64) (k0_off1 t) S512x64.size (k0_off1_inb t),
      diagQ (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).1⟩] := by
  have e2 := trips2 t
  have e3 := trips3 t
  unfold trip
  show ([⟨Rect.unit (s := S2048x64) (k0_off1 t) S512x64.size (k0_off1_inb t),
      diagQ (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
        (Scf.trips (k0_t3_loop t).lb (k0_t3_loop t).ub (k0_t3_loop t).st)).1⟩] : Pieces F) = _
  rw [e3, e2]
  rfl

/-- What one query block writes to the key gradient. -/
theorem trip_k (t : Fin k0_t1_loop.trips) (f16 : BufTy.Contents (Elt F) arg16.view.ty) (f17 : BufTy.Contents (Elt F) arg17.view.ty) (f18 : BufTy.Contents (Elt F) arg18.view.ty) :
    (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 t).2.1 f16 f17 f18 = ⟨Rect.unit (s := S2048x64) (k0_off1 t) S512x64.size (k0_off1_inb t),
      diagK (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).1
        (arg17.view.readAt (Elt F) (Rect.unit (s := S2048x64) (k0_off1 t) S512x64.size (k0_off1_inb t)).toLoadRect
          (arg17.view.writes (Elt F) f17 (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).2.1))⟩ :: (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).2.1 := by
  have e2 := trips2 t
  have e3 := trips3 t
  unfold trip
  show ((⟨Rect.unit (s := S2048x64) (k0_off1 t) S512x64.size (k0_off1_inb t),
      diagK (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
          (Scf.trips (k0_t3_loop t).lb (k0_t3_loop t).ub (k0_t3_loop t).st)).1
        (arg17.view.readAt (Elt F) (Rect.unit (s := S2048x64) (k0_off1 t) S512x64.size (k0_off1_inb t)).toLoadRect
          (arg17.view.writes (Elt F) f17 ((inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
            (Scf.trips (k0_t3_loop t).lb (k0_t3_loop t).ub (k0_t3_loop t).st)).2.1
              ++ (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 (k0_t2_loop t).trips).2.1)))⟩ :: ((inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
            (Scf.trips (k0_t3_loop t).lb (k0_t3_loop t).ub (k0_t3_loop t).st)).2.1
              ++ (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 (k0_t2_loop t).trips).2.1)) : Pieces F) = _
  rw [e3, e2]
  rfl

/-- What one query block writes to the value gradient. -/
theorem trip_v (t : Fin k0_t1_loop.trips) (f16 : BufTy.Contents (Elt F) arg16.view.ty) (f17 : BufTy.Contents (Elt F) arg17.view.ty) (f18 : BufTy.Contents (Elt F) arg18.view.ty) :
    (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 t).2.2.1 f16 f17 f18 = ⟨Rect.unit (s := S2048x64) (k0_off1 t) S512x64.size (k0_off1_inb t),
      diagV (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).1
        (arg18.view.readAt (Elt F) (Rect.unit (s := S2048x64) (k0_off1 t) S512x64.size (k0_off1_inb t)).toLoadRect
          (arg18.view.writes (Elt F) f18 (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).2.2))⟩ :: (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 t.val).2.2 := by
  have e2 := trips2 t
  have e3 := trips3 t
  unfold trip
  show ((⟨Rect.unit (s := S2048x64) (k0_off1 t) S512x64.size (k0_off1_inb t),
      diagV (arg14.view.readAt (Elt F) (Rect.unit (s := S2048x64) (k0_off1 t) S512x64.size (k0_off1_inb t)).toLoadRect X14) (arg6.view.readAt (Elt F) (Rect.unit (s := S1x1x2048x64) (k0_off2 t) S1x1x512x64.size (k0_off2_inb t)).toLoadRect X6) (arg5.view.readAt (Elt F) (Rect.unit (s := S1x1x2048x1) (k0_off3 t) S1x1x512x1.size (k0_off3_inb t)).toLoadRect X5) (arg15.view.readAt (Elt F) (Rect.unit (s := S2048x64) (k0_off1 t) S512x64.size (k0_off1_inb t)).toLoadRect X15) (arg4.view.readAt (Elt F) (Rect.unit (s := S1x1x2048x64) (k0_off2 t) S1x1x512x64.size (k0_off2_inb t)).toLoadRect X4) (inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
          (Scf.trips (k0_t3_loop t).lb (k0_t3_loop t).ub (k0_t3_loop t).st)).1
        (arg18.view.readAt (Elt F) (Rect.unit (s := S2048x64) (k0_off1 t) S512x64.size (k0_off1_inb t)).toLoadRect
          (arg18.view.writes (Elt F) f18 ((inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
            (Scf.trips (k0_t3_loop t).lb (k0_t3_loop t).ub (k0_t3_loop t).st)).2.2
              ++ (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 (k0_t2_loop t).trips).2.2)))⟩ :: ((inner' (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t _ f17 f18 (k0_t2_loop t).trips
            (Scf.trips (k0_t3_loop t).lb (k0_t3_loop t).ub (k0_t3_loop t).st)).2.2
              ++ (inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 t f17 f18 (k0_t2_loop t).trips).2.2)) : Pieces F) = _
  rw [e3, e2]
  rfl

/-- The scratch gradients after the first `k` query blocks are the model's. -/
theorem pb_read (f16 : BufTy.Contents (Elt F) arg16.view.ty) (f17 : BufTy.Contents (Elt F) arg17.view.ty) (f18 : BufTy.Contents (Elt F) arg18.view.ty) (k : ℕ) (hk : k ≤ 4) :
    arg16.view.read (Elt F) (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).1) = (blocks (arg14.view.read (Elt F) X14) (arg15.view.read (Elt F) X15) (arg4.view.read (Elt F) X4) (arg6.view.read (Elt F) X6) (arg5.view.read (Elt F) X5) (arg16.view.read (Elt F) f16) (arg17.view.read (Elt F) f17) (arg18.view.read (Elt F) f18) k).1
      ∧ arg17.view.read (Elt F) (arg17.view.writes (Elt F) f17 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).2.1) = (blocks (arg14.view.read (Elt F) X14) (arg15.view.read (Elt F) X15) (arg4.view.read (Elt F) X4) (arg6.view.read (Elt F) X6) (arg5.view.read (Elt F) X5) (arg16.view.read (Elt F) f16) (arg17.view.read (Elt F) f17) (arg18.view.read (Elt F) f18) k).2.1
      ∧ arg18.view.read (Elt F) (arg18.view.writes (Elt F) f18 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).2.2) = (blocks (arg14.view.read (Elt F) X14) (arg15.view.read (Elt F) X15) (arg4.view.read (Elt F) X4) (arg6.view.read (Elt F) X6) (arg5.view.read (Elt F) X5) (arg16.view.read (Elt F) f16) (arg17.view.read (Elt F) f17) (arg18.view.read (Elt F) f18) k).2.2 := by
  induction k with
  | zero => exact ⟨rfl, rfl, rfl⟩
  | succ k ih =>
    obtain ⟨h1, h2, h3⟩ := ih (by omega)
    have ht : k < k0_t1_loop.trips := by rw [trips1]; omega
    rw [pb_succ (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 ⟨k, ht⟩]
    dsimp only
    rw [View.writes_append, View.writes_append, View.writes_append]
    generalize arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).1 = g16 at h1 ⊢
    generalize arg17.view.writes (Elt F) f17 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).2.1 = g17 at h2 ⊢
    generalize arg18.view.writes (Elt F) f18 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 v11 v29 X4 X5 X6 X14 X15 f16 f17 f18 k).2.2 = g18 at h3 ⊢
    obtain ⟨l1, l2, l3⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 ⟨k, ht⟩ (rows k (arg14.view.read (Elt F) X14)) (rows4 k (arg6.view.read (Elt F) X6)) (rows1 k (arg5.view.read (Elt F) X5)) X4 X15 g17 g18 k (le_of_eq (trips2 ⟨k, ht⟩).symm)
    rw [h2, h3] at l1 l2 l3
    have e : inner (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X5 X6 X14 X15 ⟨k, ht⟩ g17 g18 k = st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay123 (F := F))
        (k0_pay124 (F := F)) 0#32 1#32 ⟨k, ht⟩ (rows k (arg14.view.read (Elt F) X14)) (rows4 k (arg6.view.read (Elt F) X6)) (rows1 k (arg5.view.read (Elt F) X5)) X4 X15 g17 g18 start k := by
      unfold inner
      rw [readAt_rows arg14 X14 k (by omega) (off1 ⟨k, ht⟩) (k0_off1_inb ⟨k, ht⟩),
      readAt_rows4 arg6 X6 k (by omega) (off2 ⟨k, ht⟩) (k0_off2_inb ⟨k, ht⟩),
      readAt_rows1 arg5 X5 k (by omega) (off3 ⟨k, ht⟩) (k0_off3_inb ⟨k, ht⟩)]
    rw [← e] at l1 l2 l3
    clear e
    rw [trip_q, trip_k, trip_v]
    rw [readAt_rows arg14 X14 k (by omega) (off1 ⟨k, ht⟩) (k0_off1_inb ⟨k, ht⟩),
      readAt_rows arg15 X15 k (by omega) (off1 ⟨k, ht⟩) (k0_off1_inb ⟨k, ht⟩),
      readAt_rows4 arg6 X6 k (by omega) (off2 ⟨k, ht⟩) (k0_off2_inb ⟨k, ht⟩),
      readAt_rows4 arg4 X4 k (by omega) (off2 ⟨k, ht⟩) (k0_off2_inb ⟨k, ht⟩),
      readAt_rows1 arg5 X5 k (by omega) (off3 ⟨k, ht⟩) (k0_off3_inb ⟨k, ht⟩),
      readAt_rows arg17 _ k (by omega) (off1 ⟨k, ht⟩) (k0_off1_inb ⟨k, ht⟩),
      readAt_rows arg18 _ k (by omega) (off1 ⟨k, ht⟩) (k0_off1_inb ⟨k, ht⟩)]
    refine ⟨?_, ?_, ?_⟩
    · rw [read_put arg16 g16 k (off1 ⟨k, ht⟩) (k0_off1_inb ⟨k, ht⟩), l1]
      show put k _ (arg16.view.read (Elt F) g16) = _
      rw [h1]; rfl
    · rw [read_put arg17 g17 k (off1 ⟨k, ht⟩) (k0_off1_inb ⟨k, ht⟩), l1, l2]
      rfl
    · rw [read_put arg18 g18 k (off1 ⟨k, ht⟩) (k0_off1_inb ⟨k, ht⟩), l1, l3]
      rfl

end Cert.Proof.Read

end
-- ==== Proof.Stored.lean ====
/-
  What the body stores in its five outputs at one grid point, as functions of the arrays it reads: the model's values.
-/
module

public import proofs.«01_k».proof.Proof.Body
public import proofs.«01_k».proof.Proof.Read
public import Idealize.ShloMosaic.Lib.VecWindow

@[expose] public section

set_option maxRecDepth 16384

noncomputable section

namespace Cert.Proof.Stored

open Cert.KernelIdeal Cert.KernelIdeal.Gen Cert.Proof.Model Cert.Proof.Outer Cert.Proof.Body Cert.Proof.Read
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

variable (c : Dev nD) (i : grid0.Coords) (arg2 : Memref sig .tc .vmem S1x1x2048x64 .f32) (harg2 : arg2.IsWhole)
  (arg3 : Memref sig .tc .vmem S1x1x2048x64 .f32) (harg3 : arg3.IsWhole) (arg4 : Memref sig .tc .vmem S1x1x2048x64
  .f32) (harg4 : arg4.IsWhole) (arg5 : Memref sig .tc .vmem S1x1x2048x1 .f32) (harg5 : arg5.IsWhole) (arg6 : Memref
  sig .tc .vmem S1x1x2048x64 .f32) (harg6 : arg6.IsWhole) (arg7 : Memref sig .tc .vmem S1x64 .f32) (harg7 :
  arg7.IsWhole) (arg8 : Memref sig .tc .vmem S1x64 .f32) (harg8 : arg8.IsWhole) (arg9 : Memref sig .tc .vmem
  S1x1x2048x64 .f32) (harg9 : arg9.IsWhole) (arg10 : Memref sig .tc .vmem S1x1x2048x64 .f32) (harg10 :
  arg10.IsWhole) (arg11 : Memref sig .tc .vmem S1x1x2048x64 .f32) (harg11 : arg11.IsWhole) (arg12 : Memref sig .tc
  .vmem S1x64 .f32) (harg12 : arg12.IsWhole) (arg13 : Memref sig .tc .vmem S1x64 .f32) (harg13 : arg13.IsWhole)
  (arg14 : Memref sig .tc .vmem S2048x64 .f32) (harg14 : arg14.IsWhole) (arg15 : Memref sig .tc .vmem S2048x64
  .f32) (harg15 : arg15.IsWhole) (arg16 : Memref sig .tc .vmem S2048x64 .f32) (harg16 : arg16.IsWhole) (arg17 :
  Memref sig .tc .vmem S2048x64 .f32) (harg17 : arg17.IsWhole) (arg18 : Memref sig .tc .vmem S2048x64 .f32) (harg18
  : arg18.IsWhole) (x0 x1 x2 : Vec F S1x1x2048x64 .f32) (x3 : Vec F S1x1x2048x1 .f32) (x4 : Vec F S1x1x2048x64
  .f32) (x5 x6 : Vec F S1x64 .f32)

/-- A load of a whole head's array held at `x` reads `x`. -/
theorem ld4 (M : Memref sig .tc .vmem S1x1x2048x64 .f32) (hM : M.IsWhole) (x : Vec F S1x1x2048x64 .f32) :
    M.view.readAt (Elt F) (Rect.unit (s := S1x1x2048x64) ![0, 0, 0, 0] S1x1x2048x64.size inb_S1x1x2048x64_S1x1x2048x64_0_0_0_0).toLoadRect (hM.unread x) = x :=
  (View.readAt_full _ _ _).trans (hM.read_unread _)

/-- A load of a whole gain held at `x` reads `x`. -/
theorem ld1 (M : Memref sig .tc .vmem S1x64 .f32) (hM : M.IsWhole) (x : Vec F S1x64 .f32) :
    M.view.readAt (Elt F) (Rect.unit (s := S1x64) ![0, 0] S1x64.size inb_S1x64_S1x64_0_0).toLoadRect (hM.unread x) = x :=
  (View.readAt_full _ _ _).trans (hM.read_unread _)

/-- What the three scratch gradients hold after the outer loop: the model's, of the arrays read. -/
theorem scratch (f16 : BufTy.Contents (Elt F) arg16.view.ty) (n : ℕ) (hn : n = 4) :
    (arg16.view.readAt (Elt F) (Rect.unit (s := S2048x64) ![0, 0] S2048x64.size inb_S2048x64_S2048x64_0_0).toLoadRect (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) n).1)) = (final x0 x1 x2 x3 x4 x5 x6).1
      ∧ (arg17.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) n).2.1 ++ [(⟨Rect.unit (s := S2048x64) ![0, 0] S2048x64.size inb_S2048x64_S2048x64_0_0, k0_pay121⟩ : View.Piece (Elt F) S2048x64 .f32)]) (Rect.unit (s := S2048x64) ![0, 0] S2048x64.size inb_S2048x64_S2048x64_0_0).toLoadRect) = (final x0 x1 x2 x3 x4 x5 x6).2.1
      ∧ (arg18.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) n).2.2 ++ [(⟨Rect.unit (s := S2048x64) ![0, 0] S2048x64.size inb_S2048x64_S2048x64_0_0, k0_pay122⟩ : View.Piece (Elt F) S2048x64 .f32)]) (Rect.unit (s := S2048x64) ![0, 0] S2048x64.size inb_S2048x64_S2048x64_0_0).toLoadRect) = (final x0 x1 x2 x3 x4 x5 x6).2.2 := by
  subst hn
  obtain ⟨h1, h2, h3⟩ := pb_read (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) 4 (le_refl 4)
  rw [View.read_writes_full, View.read_writes_full, View.read_writes_full, View.read_writes_full] at h1 h2 h3
  rw [harg4.read_unread, harg5.read_unread, harg6.read_unread] at h1 h2 h3
  rw [ld4 arg2 harg2 x0, ld1 arg7 harg7 x5, ld4 arg3 harg3 x1, ld1 arg8 harg8 x6, blocks_final] at h1 h2 h3
  rw [ld4 arg2 harg2 x0, ld1 arg7 harg7 x5, ld4 arg3 harg3 x1, ld1 arg8 harg8 x6]
  unfold View.readCov
  rw [View.readAt_full, View.readAt_full, View.readAt_full, View.writes_append, View.writes_append]
  exact ⟨h1, h2, h3⟩

/-- At the first point the body leaves the model's queries' gradient. -/
theorem runA_9 (hc0 : cond i) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg9.view.ty) :
    arg9.view.read (Elt F) (arg9.view.writes (Elt F) f ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).1 f14 f15 f16 f17 f18))
      = out7 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runA
  show arg9.view.read (Elt F) (arg9.view.writes (Elt F) f [(⟨Rect.unit (s := S1x1x2048x64) ![0, 0, 0, 0] S1x1x2048x64.size inb_S1x1x2048x64_S1x1x2048x64_0_0_0_0, k0_pay131 (k0_pay113 (arg2.view.readAt (Elt F) (Rect.unit (s := S1x1x2048x64) ![0, 0, 0, 0] S1x1x2048x64.size inb_S1x1x2048x64_S1x1x2048x64_0_0_0_0).toLoadRect (harg2.unread x0))) (k0_pay114 (arg2.view.readAt (Elt F) (Rect.unit (s := S1x1x2048x64) ![0, 0, 0, 0] S1x1x2048x64.size inb_S1x1x2048x64_S1x1x2048x64_0_0_0_0).toLoadRect (harg2.unread x0))) (arg16.view.readAt (Elt F) (Rect.unit (s := S2048x64) ![0, 0] S2048x64.size inb_S2048x64_S2048x64_0_0).toLoadRect (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).1)) (arg7.view.readAt (Elt F) (Rect.unit (s := S1x64) ![0, 0] S1x64.size inb_S1x64_S1x64_0_0).toLoadRect (harg7.unread x5))⟩ : View.Piece (Elt F) S1x1x2048x64 .f32)]) = _
  rw [s1, View.read_writes_full]
  rw [ld4 arg2 harg2 x0, ld1 arg7 harg7 x5]
  rfl

/-- At the first point the body leaves the model's keys' gradient. -/
theorem runA_10 (hc0 : cond i) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg10.view.ty) :
    arg10.view.read (Elt F) (arg10.view.writes (Elt F) f ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).2.1 f14 f15 f16 f17 f18))
      = out8 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runA
  show arg10.view.read (Elt F) (arg10.view.writes (Elt F) f [(⟨Rect.unit (s := S1x1x2048x64) ![0, 0, 0, 0] S1x1x2048x64.size inb_S1x1x2048x64_S1x1x2048x64_0_0_0_0, k0_pay1 (k0_pay116 (arg3.view.readAt (Elt F) (Rect.unit (s := S1x1x2048x64) ![0, 0, 0, 0] S1x1x2048x64.size inb_S1x1x2048x64_S1x1x2048x64_0_0_0_0).toLoadRect (harg3.unread x1))) (k0_pay133 (k0_pay117 (arg3.view.readAt (Elt F) (Rect.unit (s := S1x1x2048x64) ![0, 0, 0, 0] S1x1x2048x64.size inb_S1x1x2048x64_S1x1x2048x64_0_0_0_0).toLoadRect (harg3.unread x1))) (arg17.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.1 ++ [(⟨Rect.unit (s := S2048x64) ![0, 0] S2048x64.size inb_S2048x64_S2048x64_0_0, k0_pay121⟩ : View.Piece (Elt F) S2048x64 .f32)]) (Rect.unit (s := S2048x64) ![0, 0] S2048x64.size inb_S2048x64_S2048x64_0_0).toLoadRect) (arg8.view.readAt (Elt F) (Rect.unit (s := S1x64) ![0, 0] S1x64.size inb_S1x64_S1x64_0_0).toLoadRect (harg8.unread x6)))⟩ : View.Piece (Elt F) S1x1x2048x64 .f32)]) = _
  rw [s2, View.read_writes_full]
  rw [ld4 arg3 harg3 x1, ld1 arg8 harg8 x6]
  rfl

/-- At the first point the body leaves the model's values' gradient. -/
theorem runA_11 (hc0 : cond i) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg11.view.ty) :
    arg11.view.read (Elt F) (arg11.view.writes (Elt F) f ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).2.2.1 f14 f15 f16 f17 f18))
      = out9 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runA
  show arg11.view.read (Elt F) (arg11.view.writes (Elt F) f [(⟨Rect.unit (s := S1x1x2048x64) ![0, 0, 0, 0] S1x1x2048x64.size inb_S1x1x2048x64_S1x1x2048x64_0_0_0_0, k0_pay2 (arg18.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.2 ++ [(⟨Rect.unit (s := S2048x64) ![0, 0] S2048x64.size inb_S2048x64_S2048x64_0_0, k0_pay122⟩ : View.Piece (Elt F) S2048x64 .f32)]) (Rect.unit (s := S2048x64) ![0, 0] S2048x64.size inb_S2048x64_S2048x64_0_0).toLoadRect)⟩ : View.Piece (Elt F) S1x1x2048x64 .f32)]) = _
  rw [s3, View.read_writes_full]

  rfl

/-- At the first point the body leaves the model's gradient of the queries' gain. -/
theorem runA_12 (hc0 : cond i) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg12.view.ty) :
    arg12.view.read (Elt F) (arg12.view.writes (Elt F) f ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).2.2.2.1 f14 f15 f16 f17 f18))
      = out10 x0 x1 x2 x3 x4 x5 x6 k0_pay128 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runA
  show arg12.view.read (Elt F) (arg12.view.writes (Elt F) f ((⟨Rect.unit (s := S1x64) ![0, 0] S1x64.size inb_S1x64_S1x64_0_0, k0_pay130 (k0_pay114 (arg2.view.readAt (Elt F) (Rect.unit (s := S1x1x2048x64) ![0, 0, 0, 0] S1x1x2048x64.size inb_S1x1x2048x64_S1x1x2048x64_0_0_0_0).toLoadRect (harg2.unread x0))) (arg16.view.readAt (Elt F) (Rect.unit (s := S2048x64) ![0, 0] S2048x64.size inb_S2048x64_S2048x64_0_0).toLoadRect (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).1)) (arg12.view.readCov [(⟨Rect.unit (s := S1x64) ![0, 0] S1x64.size inb_S1x64_S1x64_0_0, k0_pay128⟩ : View.Piece (Elt F) S1x64 .f32)] (Rect.unit (s := S1x64) ![0, 0] S1x64.size inb_S1x64_S1x64_0_0).toLoadRect)⟩ : View.Piece (Elt F) S1x64 .f32) :: [(⟨Rect.unit (s := S1x64) ![0, 0] S1x64.size inb_S1x64_S1x64_0_0, k0_pay128⟩ : View.Piece (Elt F) S1x64 .f32)])) = _
  rw [s1, View.read_writes_full]
  rw [ld4 arg2 harg2 x0, View.readCov_full]
  rfl

set_option maxHeartbeats 1000000 in
/-- At the first point the body leaves the model's gradient of the keys' gain. -/
theorem runA_13 (hc0 : cond i) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg13.view.ty) :
    arg13.view.read (Elt F) (arg13.view.writes (Elt F) f ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).2.2.2.2.1 f14 f15 f16 f17 f18))
      = out11 x0 x1 x2 x3 x4 x5 x6 k0_pay129 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runA
  show arg13.view.read (Elt F) (arg13.view.writes (Elt F) f ((⟨Rect.unit (s := S1x64) ![0, 0] S1x64.size inb_S1x64_S1x64_0_0, k0_pay132 (k0_pay117 (arg3.view.readAt (Elt F) (Rect.unit (s := S1x1x2048x64) ![0, 0, 0, 0] S1x1x2048x64.size inb_S1x1x2048x64_S1x1x2048x64_0_0_0_0).toLoadRect (harg3.unread x1))) (arg17.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.1 ++ [(⟨Rect.unit (s := S2048x64) ![0, 0] S2048x64.size inb_S2048x64_S2048x64_0_0, k0_pay121⟩ : View.Piece (Elt F) S2048x64 .f32)]) (Rect.unit (s := S2048x64) ![0, 0] S2048x64.size inb_S2048x64_S2048x64_0_0).toLoadRect) (arg13.view.readCov [(⟨Rect.unit (s := S1x64) ![0, 0] S1x64.size inb_S1x64_S1x64_0_0, k0_pay129⟩ : View.Piece (Elt F) S1x64 .f32)] (Rect.unit (s := S1x64) ![0, 0] S1x64.size inb_S1x64_S1x64_0_0).toLoadRect)⟩ : View.Piece (Elt F) S1x64 .f32) :: [(⟨Rect.unit (s := S1x64) ![0, 0] S1x64.size inb_S1x64_S1x64_0_0, k0_pay129⟩ : View.Piece (Elt F) S1x64 .f32)])) = _
  rw [s2, View.read_writes_full]
  rw [ld4 arg3 harg3 x1, View.readCov_full]
  rfl

/-- At a later point the body leaves the model's queries' gradient. -/
theorem runB_9 (hc0 : ¬cond i) (y12 y13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg9.view.ty) :
    arg9.view.read (Elt F) (arg9.view.writes (Elt F) f ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).1 f14 f15 f16 f17 f18))
      = out7 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runB
  show arg9.view.read (Elt F) (arg9.view.writes (Elt F) f [(⟨Rect.unit (s := S1x1x2048x64) ![0, 0, 0, 0] S1x1x2048x64.size inb_S1x1x2048x64_S1x1x2048x64_0_0_0_0, k0_pay131 (k0_pay113 (arg2.view.readAt (Elt F) (Rect.unit (s := S1x1x2048x64) ![0, 0, 0, 0] S1x1x2048x64.size inb_S1x1x2048x64_S1x1x2048x64_0_0_0_0).toLoadRect (harg2.unread x0))) (k0_pay114 (arg2.view.readAt (Elt F) (Rect.unit (s := S1x1x2048x64) ![0, 0, 0, 0] S1x1x2048x64.size inb_S1x1x2048x64_S1x1x2048x64_0_0_0_0).toLoadRect (harg2.unread x0))) (arg16.view.readAt (Elt F) (Rect.unit (s := S2048x64) ![0, 0] S2048x64.size inb_S2048x64_S2048x64_0_0).toLoadRect (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).1)) (arg7.view.readAt (Elt F) (Rect.unit (s := S1x64) ![0, 0] S1x64.size inb_S1x64_S1x64_0_0).toLoadRect (harg7.unread x5))⟩ : View.Piece (Elt F) S1x1x2048x64 .f32)]) = _
  rw [s1, View.read_writes_full]
  rw [ld4 arg2 harg2 x0, ld1 arg7 harg7 x5]
  rfl

/-- At a later point the body leaves the model's keys' gradient. -/
theorem runB_10 (hc0 : ¬cond i) (y12 y13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg10.view.ty) :
    arg10.view.read (Elt F) (arg10.view.writes (Elt F) f ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).2.1 f14 f15 f16 f17 f18))
      = out8 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runB
  show arg10.view.read (Elt F) (arg10.view.writes (Elt F) f [(⟨Rect.unit (s := S1x1x2048x64) ![0, 0, 0, 0] S1x1x2048x64.size inb_S1x1x2048x64_S1x1x2048x64_0_0_0_0, k0_pay1 (k0_pay116 (arg3.view.readAt (Elt F) (Rect.unit (s := S1x1x2048x64) ![0, 0, 0, 0] S1x1x2048x64.size inb_S1x1x2048x64_S1x1x2048x64_0_0_0_0).toLoadRect (harg3.unread x1))) (k0_pay133 (k0_pay117 (arg3.view.readAt (Elt F) (Rect.unit (s := S1x1x2048x64) ![0, 0, 0, 0] S1x1x2048x64.size inb_S1x1x2048x64_S1x1x2048x64_0_0_0_0).toLoadRect (harg3.unread x1))) (arg17.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.1 ++ [(⟨Rect.unit (s := S2048x64) ![0, 0] S2048x64.size inb_S2048x64_S2048x64_0_0, k0_pay121⟩ : View.Piece (Elt F) S2048x64 .f32)]) (Rect.unit (s := S2048x64) ![0, 0] S2048x64.size inb_S2048x64_S2048x64_0_0).toLoadRect) (arg8.view.readAt (Elt F) (Rect.unit (s := S1x64) ![0, 0] S1x64.size inb_S1x64_S1x64_0_0).toLoadRect (harg8.unread x6)))⟩ : View.Piece (Elt F) S1x1x2048x64 .f32)]) = _
  rw [s2, View.read_writes_full]
  rw [ld4 arg3 harg3 x1, ld1 arg8 harg8 x6]
  rfl

/-- At a later point the body leaves the model's values' gradient. -/
theorem runB_11 (hc0 : ¬cond i) (y12 y13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg11.view.ty) :
    arg11.view.read (Elt F) (arg11.view.writes (Elt F) f ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).2.2.1 f14 f15 f16 f17 f18))
      = out9 x0 x1 x2 x3 x4 x5 x6 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runB
  show arg11.view.read (Elt F) (arg11.view.writes (Elt F) f [(⟨Rect.unit (s := S1x1x2048x64) ![0, 0, 0, 0] S1x1x2048x64.size inb_S1x1x2048x64_S1x1x2048x64_0_0_0_0, k0_pay2 (arg18.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.2 ++ [(⟨Rect.unit (s := S2048x64) ![0, 0] S2048x64.size inb_S2048x64_S2048x64_0_0, k0_pay122⟩ : View.Piece (Elt F) S2048x64 .f32)]) (Rect.unit (s := S2048x64) ![0, 0] S2048x64.size inb_S2048x64_S2048x64_0_0).toLoadRect)⟩ : View.Piece (Elt F) S1x1x2048x64 .f32)]) = _
  rw [s3, View.read_writes_full]

  rfl

/-- At a later point the body leaves the model's gradient of the queries' gain. -/
theorem runB_12 (hc0 : ¬cond i) (y12 y13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg12.view.ty) :
    arg12.view.read (Elt F) (arg12.view.writes (Elt F) f ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).2.2.2.1 f14 f15 f16 f17 f18))
      = out10 x0 x1 x2 x3 x4 x5 x6 y12 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runB
  show arg12.view.read (Elt F) (arg12.view.writes (Elt F) f [(⟨Rect.unit (s := S1x64) ![0, 0] S1x64.size inb_S1x64_S1x64_0_0, k0_pay130 (k0_pay114 (arg2.view.readAt (Elt F) (Rect.unit (s := S1x1x2048x64) ![0, 0, 0, 0] S1x1x2048x64.size inb_S1x1x2048x64_S1x1x2048x64_0_0_0_0).toLoadRect (harg2.unread x0))) (arg16.view.readAt (Elt F) (Rect.unit (s := S2048x64) ![0, 0] S2048x64.size inb_S2048x64_S2048x64_0_0).toLoadRect (arg16.view.writes (Elt F) f16 (pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).1)) (arg12.view.readAt (Elt F) (Rect.unit (s := S1x64) ![0, 0] S1x64.size inb_S1x64_S1x64_0_0).toLoadRect (harg12.unread y12))⟩ : View.Piece (Elt F) S1x64 .f32)]) = _
  rw [s1, View.read_writes_full]
  rw [ld4 arg2 harg2 x0, ld1 arg12 harg12 y12]
  rfl

set_option maxHeartbeats 1000000 in
/-- At a later point the body leaves the model's gradient of the keys' gain. -/
theorem runB_13 (hc0 : ¬cond i) (y12 y13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f : BufTy.Contents (Elt F) arg13.view.ty) :
    arg13.view.read (Elt F) (arg13.view.writes (Elt F) f ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).2.2.2.2.1 f14 f15 f16 f17 f18))
      = out11 x0 x1 x2 x3 x4 x5 x6 y13 := by
  obtain ⟨s1, s2, s3⟩ := scratch (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 f16 k0_t1_loop.trips trips1
  unfold runB
  show arg13.view.read (Elt F) (arg13.view.writes (Elt F) f [(⟨Rect.unit (s := S1x64) ![0, 0] S1x64.size inb_S1x64_S1x64_0_0, k0_pay132 (k0_pay117 (arg3.view.readAt (Elt F) (Rect.unit (s := S1x1x2048x64) ![0, 0, 0, 0] S1x1x2048x64.size inb_S1x1x2048x64_S1x1x2048x64_0_0_0_0).toLoadRect (harg3.unread x1))) (arg17.view.readCov ((pb (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (k0_pay114 (arg2.view.readAt (Elt F) (Rect.unit (s := S1x1x2048x64) ![0, 0, 0, 0] S1x1x2048x64.size inb_S1x1x2048x64_S1x1x2048x64_0_0_0_0).toLoadRect (harg2.unread x0))) (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6))) (harg4.unread x2) (harg5.unread x3) (harg6.unread x4) (arg14.view.writes (Elt F) arg14.view.junk [(⟨Rect.unit (s := S2048x64) ![0, 0] S2048x64.size inb_S2048x64_S2048x64_0_0, k0_pay119 (arg2.view.readAt (Elt F) (Rect.unit (s := S1x1x2048x64) ![0, 0, 0, 0] S1x1x2048x64.size inb_S1x1x2048x64_S1x1x2048x64_0_0_0_0).toLoadRect (harg2.unread x0)) (arg7.view.readAt (Elt F) (Rect.unit (s := S1x64) ![0, 0] S1x64.size inb_S1x64_S1x64_0_0).toLoadRect (harg7.unread x5))⟩ : View.Piece (Elt F) S2048x64 .f32)]) (arg15.view.writes (Elt F) arg15.view.junk [(⟨Rect.unit (s := S2048x64) ![0, 0] S2048x64.size inb_S2048x64_S2048x64_0_0, k0_pay120 (k0_pay118 (arg3.view.readAt (Elt F) (Rect.unit (s := S1x1x2048x64) ![0, 0, 0, 0] S1x1x2048x64.size inb_S1x1x2048x64_S1x1x2048x64_0_0_0_0).toLoadRect (harg3.unread x1)) (arg8.view.readAt (Elt F) (Rect.unit (s := S1x64) ![0, 0] S1x64.size inb_S1x64_S1x64_0_0).toLoadRect (harg8.unread x6)))⟩ : View.Piece (Elt F) S2048x64 .f32)]) f16 (arg17.view.writes (Elt F) arg17.view.junk [(⟨Rect.unit (s := S2048x64) ![0, 0] S2048x64.size inb_S2048x64_S2048x64_0_0, k0_pay121⟩ : View.Piece (Elt F) S2048x64 .f32)]) (arg18.view.writes (Elt F) arg18.view.junk [(⟨Rect.unit (s := S2048x64) ![0, 0] S2048x64.size inb_S2048x64_S2048x64_0_0, k0_pay122⟩ : View.Piece (Elt F) S2048x64 .f32)]) k0_t1_loop.trips).2.1 ++ [(⟨Rect.unit (s := S2048x64) ![0, 0] S2048x64.size inb_S2048x64_S2048x64_0_0, k0_pay121⟩ : View.Piece (Elt F) S2048x64 .f32)]) (Rect.unit (s := S2048x64) ![0, 0] S2048x64.size inb_S2048x64_S2048x64_0_0).toLoadRect) (arg13.view.readAt (Elt F) (Rect.unit (s := S1x64) ![0, 0] S1x64.size inb_S1x64_S1x64_0_0).toLoadRect (harg13.unread y13))⟩ : View.Piece (Elt F) S1x64 .f32)]) = _
  rw [s2, View.read_writes_full]
  rw [ld4 arg3 harg3 x1, ld1 arg13 harg13 y13]
  rfl

end Cert.Proof.Stored

end
-- ==== Proof.Triple.lean ====
/-
  The triple of the body at one grid point: from the arrays it reads, the five outputs at the model's values.
-/
module

public import proofs.«01_k».proof.Proof.Stored

@[expose] public section

set_option maxRecDepth 16384

noncomputable section

namespace Cert.Proof.Triple

open Cert.KernelIdeal Cert.KernelIdeal.Gen Cert.Proof.Model Cert.Proof.Body Cert.Proof.Stored
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

variable (c : Dev nD) (i : grid0.Coords) (arg2 : Memref sig .tc .vmem S1x1x2048x64 .f32) (harg2 : arg2.IsWhole)
  (arg3 : Memref sig .tc .vmem S1x1x2048x64 .f32) (harg3 : arg3.IsWhole) (arg4 : Memref sig .tc .vmem S1x1x2048x64
  .f32) (harg4 : arg4.IsWhole) (arg5 : Memref sig .tc .vmem S1x1x2048x1 .f32) (harg5 : arg5.IsWhole) (arg6 : Memref
  sig .tc .vmem S1x1x2048x64 .f32) (harg6 : arg6.IsWhole) (arg7 : Memref sig .tc .vmem S1x64 .f32) (harg7 :
  arg7.IsWhole) (arg8 : Memref sig .tc .vmem S1x64 .f32) (harg8 : arg8.IsWhole) (arg9 : Memref sig .tc .vmem
  S1x1x2048x64 .f32) (harg9 : arg9.IsWhole) (arg10 : Memref sig .tc .vmem S1x1x2048x64 .f32) (harg10 :
  arg10.IsWhole) (arg11 : Memref sig .tc .vmem S1x1x2048x64 .f32) (harg11 : arg11.IsWhole) (arg12 : Memref sig .tc
  .vmem S1x64 .f32) (harg12 : arg12.IsWhole) (arg13 : Memref sig .tc .vmem S1x64 .f32) (harg13 : arg13.IsWhole)
  (arg14 : Memref sig .tc .vmem S2048x64 .f32) (harg14 : arg14.IsWhole) (arg15 : Memref sig .tc .vmem S2048x64
  .f32) (harg15 : arg15.IsWhole) (arg16 : Memref sig .tc .vmem S2048x64 .f32) (harg16 : arg16.IsWhole) (arg17 :
  Memref sig .tc .vmem S2048x64 .f32) (harg17 : arg17.IsWhole) (arg18 : Memref sig .tc .vmem S2048x64 .f32) (harg18
  : arg18.IsWhole) (x0 x1 x2 : Vec F S1x1x2048x64 .f32) (x3 : Vec F S1x1x2048x1 .f32) (x4 : Vec F S1x1x2048x64
  .f32) (x5 x6 : Vec F S1x64 .f32)

/-- The body at the first point, at any memrefs. -/
theorem bodyA (hc0 : cond i) (E : Set ℕ) (K : PUnit → sProp 𝕄) :
    iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      (∃ d, owns (c : Thread nD τ) arg12 fullShare d) ∗
      (∃ d, owns (c : Thread nD τ) arg13 fullShare d) ∗
      (∃ f, arg14.view.loc (c : Thread nD τ) ↦[arg14.view.set]{fullShare} f) ∗
      (∃ f, arg15.view.loc (c : Thread nD τ) ↦[arg15.view.set]{fullShare} f) ∗
      (∃ f, arg16.view.loc (c : Thread nD τ) ↦[arg16.view.set]{fullShare} f) ∗
      (∃ f, arg17.view.loc (c : Thread nD τ) ↦[arg17.view.set]{fullShare} f) ∗
      (∃ f, arg18.view.loc (c : Thread nD τ) ↦[arg18.view.set]{fullShare} f) ∗
      (iprop(owns (c : Thread nD τ) arg2 fullShare x0 ∗
        owns (c : Thread nD τ) arg3 fullShare x1 ∗
        owns (c : Thread nD τ) arg4 fullShare x2 ∗
        owns (c : Thread nD τ) arg5 fullShare x3 ∗
        owns (c : Thread nD τ) arg6 fullShare x4 ∗
        owns (c : Thread nD τ) arg7 fullShare x5 ∗
        owns (c : Thread nD τ) arg8 fullShare x6 ∗
        owns (c : Thread nD τ) arg9 fullShare (out7 x0 x1 x2 x3 x4 x5 x6) ∗
        owns (c : Thread nD τ) arg10 fullShare (out8 x0 x1 x2 x3 x4 x5 x6) ∗
        owns (c : Thread nD τ) arg11 fullShare (out9 x0 x1 x2 x3 x4 x5 x6) ∗
        owns (c : Thread nD τ) arg12 fullShare (out10 x0 x1 x2 x3 x4 x5 x6 k0_pay128) ∗
        owns (c : Thread nD τ) arg13 fullShare (out11 x0 x1 x2 x3 x4 x5 x6 k0_pay129) ∗
        (∃ f, arg14.view.loc (c : Thread nD τ) ↦[arg14.view.set]{fullShare} f) ∗
        (∃ f, arg15.view.loc (c : Thread nD τ) ↦[arg15.view.set]{fullShare} f) ∗
        (∃ f, arg16.view.loc (c : Thread nD τ) ↦[arg16.view.set]{fullShare} f) ∗
        (∃ f, arg17.view.loc (c : Thread nD τ) ↦[arg17.view.set]{fullShare} f) ∗
        (∃ f, arg18.view.loc (c : Thread nD τ) ↦[arg18.view.set]{fullShare} f)) -∗ K ⟨⟩))
    ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H3, H4, H5, H6, H7, H8, H9, H10, H11, H12, H13, ⟨%f14, H14⟩, ⟨%f15, H15⟩, ⟨%f16, H16⟩, ⟨%f17, H17⟩, ⟨%f18, H18⟩, Hk⟩
  iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6).2.2.2.2.2 E K f14 f15 f16 f17 f18)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, ⟨%e9, H9⟩, ⟨%e10, H10⟩, ⟨%e11, H11⟩, ⟨%e12, H12⟩, ⟨%e13, H13⟩, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact runA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 f14 f15 f16 f17 f18 e9
  isplitl [H10]
  · unfold owns; iexists _; isplitr
    swap; · iexact H10
    ipureintro; exact runA_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 f14 f15 f16 f17 f18 e10
  isplitl [H11]
  · unfold owns; iexists _; isplitr
    swap; · iexact H11
    ipureintro; exact runA_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 f14 f15 f16 f17 f18 e11
  isplitl [H12]
  · unfold owns; iexists _; isplitr
    swap; · iexact H12
    ipureintro; exact runA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 f14 f15 f16 f17 f18 e12
  isplitl [H13]
  · unfold owns; iexists _; isplitr
    swap; · iexact H13
    ipureintro; exact runA_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 f14 f15 f16 f17 f18 e13
  isplitl [H14]; · iexact H14
  isplitl [H15]; · iexact H15
  isplitl [H16]; · iexact H16
  isplitl [H17]; · iexact H17
  iexact H18

/-- The body at a later point, at any memrefs. -/
theorem bodyB (hc0 : ¬cond i) (y12 y13 : Vec F S1x64 .f32) (E : Set ℕ) (K : PUnit → sProp 𝕄) :
    iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      (∃ d, owns (c : Thread nD τ) arg9 fullShare d) ∗
      (∃ d, owns (c : Thread nD τ) arg10 fullShare d) ∗
      (∃ d, owns (c : Thread nD τ) arg11 fullShare d) ∗
      owns (c : Thread nD τ) arg12 fullShare y12 ∗
      owns (c : Thread nD τ) arg13 fullShare y13 ∗
      (∃ f, arg14.view.loc (c : Thread nD τ) ↦[arg14.view.set]{fullShare} f) ∗
      (∃ f, arg15.view.loc (c : Thread nD τ) ↦[arg15.view.set]{fullShare} f) ∗
      (∃ f, arg16.view.loc (c : Thread nD τ) ↦[arg16.view.set]{fullShare} f) ∗
      (∃ f, arg17.view.loc (c : Thread nD τ) ↦[arg17.view.set]{fullShare} f) ∗
      (∃ f, arg18.view.loc (c : Thread nD τ) ↦[arg18.view.set]{fullShare} f) ∗
      (iprop(owns (c : Thread nD τ) arg2 fullShare x0 ∗
        owns (c : Thread nD τ) arg3 fullShare x1 ∗
        owns (c : Thread nD τ) arg4 fullShare x2 ∗
        owns (c : Thread nD τ) arg5 fullShare x3 ∗
        owns (c : Thread nD τ) arg6 fullShare x4 ∗
        owns (c : Thread nD τ) arg7 fullShare x5 ∗
        owns (c : Thread nD τ) arg8 fullShare x6 ∗
        owns (c : Thread nD τ) arg9 fullShare (out7 x0 x1 x2 x3 x4 x5 x6) ∗
        owns (c : Thread nD τ) arg10 fullShare (out8 x0 x1 x2 x3 x4 x5 x6) ∗
        owns (c : Thread nD τ) arg11 fullShare (out9 x0 x1 x2 x3 x4 x5 x6) ∗
        owns (c : Thread nD τ) arg12 fullShare (out10 x0 x1 x2 x3 x4 x5 x6 y12) ∗
        owns (c : Thread nD τ) arg13 fullShare (out11 x0 x1 x2 x3 x4 x5 x6 y13) ∗
        (∃ f, arg14.view.loc (c : Thread nD τ) ↦[arg14.view.set]{fullShare} f) ∗
        (∃ f, arg15.view.loc (c : Thread nD τ) ↦[arg15.view.set]{fullShare} f) ∗
        (∃ f, arg16.view.loc (c : Thread nD τ) ↦[arg16.view.set]{fullShare} f) ∗
        (∃ f, arg17.view.loc (c : Thread nD τ) ↦[arg17.view.set]{fullShare} f) ∗
        (∃ f, arg18.view.loc (c : Thread nD τ) ↦[arg18.view.set]{fullShare} f)) -∗ K ⟨⟩))
    ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H2, H3, H4, H5, H6, H7, H8, H9, H10, H11, H12, H13, ⟨%f14, H14⟩, ⟨%f15, H15⟩, ⟨%f16, H16⟩, ⟨%f17, H17⟩, ⟨%f18, H18⟩, Hk⟩
  iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 y12 y13).2.2.2.2.2 E K f14 f15 f16 f17 f18)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, ⟨%e9, H9⟩, ⟨%e10, H10⟩, ⟨%e11, H11⟩, ⟨%e12, H12⟩, ⟨%e13, H13⟩, H14, H15, H16, H17, H18⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact runB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 y12 y13 f14 f15 f16 f17 f18 e9
  isplitl [H10]
  · unfold owns; iexists _; isplitr
    swap; · iexact H10
    ipureintro; exact runB_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 y12 y13 f14 f15 f16 f17 f18 e10
  isplitl [H11]
  · unfold owns; iexists _; isplitr
    swap; · iexact H11
    ipureintro; exact runB_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 y12 y13 f14 f15 f16 f17 f18 e11
  isplitl [H12]
  · unfold owns; iexists _; isplitr
    swap; · iexact H12
    ipureintro; exact runB_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 y12 y13 f14 f15 f16 f17 f18 e12
  isplitl [H13]
  · unfold owns; iexists _; isplitr
    swap; · iexact H13
    ipureintro; exact runB_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 hc0 y12 y13 f14 f15 f16 f17 f18 e13
  isplitl [H14]; · iexact H14
  isplitl [H15]; · iexact H15
  isplitl [H16]; · iexact H16
  isplitl [H17]; · iexact H17
  iexact H18

end Cert.Proof.Triple

end
-- ==== Proof.Launch.lean ====
/-
  The launch of the attention gradient: the proof data of its pipeline at the model's values, the body's obligation at a
  generic grid point, the run of the whole program, and the frame. Generic over the arithmetic.
-/
module

public import proofs.«01_k».proof.Proof.Triple
public import proofs.«01_k».proof.Proof.Gen.KernelIdeal.Frame
public import Idealize.ShloMosaic.Lib.Claim

@[expose] public section

set_option maxRecDepth 16384

noncomputable section

namespace Cert.Proof.Launch

open Cert.KernelIdeal Cert.KernelIdeal.Gen Cert.Proof.Model Cert.Proof.Body Cert.Proof.Triple
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ

variable (m : (ℓ : Loc nD τ sig) → Buf (Elt F) ℓ) (ρ : Dev nD → PrngReg)

/-- The branch is taken at the first point only. -/
theorem cond_iff : ∀ t : Fin cfg0.N, cond (grid0.coords t) ↔ t.val = 0 := by decide +kernel

/-- A head's row of the arrays, at the shapes the body reads. -/
abbrev b0 (c : Dev nD) (t : Fin cfg0.N) : Vec F S1x1x2048x64 .f32 := iblk m c 0 t
/-- The keys. -/
abbrev b1 (c : Dev nD) (t : Fin cfg0.N) : Vec F S1x1x2048x64 .f32 := iblk m c 1 t
/-- The values. -/
abbrev b2 (c : Dev nD) (t : Fin cfg0.N) : Vec F S1x1x2048x64 .f32 := iblk m c 2 t
/-- The row sums the forward pass saved. -/
abbrev b3 (c : Dev nD) (t : Fin cfg0.N) : Vec F S1x1x2048x1 .f32 := iblk m c 3 t
/-- The gradient of the output. -/
abbrev b4 (c : Dev nD) (t : Fin cfg0.N) : Vec F S1x1x2048x64 .f32 := iblk m c 4 t
/-- The queries' gain. -/
abbrev b5 (c : Dev nD) (t : Fin cfg0.N) : Vec F S1x64 .f32 := iblk m c 5 t
/-- The keys' gain. -/
abbrev b6 (c : Dev nD) (t : Fin cfg0.N) : Vec F S1x64 .f32 := iblk m c 6 t

/-- The gradient of the queries' gain over the first heads. -/
def gain10 (c : Dev nD) : (n : ℕ) → n ≤ cfg0.N → Vec F S1x64 .f32
  | 0, _ => k0_pay128
  | n + 1, h => out10 (b0 m c ⟨n, h⟩) (b1 m c ⟨n, h⟩) (b2 m c ⟨n, h⟩) (b3 m c ⟨n, h⟩) (b4 m c ⟨n, h⟩) (b5 m c ⟨n, h⟩) (b6 m c ⟨n, h⟩) (gain10 c n (Nat.le_of_succ_le h))

/-- The gradient of the keys' gain over the first heads. -/
def gain11 (c : Dev nD) : (n : ℕ) → n ≤ cfg0.N → Vec F S1x64 .f32
  | 0, _ => k0_pay129
  | n + 1, h => out11 (b0 m c ⟨n, h⟩) (b1 m c ⟨n, h⟩) (b2 m c ⟨n, h⟩) (b3 m c ⟨n, h⟩) (b4 m c ⟨n, h⟩) (b5 m c ⟨n, h⟩) (b6 m c ⟨n, h⟩) (gain11 c n (Nat.le_of_succ_le h))

/-- The proof data of the pipeline: the arrays as the region finds them, each input's buffer at its block after every
    point, the outputs' at the model's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (b0 m c t) (b1 m c t) (b2 m c t) (b3 m c t) (b4 m c t) (b5 m c t) (b6 m c t)
    | ⟨8, _⟩ => out8 (b0 m c t) (b1 m c t) (b2 m c t) (b3 m c t) (b4 m c t) (b5 m c t) (b6 m c t)
    | ⟨9, _⟩ => out9 (b0 m c t) (b1 m c t) (b2 m c t) (b3 m c t) (b4 m c t) (b5 m c t) (b6 m c t)
    | ⟨10, _⟩ => gain10 m c (t.val + 1) t.isLt
    | ⟨11, _⟩ => gain11 m c (t.val + 1) t.isLt
  Φ _ := Pipeline.ΦA spec0 c
  q _ := fullShare
  owed _ := 0

/-- The arrays of the proof data are the region's. -/
theorem A_eq (c : Dev nD) (w : Fin cfg0.W) : (dats m 0 c).A w = V m c (Pipeline.arrRef spec0 w) := by
  dsimp only [dats]

/-- Window 0 after the body. -/
theorem after_0 (c : Dev nD) (t : Fin cfg0.N) : (dats m 0 c).after 0 t = iblk m c 0 t := by
  dsimp only [dats]
/-- Window 1 after the body. -/
theorem after_1 (c : Dev nD) (t : Fin cfg0.N) : (dats m 0 c).after 1 t = iblk m c 1 t := by
  dsimp only [dats]
/-- Window 2 after the body. -/
theorem after_2 (c : Dev nD) (t : Fin cfg0.N) : (dats m 0 c).after 2 t = iblk m c 2 t := by
  dsimp only [dats]
/-- Window 3 after the body. -/
theorem after_3 (c : Dev nD) (t : Fin cfg0.N) : (dats m 0 c).after 3 t = iblk m c 3 t := by
  dsimp only [dats]
/-- Window 4 after the body. -/
theorem after_4 (c : Dev nD) (t : Fin cfg0.N) : (dats m 0 c).after 4 t = iblk m c 4 t := by
  dsimp only [dats]
/-- Window 5 after the body. -/
theorem after_5 (c : Dev nD) (t : Fin cfg0.N) : (dats m 0 c).after 5 t = iblk m c 5 t := by
  dsimp only [dats]
/-- Window 6 after the body. -/
theorem after_6 (c : Dev nD) (t : Fin cfg0.N) : (dats m 0 c).after 6 t = iblk m c 6 t := by
  dsimp only [dats]
/-- Window 7 after the body. -/
theorem after_7 (c : Dev nD) (t : Fin cfg0.N) : (dats m 0 c).after 7 t = out7 (b0 m c t) (b1 m c t) (b2 m c t) (b3 m c t) (b4 m c t) (b5 m c t) (b6 m c t) := by
  dsimp only [dats]
/-- Window 8 after the body. -/
theorem after_8 (c : Dev nD) (t : Fin cfg0.N) : (dats m 0 c).after 8 t = out8 (b0 m c t) (b1 m c t) (b2 m c t) (b3 m c t) (b4 m c t) (b5 m c t) (b6 m c t) := by
  dsimp only [dats]
/-- Window 9 after the body. -/
theorem after_9 (c : Dev nD) (t : Fin cfg0.N) : (dats m 0 c).after 9 t = out9 (b0 m c t) (b1 m c t) (b2 m c t) (b3 m c t) (b4 m c t) (b5 m c t) (b6 m c t) := by
  dsimp only [dats]
/-- Window 10 after the body. -/
theorem after_10 (c : Dev nD) (t : Fin cfg0.N) : (dats m 0 c).after 10 t = gain10 m c (t.val + 1) t.isLt := by
  dsimp only [dats]
/-- Window 11 after the body. -/
theorem after_11 (c : Dev nD) (t : Fin cfg0.N) : (dats m 0 c).after 11 t = gain11 m c (t.val + 1) t.isLt := by
  dsimp only [dats]

/-- Window 0 before the body: its block. -/
theorem before_0 (c : Dev nD) (t : Fin cfg0.N) (d) : (dats m 0 c).before 0 t d = iblk m c 0 t :=
  before0_0_of m (dats m 0 c) (A_eq m c 0) (after_0 m c) t d
/-- Window 1 before the body: its block. -/
theorem before_1 (c : Dev nD) (t : Fin cfg0.N) (d) : (dats m 0 c).before 1 t d = iblk m c 1 t :=
  before0_1_of m (dats m 0 c) (A_eq m c 1) (after_1 m c) t d
/-- Window 2 before the body: its block. -/
theorem before_2 (c : Dev nD) (t : Fin cfg0.N) (d) : (dats m 0 c).before 2 t d = iblk m c 2 t :=
  before0_2_of m (dats m 0 c) (A_eq m c 2) (after_2 m c) t d
/-- Window 3 before the body: its block. -/
theorem before_3 (c : Dev nD) (t : Fin cfg0.N) (d) : (dats m 0 c).before 3 t d = iblk m c 3 t :=
  before0_3_of m (dats m 0 c) (A_eq m c 3) (after_3 m c) t d
/-- Window 4 before the body: its block. -/
theorem before_4 (c : Dev nD) (t : Fin cfg0.N) (d) : (dats m 0 c).before 4 t d = iblk m c 4 t :=
  before0_4_of m (dats m 0 c) (A_eq m c 4) (after_4 m c) t d
/-- Window 5 before the body: its block. -/
theorem before_5 (c : Dev nD) (t : Fin cfg0.N) (d) : (dats m 0 c).before 5 t d = iblk m c 5 t :=
  before0_5_of m (dats m 0 c) (A_eq m c 5) (after_5 m c) t d
/-- Window 6 before the body: its block. -/
theorem before_6 (c : Dev nD) (t : Fin cfg0.N) (d) : (dats m 0 c).before 6 t d = iblk m c 6 t :=
  before0_6_of m (dats m 0 c) (A_eq m c 6) (after_6 m c) t d

/-- At a later point the gradient of the queries' gain is what the point before left. -/
theorem before_10 (c : Dev nD) (t : Fin cfg0.N) (h : t.val ≠ 0) (d) :
    (dats m 0 c).before 10 t d = gain10 m c t.val (Nat.le_of_lt t.isLt) := by
  have hN : t.val < 32 := lt_of_lt_of_eq t.isLt (show cfg0.N = 32 from N_0)
  rw [Dat.before_out_kept _ 10 rfl t h (Bool.eq_false_iff.mpr fun h => by
    have := (flush0_10 _).mp h; dsimp only at this; omega) (fun _ => rfl) (fun _ _ => rfl), after_10]
  congr 1
  exact Nat.sub_add_cancel (Nat.one_le_iff_ne_zero.mpr h)

/-- At a later point the gradient of the keys' gain is what the point before left. -/
theorem before_11 (c : Dev nD) (t : Fin cfg0.N) (h : t.val ≠ 0) (d) :
    (dats m 0 c).before 11 t d = gain11 m c t.val (Nat.le_of_lt t.isLt) := by
  have hN : t.val < 32 := lt_of_lt_of_eq t.isLt (show cfg0.N = 32 from N_0)
  rw [Dat.before_out_kept _ 11 rfl t h (Bool.eq_false_iff.mpr fun h => by
    have := (flush0_11 _).mp h; dsimp only at this; omega) (fun _ => rfl) (fun _ _ => rfl), after_11]
  congr 1
  exact Nat.sub_add_cancel (Nat.one_le_iff_ne_zero.mpr h)

/-- A scratch buffer, whole at some contents, as its memref holds it. -/
theorem scratch_whole (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [Memref.view_whole, View.set_whole]

/-- What the pipeline holds besides its windows: the five scratch buffers at anything, and the generator. -/
theorem rest_eq (c : Dev nD) :
    (Pipeline.ΦA spec0 c : sProp 𝕄) = iprop(iprop((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f)) ∗ (∃ r, prngReg c r)) := by
  unfold Pipeline.ΦA; rw [scopedRest0_eq]; simp only [scratch_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl, rest_eq,
    after_0, after_1, after_2, after_3, after_4, after_5, after_6, after_7, after_8, after_9, after_10, after_11]
  by_cases h0 : t.val = 0
  · obtain ⟨n, hn⟩ := t
    obtain rfl : n = 0 := h0
    iintro ⟨⟨⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyA (F := F) c (grid0.coords ⟨0, hn⟩) _ _ _ _ _ _ _ _ _ _ _ _ _ _ _ _ _ _ _ _ _ _ _ _ _ _ _ _ _ _ _ _ _ _ (b0 m c ⟨0, hn⟩) (b1 m c ⟨0, hn⟩) (b2 m c ⟨0, hn⟩) (b3 m c ⟨0, hn⟩) (b4 m c ⟨0, hn⟩) (b5 m c ⟨0, hn⟩) (b6 m c ⟨0, hn⟩) ((cond_iff _).mpr rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, HS0, HS1, HS2, HS3, HS4⟩
    isplitl [HS0 HS1 HS2 HS3 HS4 Hr]
    · isplitl [HS0 HS1 HS2 HS3 HS4]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before_10 m c t h0, before_11 m c t h0]
    iintro ⟨⟨⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyB (F := F) c (grid0.coords t) _ _ _ _ _ _ _ _ _ _ _ _ _ _ _ _ _ _ _ _ _ _ _ _ _ _ _ _ _ _ _ _ _ _ (b0 m c t) (b1 m c t) (b2 m c t) (b3 m c t) (b4 m c t) (b5 m c t) (b6 m c t) (fun h => h0 ((cond_iff t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, HS0, HS1, HS2, HS3, HS4⟩
    isplitl [HS0 HS1 HS2 HS3 HS4 Hr]
    · isplitl [HS0 HS1 HS2 HS3 HS4]
      · isplitl [HS0]; · iexact HS0
        isplitl [HS1]; · iexact HS1
        isplitl [HS2]; · iexact HS2
        isplitl [HS3]; · iexact HS3
        iexact HS4
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The obligation of the pipeline's body, at every point. -/
theorem body_obligation (c : Dev nD) : BodyObligation (dats (F := F) m 0 c) (defs₀ (F := F)) Variants.none () Set.univ :=
  fun t => by
    rw [bigSep_W0, bigSep_W0, defs₀_row]
    exact triple_restated (sound_body m c t) rfl .rfl fun _ => .rfl

set_option backward.isDefEq.respectTransparency.types false in
/-- The run of the whole program: every array of the pipeline ends at what the proof data says, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_quiet m ρ))

end Cert.Proof.Launch

end
-- ==== Proof.lean ====
/-
  The proof of the certificate's claims. The run of the attention gradient is proved once, over any arithmetic, in
  `Proof/Launch.lean`; the frames of the program over the bits and over the reals are two instances of it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Reference2Ideal.Run
public import proofs.«01_k».proof.Proof.FfnInDx
public import proofs.«01_k».proof.Proof.Gen.Kernel3.Frame
public import proofs.«01_k».proof.Proof.Gen.Reference3Ideal.Run
public import proofs.«01_k».proof.Proof.FfnInDw
public import proofs.«01_k».proof.Proof.Gen.Kernel4.Frame
public import proofs.«01_k».proof.Proof.Gen.Reference4Ideal.Run
public import proofs.«01_k».proof.Proof.FfnOutDx
public import proofs.«01_k».proof.Proof.Gen.Kernel5.Frame
public import proofs.«01_k».proof.Proof.Gen.Reference5Ideal.Run
public import proofs.«01_k».proof.Proof.FfnOutDw
public import proofs.«01_k».proof.Proof.Gen.Kernel6.Frame
public import proofs.«01_k».proof.Proof.Gen.Reference6Ideal.Run
public import proofs.«01_k».proof.Proof.FfnIn
public import proofs.«01_k».proof.Proof.Gen.Kernel7.Frame
public import proofs.«01_k».proof.Proof.Gen.Reference7Ideal.Run
public import proofs.«01_k».proof.Proof.FfnOut
public import proofs.«01_k».proof.Proof.Gen.Kernel8.Frame
public import proofs.«01_k».proof.Proof.Gen.Reference8Ideal.Run
public import proofs.«01_k».proof.Proof.QkvDx
public import proofs.«01_k».proof.Proof.Gen.Kernel9.Frame
public import proofs.«01_k».proof.Proof.Gen.Reference9Ideal.Run
public import proofs.«01_k».proof.Proof.QkvDw
public import proofs.«01_k».proof.Proof.Gen.Kernel10.Frame
public import proofs.«01_k».proof.Proof.Gen.Reference10Ideal.Run
public import proofs.«01_k».proof.Proof.OutDx
public import proofs.«01_k».proof.Proof.Gen.Kernel11.Frame
public import proofs.«01_k».proof.Proof.Gen.Reference11Ideal.Run
public import proofs.«01_k».proof.Proof.OutDw
public import proofs.«01_k».proof.Proof.Gen.Kernel12.Frame
public import proofs.«01_k».proof.Proof.Gen.Reference12Ideal.Run
public import proofs.«01_k».proof.Proof.Qkv
public import proofs.«01_k».proof.Proof.Gen.Kernel13.Frame
public import proofs.«01_k».proof.Proof.Gen.Reference13Ideal.Run
public import proofs.«01_k».proof.Proof.Out
public import proofs.«01_k».proof.Proof.Gen.Kernel14.Frame
public import proofs.«01_k».proof.Proof.Gen.Reference14Ideal.Run
public import proofs.«01_k».proof.Proof.RmsBwd
public import proofs.«01_k».proof.Proof.Gen.Kernel15.Frame
public import proofs.«01_k».proof.Proof.Gen.Reference15Ideal.Run
public import proofs.«01_k».proof.Proof.RmsFwd
public import proofs.«01_k».proof.Proof.Gen.Kernel16.Frame
public import proofs.«01_k».proof.Proof.Gen.Reference16Ideal.Run
public import proofs.«01_k».proof.Proof.GluFwd
public import proofs.«01_k».proof.Proof.Gen.Kernel17.Frame
public import proofs.«01_k».proof.Proof.Gen.Reference17Ideal.Run
public import proofs.«01_k».proof.Proof.LossHead
public import proofs.«01_k».proof.Proof.Gen.Kernel18.Frame
public import proofs.«01_k».proof.Proof.Gen.Reference18Ideal.Run
public import proofs.«01_k».proof.Proof.AdamVec
public import proofs.«01_k».proof.Proof.Gen.Kernel19.Frame
public import proofs.«01_k».proof.Proof.Gen.Reference19Ideal.Run
public import proofs.«01_k».proof.Proof.AdamMat
public import proofs.«01_k».proof.Proof.Gen.Kernel20.Frame
public import proofs.«01_k».proof.Proof.Gen.Reference20Ideal.Run
public import proofs.«01_k».proof.Proof.AdamS5
public import proofs.«01_k».proof.Proof.Gen.Kernel21.Frame
public import proofs.«01_k».proof.Proof.Gen.Reference21Ideal.Run
public import proofs.«01_k».proof.Proof.AdamLru
public import proofs.«01_k».proof.Proof.Gen.Kernel22.Frame
public import proofs.«01_k».proof.Proof.Gen.Reference22Ideal.Run
public import proofs.«01_k».proof.Proof.AdamQkv
public import proofs.«01_k».proof.Proof.Gen.Kernel23.Frame
public import proofs.«01_k».proof.Proof.Gen.Reference23Ideal.Run
public import proofs.«01_k».proof.Proof.AdamFfnIn
public import proofs.«01_k».proof.Proof.Gen.Kernel24.Frame
public import proofs.«01_k».proof.Proof.Gen.Reference24Ideal.Run
public import proofs.«01_k».proof.Proof.AdamFfnOut
public import proofs.«01_k».proof.Proof.Gen.Kernel25.Frame
public import proofs.«01_k».proof.Proof.Gen.Reference25Ideal.Run
public import proofs.«01_k».proof.Proof.AdamBias
public import proofs.«01_k».proof.Proof.Gen.Kernel26.Frame
public import proofs.«01_k».proof.Proof.Gen.Reference26Ideal.Run
public import proofs.«01_k».proof.Proof.AdamConv
public import proofs.«01_k».proof.Proof.Gen.Kernel27.Frame
public import proofs.«01_k».proof.Proof.Gen.Reference27Ideal.Run
public import proofs.«01_k».proof.Proof.AdamFfnConv
public import proofs.«01_k».proof.Proof.Launch
public import Idealize.ShloMosaic.Adequacy
public import Idealize.ShloMosaic.Init

@[expose] public section

set_option maxRecDepth 16384

noncomputable section

namespace Cert.Proof

open Idealize.ShloMosaic Idealize.ShloMosaic.Tactic Idealize.SL.Sem

/-- The frame of the attention gradient, stated of the text printed for the reals and read at the bits. -/
def FrameBits : Prop := ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The two programs have one text, so their frames over the bits are one statement. -/
theorem frame_same : Cert.quiescent_Kernel (hKernel := Cert.Kernel.Gen.facts) = FrameBits := by
  sl_kernel_rfl

/-- The program over the bits ends with its arguments unchanged and every counter at zero. -/
theorem frame_kernel : Cert.quiescent_Kernel (hKernel := Cert.Kernel.Gen.facts) :=
  frame_same.mpr fun m ρ _ => Cert.Proof.Launch.frame (F := Bits) m ρ

/-- The program over the reals ends with its arguments unchanged and every counter at zero. -/
theorem frame_ideal : Cert.quiescent_KernelIdeal (hKernelIdeal := Cert.KernelIdeal.Gen.facts) := fun m ρ _ =>
  Cert.Proof.Launch.frame (F := Ideal) m ρ

/-- The reference ends with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The reference of program 2 ends with its arguments unchanged and every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of program 3 ends with its arguments unchanged and every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of program 4 ends with its arguments unchanged and every counter at zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of program 5 ends with its arguments unchanged and every counter at zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of program 6 ends with its arguments unchanged and every counter at zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of program 7 ends with its arguments unchanged and every counter at zero. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of program 8 ends with its arguments unchanged and every counter at zero. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of program 9 ends with its arguments unchanged and every counter at zero. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference of program 10 ends with its arguments unchanged and every counter at zero. -/
theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference of program 11 ends with its arguments unchanged and every counter at zero. -/
theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of program 12 ends with its arguments unchanged and every counter at zero. -/
theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of program 13 ends with its arguments unchanged and every counter at zero. -/
theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference of program 14 ends with its arguments unchanged and every counter at zero. -/
theorem frame_reference14 : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- The reference of program 15 ends with its arguments unchanged and every counter at zero. -/
theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- The reference of program 16 ends with its arguments unchanged and every counter at zero. -/
theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- The reference of program 17 ends with its arguments unchanged and every counter at zero. -/
theorem frame_reference17 : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The reference of program 18 ends with its arguments unchanged and every counter at zero. -/
theorem frame_reference18 : Cert.quiescent_Reference18Ideal (hReference18Ideal := Cert.Reference18Ideal.Gen.facts) := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The reference of program 19 ends with its arguments unchanged and every counter at zero. -/
theorem frame_reference19 : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The reference of program 20 ends with its arguments unchanged and every counter at zero. -/
theorem frame_reference20 : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The reference of program 21 ends with its arguments unchanged and every counter at zero. -/
theorem frame_reference21 : Cert.quiescent_Reference21Ideal (hReference21Ideal := Cert.Reference21Ideal.Gen.facts) := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The reference of program 22 ends with its arguments unchanged and every counter at zero. -/
theorem frame_reference22 : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The reference of program 23 ends with its arguments unchanged and every counter at zero. -/
theorem frame_reference23 : Cert.quiescent_Reference23Ideal (hReference23Ideal := Cert.Reference23Ideal.Gen.facts) := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The reference of program 24 ends with its arguments unchanged and every counter at zero. -/
theorem frame_reference24 : Cert.quiescent_Reference24Ideal (hReference24Ideal := Cert.Reference24Ideal.Gen.facts) := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

/-- The reference of program 25 ends with its arguments unchanged and every counter at zero. -/
theorem frame_reference25 : Cert.quiescent_Reference25Ideal (hReference25Ideal := Cert.Reference25Ideal.Gen.facts) := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

/-- The reference of program 26 ends with its arguments unchanged and every counter at zero. -/
theorem frame_reference26 : Cert.quiescent_Reference26Ideal (hReference26Ideal := Cert.Reference26Ideal.Gen.facts) := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

/-- The reference of program 27 ends with its arguments unchanged and every counter at zero. -/
theorem frame_reference27 : Cert.quiescent_Reference27Ideal (hReference27Ideal := Cert.Reference27Ideal.Gen.facts) := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  frame_kernel, frame_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  trivial, trivial, FfnInDx.equal, trivial, FfnInDw.equal, trivial, FfnOutDx.equal, trivial, FfnOutDw.equal, trivial, FfnIn.equal, trivial, FfnOut.equal, trivial, QkvDx.equal, trivial, QkvDw.equal, trivial, OutDx.equal, trivial, OutDw.equal, trivial, Qkv.equal, trivial, Out.equal, trivial, RmsBwd.equal, trivial, RmsFwd.equal, trivial, GluFwd.equal, trivial, LossHead.equal, trivial, AdamVec.equal, trivial, AdamMat.equal, trivial, AdamS5.equal, trivial, AdamLru.equal, trivial, AdamQkv.equal, trivial, AdamFfnIn.equal, trivial, AdamFfnOut.equal, trivial, AdamBias.equal, trivial, AdamConv.equal, trivial, AdamFfnConv.equal⟩

end Cert.Proof

end
